-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_alleles [hPre_alleles : Cert.Pre_alleles.Facts] (m : (ℓ : Loc Cert.KernelIdeal.nD Cert.KernelIdeal.τ Cert.KernelIdeal.sig) → Buf (Elt Ideal) ℓ) : Prop :=
  ∀ c : Dev Cert.KernelIdeal.nD,
    (Cert.Pre_alleles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_alleles [hPre_alleles : Cert.Pre_alleles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_alleles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_alleles [hKernelIdeal : Cert.KernelIdeal.Facts] [hPre_alleles : Cert.Pre_alleles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_alleles m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_alleles [hReferenceIdeal : Cert.ReferenceIdeal.Facts] [hPre_alleles : Cert.Pre_alleles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_alleles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_alleles [hKernelIdeal : Cert.KernelIdeal.Facts] [hReferenceIdeal : Cert.ReferenceIdeal.Facts] [hPre_alleles : Cert.Pre_alleles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_alleles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_alleles : Cert.Pre_alleles.Facts),
    quiescent_Kernel (hKernel := hKernel)
    ∧ quiescent_KernelIdeal (hKernelIdeal := hKernelIdeal)
    ∧ quiescent_KernelIdeal_pre_alleles (hKernelIdeal := hKernelIdeal) (hPre_alleles := hPre_alleles)
    ∧ quiescent_ReferenceIdeal (hReferenceIdeal := hReferenceIdeal)
    ∧ quiescent_ReferenceIdeal_pre_alleles (hReferenceIdeal := hReferenceIdeal) (hPre_alleles := hPre_alleles)
    ∧ preserves_Kernel_KernelIdeal
    ∧ algebraic_KernelIdeal_ReferenceIdeal_pre_alleles (hKernelIdeal := hKernelIdeal) (hReferenceIdeal := hReferenceIdeal) (hPre_alleles := hPre_alleles)
-- ==== Pre_alleles.lean ====
abbrev S8x30x9000 : Shape := ⟨3, ![8, 30, 9000]⟩
abbrev S8x9000 : Shape := ⟨2, ![8, 9000]⟩
abbrev S10x8 : Shape := ⟨2, ![10, 8]⟩
abbrev S10 : Shape := ⟨1, ![10]⟩
abbrev S10x10 : Shape := ⟨2, ![10, 10]⟩
abbrev S1x10 : Shape := ⟨2, ![1, 10]⟩
abbrev S1 : Shape := ⟨1, ![1]⟩
abbrev S15x30 : Shape := ⟨2, ![15, 30]⟩
abbrev S15 : Shape := ⟨1, ![15]⟩
abbrev S15x15 : Shape := ⟨2, ![15, 15]⟩
abbrev S1x15 : Shape := ⟨2, ![1, 15]⟩
abbrev S_ : Shape := ⟨0, ![]⟩

class Facts : Prop where
  bcast_S_S8x30x9000 : S_.BroadcastsInDim S8x30x9000 (![] : Fin 0 → Fin S8x30x9000.rank)
  reducesTo_S8x30x9000_S_d0_1_2 : S8x30x9000.ReducesTo [0, 1, 2] S_
  h_S_ : 0 < S_.numel
  bcast_S_S8x9000 : S_.BroadcastsInDim S8x9000 (![] : Fin 0 → Fin S8x9000.rank)
  reducesTo_S8x9000_S_d0_1 : S8x9000.ReducesTo [0, 1] S_

variable [Facts]

def fn {F : FTy → Type} [FloatOps F] (main_arg0 : IVec S8x30x9000 32) (main_arg1 : IVec S8x9000 32) (main_arg2 : FVec F S10x8 .f32) (main_arg3 : FVec F S10 .f32) (main_arg4 : FVec F S10x10 .f32) (main_arg5 : FVec F S10 .f32) (main_arg6 : FVec F S10x10 .f32) (main_arg7 : FVec F S10 .f32) (main_arg8 : FVec F S1x10 .f32) (main_arg9 : FVec F S1 .f32) (main_arg10 : FVec F S15x30 .f32) (main_arg11 : FVec F S15 .f32) (main_arg12 : FVec F S15x15 .f32) (main_arg13 : FVec F S15 .f32) (main_arg14 : FVec F S15x15 .f32) (main_arg15 : FVec F S15 .f32) (main_arg16 : FVec F S1x15 .f32) (main_arg17 : FVec F S1 .f32) : IVec S_ 1 :=
  let main_c : IVec S_ 32 := constantI S_ 32 0#32
  let main_v0 : IVec S8x30x9000 32 := broadcastInDim S8x30x9000 ![] bcast_S_S8x30x9000 main_c
  let main_v1 : IVec S8x30x9000 1 := cmpi .sge main_arg0 main_v0
  let main_c_0 : IVec S_ 32 := constantI S_ 32 4#32
  let main_v2 : IVec S8x30x9000 32 := broadcastInDim S8x30x9000 ![] bcast_S_S8x30x9000 main_c_0
  let main_v3 : IVec S8x30x9000 1 := cmpi .slt main_arg0 main_v2
  let main_v4 : IVec S8x30x9000 1 := andi main_v1 main_v3
  let main_c_1 : IVec S_ 1 := constantI S_ 1 1#1
  let main_v5 : IVec S_ 1 := (fun x v => Host.reduce IntOp.andi x v reducesTo_S8x30x9000_S_d0_1_2 h_S_) main_v4 main_c_1
  let main_c_2 : IVec S_ 32 := constantI S_ 32 0#32
  let main_v6 : IVec S8x9000 32 := broadcastInDim S8x9000 ![] bcast_S_S8x9000 main_c_2
  let main_v7 : IVec S8x9000 1 := cmpi .sge main_arg1 main_v6
  let main_c_3 : IVec S_ 32 := constantI S_ 32 4#32
  let main_v8 : IVec S8x9000 32 := broadcastInDim S8x9000 ![] bcast_S_S8x9000 main_c_3
  let main_v9 : IVec S8x9000 1 := cmpi .slt main_arg1 main_v8
  let main_v10 : IVec S8x9000 1 := andi main_v7 main_v9
  let main_c_4 : IVec S_ 1 := constantI S_ 1 1#1
  let main_v11 : IVec S_ 1 := (fun x v => Host.reduce IntOp.andi x v reducesTo_S8x9000_S_d0_1 h_S_) main_v10 main_c_4
  let main_v12 : IVec S_ 1 := andi main_v5 main_v11
  main_v12
-- ==== Kernel.lean ====
abbrev S8x30x9000 : Shape := ⟨3, ![8, 30, 9000]⟩
abbrev S8x9000 : Shape := ⟨2, ![8, 9000]⟩
abbrev S10x8 : Shape := ⟨2, ![10, 8]⟩
abbrev S10 : Shape := ⟨1, ![10]⟩
abbrev S10x10 : Shape := ⟨2, ![10, 10]⟩
abbrev S1x10 : Shape := ⟨2, ![1, 10]⟩
abbrev S1 : Shape := ⟨1, ![1]⟩
abbrev S15x30 : Shape := ⟨2, ![15, 30]⟩
abbrev S15 : Shape := ⟨1, ![15]⟩
abbrev S15x15 : Shape := ⟨2, ![15, 15]⟩
abbrev S1x15 : Shape := ⟨2, ![1, 15]⟩
abbrev S8x1x9000 : Shape := ⟨3, ![8, 1, 9000]⟩
abbrev S10x4 : Shape := ⟨2, ![10, 4]⟩
abbrev S10x1 : Shape := ⟨2, ![10, 1]⟩
abbrev S1x1 : Shape := ⟨2, ![1, 1]⟩
abbrev S15x1 : Shape := ⟨2, ![15, 1]⟩
abbrev S1x30x9000 : Shape := ⟨3, ![1, 30, 9000]⟩
abbrev S1x1x9000 : Shape := ⟨3, ![1, 1, 9000]⟩
abbrev S30x9000 : Shape := ⟨2, ![30, 9000]⟩
abbrev S1x9000 : Shape := ⟨2, ![1, 9000]⟩
abbrev S1x30 : Shape := ⟨2, ![1, 30]⟩
abbrev S30 : Shape := ⟨1, ![30]⟩
abbrev S30x1 : Shape := ⟨2, ![30, 1]⟩
abbrev S31x1 : Shape := ⟨2, ![31, 1]⟩
abbrev S31x9000 : Shape := ⟨2, ![31, 9000]⟩
abbrev S31 : Shape := ⟨1, ![31]⟩
abbrev S1x31x1 : Shape := ⟨3, ![1, 31, 1]⟩
abbrev S1x1x1 : Shape := ⟨3, ![1, 1, 1]⟩
abbrev S2x9000 : Shape := ⟨2, ![2, 9000]⟩
abbrev S2x1 : Shape := ⟨2, ![2, 1]⟩
abbrev S2x8999 : Shape := ⟨2, ![2, 8999]⟩
abbrev S2x2 : Shape := ⟨2, ![2, 2]⟩
abbrev S2x8998 : Shape := ⟨2, ![2, 8998]⟩
abbrev S2x4 : Shape := ⟨2, ![2, 4]⟩
abbrev S2x8996 : Shape := ⟨2, ![2, 8996]⟩
abbrev S2x8 : Shape := ⟨2, ![2, 8]⟩
abbrev S2x8992 : Shape := ⟨2, ![2, 8992]⟩
abbrev S2x16 : Shape := ⟨2, ![2, 16]⟩
abbrev S2x8984 : Shape := ⟨2, ![2, 8984]⟩
abbrev S2x32 : Shape := ⟨2, ![2, 32]⟩
abbrev S2x8968 : Shape := ⟨2, ![2, 8968]⟩
abbrev S2x64 : Shape := ⟨2, ![2, 64]⟩
abbrev S2x8936 : Shape := ⟨2, ![2, 8936]⟩
abbrev S2x128 : Shape := ⟨2, ![2, 128]⟩
abbrev S2x8872 : Shape := ⟨2, ![2, 8872]⟩
abbrev S2x256 : Shape := ⟨2, ![2, 256]⟩
abbrev S2x8744 : Shape := ⟨2, ![2, 8744]⟩
abbrev S2x512 : Shape := ⟨2, ![2, 512]⟩
abbrev S2x8488 : Shape := ⟨2, ![2, 8488]⟩
abbrev S2x1024 : Shape := ⟨2, ![2, 1024]⟩
abbrev S2x7976 : Shape := ⟨2, ![2, 7976]⟩
abbrev S2x2048 : Shape := ⟨2, ![2, 2048]⟩
abbrev S2x6952 : Shape := ⟨2, ![2, 6952]⟩
abbrev S2x4096 : Shape := ⟨2, ![2, 4096]⟩
abbrev S2x4904 : Shape := ⟨2, ![2, 4904]⟩
abbrev S2x8192 : Shape := ⟨2, ![2, 8192]⟩
abbrev S2x808 : Shape := ⟨2, ![2, 808]⟩
abbrev S30x30 : Shape := ⟨2, ![30, 30]⟩
abbrev S3x30 : Shape := ⟨2, ![3, 30]⟩
abbrev S3x9000 : Shape := ⟨2, ![3, 9000]⟩
abbrev S4x9000 : Shape := ⟨2, ![4, 9000]⟩
abbrev S4x30 : Shape := ⟨2, ![4, 30]⟩
abbrev S10x30 : Shape := ⟨2, ![10, 30]⟩
abbrev S10x9000 : Shape := ⟨2, ![10, 9000]⟩
abbrev S30x2304 : Shape := ⟨2, ![30, 2304]⟩
abbrev S1x2304 : Shape := ⟨2, ![1, 2304]⟩
abbrev S10x2304 : Shape := ⟨2, ![10, 2304]⟩
abbrev S10x69120 : Shape := ⟨2, ![10, 69120]⟩
abbrev S1x69120 : Shape := ⟨2, ![1, 69120]⟩
abbrev S1x30x2304 : Shape := ⟨3, ![1, 30, 2304]⟩
abbrev S30x9216 : Shape := ⟨2, ![30, 9216]⟩
abbrev S15x9216 : Shape := ⟨2, ![15, 9216]⟩
abbrev S1x9216 : Shape := ⟨2, ![1, 9216]⟩
abbrev S4x2304 : Shape := ⟨2, ![4, 2304]⟩
abbrev S2304 : Shape := ⟨1, ![2304]⟩
abbrev S1x4x2304 : Shape := ⟨3, ![1, 4, 2304]⟩
abbrev S30x2088 : Shape := ⟨2, ![30, 2088]⟩
abbrev S1x2088 : Shape := ⟨2, ![1, 2088]⟩
abbrev S10x2088 : Shape := ⟨2, ![10, 2088]⟩
abbrev S10x62640 : Shape := ⟨2, ![10, 62640]⟩
abbrev S1x62640 : Shape := ⟨2, ![1, 62640]⟩
abbrev S1x30x2088 : Shape := ⟨3, ![1, 30, 2088]⟩
abbrev S30x8352 : Shape := ⟨2, ![30, 8352]⟩
abbrev S15x8352 : Shape := ⟨2, ![15, 8352]⟩
abbrev S1x8352 : Shape := ⟨2, ![1, 8352]⟩
abbrev S4x2088 : Shape := ⟨2, ![4, 2088]⟩
abbrev S2088 : Shape := ⟨1, ![2088]⟩
abbrev S1x4x2088 : Shape := ⟨3, ![1, 4, 2088]⟩

abbrev nBuf : Space → Nat
  | .hbm => 31
  | .vmem => 23
  | .smem => 0
  | _ => 0

abbrev bufTy : (tb : Table) → Fin (tcTables nBuf tb) → BufTy
  | .hbm, ⟨0, _⟩ => ⟨S8x30x9000, .i32⟩
  | .hbm, ⟨1, _⟩ => ⟨S8x9000, .i32⟩
  | .hbm, ⟨2, _⟩ => ⟨S10x8, .f32⟩
  | .hbm, ⟨3, _⟩ => ⟨S10, .f32⟩
  | .hbm, ⟨4, _⟩ => ⟨S10x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S1x10, .f32⟩
  | .hbm, ⟨9, _⟩ => ⟨S1, .f32⟩
  | .hbm, ⟨10, _⟩ => ⟨S15x30, .f32⟩
  | .hbm, ⟨11, _⟩ => ⟨S15, .f32⟩
  | .hbm, ⟨12, _⟩ => ⟨S15x15, .f32⟩
  | .hbm, ⟨13, _⟩ => ⟨S15, .f32⟩
  | .hbm, ⟨14, _⟩ => ⟨S15x15, .f32⟩
  | .hbm, ⟨15, _⟩ => ⟨S15, .f32⟩
  | .hbm, ⟨16, _⟩ => ⟨S1x15, .f32⟩
  | .hbm, ⟨17, _⟩ => ⟨S1, .f32⟩
  | .hbm, ⟨18, _⟩ => ⟨S8x1x9000, .i32⟩
  | .hbm, ⟨19, _⟩ => ⟨S10x4, .f32⟩
  | .hbm, ⟨20, _⟩ => ⟨S10x4, .f32⟩
  | .hbm, ⟨21, _⟩ => ⟨S10x1, .f32⟩
  | .hbm, ⟨22, _⟩ => ⟨S10x1, .f32⟩
  | .hbm, ⟨23, _⟩ => ⟨S10x1, .f32⟩
  | .hbm, ⟨24, _⟩ => ⟨S1x1, .f32⟩
  | .hbm, ⟨25, _⟩ => ⟨S15x1, .f32⟩
  | .hbm, ⟨26, _⟩ => ⟨S15x1, .f32⟩
  | .hbm, ⟨27, _⟩ => ⟨S15x1, .f32⟩
  | .hbm, ⟨28, _⟩ => ⟨S1x1, .f32⟩
  | .hbm, ⟨29, _⟩ => ⟨S1x1, .f32⟩
  | .hbm, ⟨30, _⟩ => ⟨S1x1, .f32⟩
  | .local _ .vmem, ⟨0, _⟩ => ⟨S1x30x9000, .i32⟩
  | .local _ .vmem, ⟨1, _⟩ => ⟨S1x30x9000, .i32⟩
  | .local _ .vmem, ⟨2, _⟩ => ⟨S1x1x9000, .i32⟩
  | .local _ .vmem, ⟨3, _⟩ => ⟨S1x1x9000, .i32⟩
  | .local _ .vmem, ⟨4, _⟩ => ⟨S10x4, .f32⟩
  | .local _ .vmem, ⟨5, _⟩ => ⟨S10x4, .f32⟩
  | .local _ .vmem, ⟨6, _⟩ => ⟨S10x1, .f32⟩
  | .local _ .vmem, ⟨7, _⟩ => ⟨S10x10, .f32⟩
  | .local _ .vmem, ⟨8, _⟩ => ⟨S10x1, .f32⟩
  | .local _ .vmem, ⟨9, _⟩ => ⟨S10x10, .f32⟩
  | .local _ .vmem, ⟨10, _⟩ => ⟨S10x1, .f32⟩
  | .local _ .vmem, ⟨11, _⟩ => ⟨S1x10, .f32⟩
  | .local _ .vmem, ⟨12, _⟩ => ⟨S1x1, .f32⟩
  | .local _ .vmem, ⟨13, _⟩ => ⟨S15x30, .f32⟩
  | .local _ .vmem, ⟨14, _⟩ => ⟨S15x1, .f32⟩
  | .local _ .vmem, ⟨15, _⟩ => ⟨S15x15, .f32⟩
  | .local _ .vmem, ⟨16, _⟩ => ⟨S15x1, .f32⟩
  | .local _ .vmem, ⟨17, _⟩ => ⟨S15x15, .f32⟩
  | .local _ .vmem, ⟨18, _⟩ => ⟨S15x1, .f32⟩
  | .local _ .vmem, ⟨19, _⟩ => ⟨S1x15, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | _, _ => ⟨S8x30x9000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x30x9000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S15x30 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S15x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S15x15 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S15x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S15x15 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S15x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x15 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8x30x9000 : Shape := ⟨3, ![8, 30, 9000]⟩
abbrev S8x9000 : Shape := ⟨2, ![8, 9000]⟩
abbrev S10x8 : Shape := ⟨2, ![10, 8]⟩
abbrev S10 : Shape := ⟨1, ![10]⟩
abbrev S10x10 : Shape := ⟨2, ![10, 10]⟩
abbrev S1x10 : Shape := ⟨2, ![1, 10]⟩
abbrev S1 : Shape := ⟨1, ![1]⟩
abbrev S15x30 : Shape := ⟨2, ![15, 30]⟩
abbrev S15 : Shape := ⟨1, ![15]⟩
abbrev S15x15 : Shape := ⟨2, ![15, 15]⟩
abbrev S1x15 : Shape := ⟨2, ![1, 15]⟩
abbrev S8x30x9000x1 : Shape := ⟨4, ![8, 30, 9000, 1]⟩
abbrev S4 : Shape := ⟨1, ![4]⟩
abbrev S1x1x1x4 : Shape := ⟨4, ![1, 1, 1, 4]⟩
abbrev S8x30x9000x4 : Shape := ⟨4, ![8, 30, 9000, 4]⟩
abbrev S_ : Shape := ⟨0, ![]⟩
abbrev S8x9000x4 : Shape := ⟨3, ![8, 9000, 4]⟩
abbrev S8x1x9000 : Shape := ⟨3, ![8, 1, 9000]⟩
abbrev S8x30 : Shape := ⟨2, ![8, 30]⟩
abbrev S8x9000x1 : Shape := ⟨3, ![8, 9000, 1]⟩
abbrev S1x1x1 : Shape := ⟨3, ![1, 1, 1]⟩
abbrev S8x30x3x3000 : Shape := ⟨4, ![8, 30, 3, 3000]⟩
abbrev S8x30x3 : Shape := ⟨3, ![8, 30, 3]⟩
abbrev S8x30x1 : Shape := ⟨3, ![8, 30, 1]⟩
abbrev S8x3x10x9000 : Shape := ⟨4, ![8, 3, 10, 9000]⟩
abbrev S8x3x9000 : Shape := ⟨3, ![8, 3, 9000]⟩
abbrev S8x9000x3 : Shape := ⟨3, ![8, 9000, 3]⟩
abbrev S8x30x4 : Shape := ⟨3, ![8, 30, 4]⟩
abbrev S8x30x1x4 : Shape := ⟨4, ![8, 30, 1, 4]⟩
abbrev S8x1x9000x4 : Shape := ⟨4, ![8, 1, 9000, 4]⟩
abbrev S8x30x9000x8 : Shape := ⟨4, ![8, 30, 9000, 8]⟩
abbrev S8x270000x8 : Shape := ⟨3, ![8, 270000, 8]⟩
abbrev S8x10 : Shape := ⟨2, ![8, 10]⟩
abbrev S8x270000x10 : Shape := ⟨3, ![8, 270000, 10]⟩
abbrev S1x1x10 : Shape := ⟨3, ![1, 1, 10]⟩
abbrev S10x1 : Shape := ⟨2, ![10, 1]⟩
abbrev S8x270000x1 : Shape := ⟨3, ![8, 270000, 1]⟩
abbrev S8x270000 : Shape := ⟨2, ![8, 270000]⟩
abbrev S8x9000x30 : Shape := ⟨3, ![8, 9000, 30]⟩
abbrev S8x9000x1x30 : Shape := ⟨4, ![8, 9000, 1, 30]⟩
abbrev S1x1x4x1 : Shape := ⟨4, ![1, 1, 4, 1]⟩
abbrev S8x9000x4x30 : Shape := ⟨4, ![8, 9000, 4, 30]⟩
abbrev S288000x30 : Shape := ⟨2, ![288000, 30]⟩
abbrev S30x15 : Shape := ⟨2, ![30, 15]⟩
abbrev S288000x15 : Shape := ⟨2, ![288000, 15]⟩
abbrev S15x1 : Shape := ⟨2, ![15, 1]⟩
abbrev S288000x1 : Shape := ⟨2, ![288000, 1]⟩
abbrev S1x1 : Shape := ⟨2, ![1, 1]⟩
abbrev S72000x4 : Shape := ⟨2, ![72000, 4]⟩
abbrev S72000 : Shape := ⟨1, ![72000]⟩
abbrev S72000x1 : Shape := ⟨2, ![72000, 1]⟩
abbrev S72000x1x1 : Shape := ⟨3, ![72000, 1, 1]⟩

abbrev nBuf : Space → Nat
  | .hbm => 292
  | .vmem => 0
  | .smem => 0
  | _ => 0

abbrev hbmTy0_0 (i : Nat) : BufTy := match i % 128 with
  | 0 => ⟨S8x30x9000, .i32⟩
  | 1 => ⟨S8x9000, .i32⟩
  | 2 => ⟨S10x8, .f32⟩
  | 3 => ⟨S10, .f32⟩
  | 4 => ⟨S10x10, .f32⟩
  | 5 => ⟨S10, .f32⟩
  | 6 => ⟨S10x10, .f32⟩
  | 7 => ⟨S10, .f32⟩
  | 8 => ⟨S1x10, .f32⟩
  | 9 => ⟨S1, .f32⟩
  | 10 => ⟨S15x30, .f32⟩
  | 11 => ⟨S15, .f32⟩
  | 12 => ⟨S15x15, .f32⟩
  | 13 => ⟨S15, .f32⟩
  | 14 => ⟨S15x15, .f32⟩
  | 15 => ⟨S15, .f32⟩
  | 16 => ⟨S1x15, .f32⟩
  | 17 => ⟨S1, .f32⟩
  | 18 => ⟨S8x30x9000x1, .i32⟩
  | 19 => ⟨S4, .i32⟩
  | 20 => ⟨S1x1x1x4, .i32⟩
  | 21 => ⟨S8x30x9000x4, .i32⟩
  | 22 => ⟨S8x30x9000x4, .i32⟩
  | 23 => ⟨S8x30x9000x4, .i1⟩
  | 24 => ⟨S8x30x9000x4, .i32⟩
  | 25 => ⟨S_, .i32⟩
  | 26 => ⟨S8x9000x4, .i32⟩
  | 27 => ⟨S8x9000x4, .i32⟩
  | 28 => ⟨S_, .i32⟩
  | 29 => ⟨S_, .i32⟩
  | 30 => ⟨S8x9000, .i32⟩
  | 31 => ⟨S8x9000, .i32⟩
  | 32 => ⟨S8x1x9000, .i32⟩
  | 33 => ⟨S8x30x9000, .i32⟩
  | 34 => ⟨S8x30x9000, .i1⟩
  | 35 => ⟨S8x30x9000, .f32⟩
  | 36 => ⟨S_, .f32⟩
  | 37 => ⟨S8x30, .f32⟩
  | 38 => ⟨S_, .f32⟩
  | 39 => ⟨S8x30, .f32⟩
  | 40 => ⟨S8x30, .f32⟩
  | 41 => ⟨S_, .f32⟩
  | 42 => ⟨S8x9000, .f32⟩
  | 43 => ⟨S_, .f32⟩
  | 44 => ⟨S8x9000, .f32⟩
  | 45 => ⟨S8x9000, .f32⟩
  | 46 => ⟨S8x30, .i32⟩
  | 47 => ⟨S8x30, .f32⟩
  | 48 => ⟨S8x30, .i32⟩
  | 49 => ⟨S8x9000, .i32⟩
  | 50 => ⟨S8x9000, .f32⟩
  | 51 => ⟨S8x9000, .i32⟩
  | 52 => ⟨S8x1x9000, .i32⟩
  | 53 => ⟨S_, .i32⟩
  | 54 => ⟨S8x1x9000, .i32⟩
  | 55 => ⟨S8x1x9000, .i1⟩
  | 56 => ⟨S_, .i32⟩
  | 57 => ⟨S8x1x9000, .i32⟩
  | 58 => ⟨S8x1x9000, .i32⟩
  | 59 => ⟨S8x1x9000, .i32⟩
  | 60 => ⟨S8x9000x1, .i32⟩
  | 61 => ⟨S1, .i32⟩
  | 62 => ⟨S_, .i32⟩
  | 63 => ⟨S8x9000x1, .i32⟩
  | 64 => ⟨S8x9000x1, .i1⟩
  | 65 => ⟨S1x1x1, .i32⟩
  | 66 => ⟨S8x9000x1, .i32⟩
  | 67 => ⟨S8x9000x1, .i1⟩
  | 68 => ⟨S8x9000x1, .i1⟩
  | 69 => ⟨S_, .i1⟩
  | 70 => ⟨S8x9000, .i1⟩
  | 71 => ⟨S8x30x9000, .f32⟩
  | 72 => ⟨S8x30x9000, .i1⟩
  | 73 => ⟨S_, .f32⟩
  | 74 => ⟨S8x30x9000, .f32⟩
  | 75 => ⟨S8x30x9000, .f32⟩
  | 76 => ⟨S8x30x3x3000, .f32⟩
  | 77 => ⟨S_, .f32⟩
  | 78 => ⟨S8x30x3, .f32⟩
  | 79 => ⟨S_, .f32⟩
  | 80 => ⟨S8x30x3, .f32⟩
  | 81 => ⟨S8x30x3, .f32⟩
  | 82 => ⟨S8x30x1, .i32⟩
  | 83 => ⟨S_, .i32⟩
  | 84 => ⟨S8x30x1, .i32⟩
  | 85 => ⟨S8x30x1, .i1⟩
  | 86 => ⟨S_, .i32⟩
  | 87 => ⟨S8x30x1, .i32⟩
  | 88 => ⟨S8x30x1, .i32⟩
  | 89 => ⟨S8x30x1, .i32⟩
  | 90 => ⟨S1, .i32⟩
  | 91 => ⟨S_, .i32⟩
  | 92 => ⟨S8x30x1, .i32⟩
  | 93 => ⟨S8x30x1, .i1⟩
  | 94 => ⟨S1x1x1, .i32⟩
  | 95 => ⟨S8x30x1, .i32⟩
  | 96 => ⟨S8x30x1, .i1⟩
  | 97 => ⟨S8x30x1, .i1⟩
  | 98 => ⟨S_, .i1⟩
  | 99 => ⟨S8x30, .i1⟩
  | 100 => ⟨S8x30x9000, .f32⟩
  | 101 => ⟨S8x30x9000, .i1⟩
  | 102 => ⟨S_, .f32⟩
  | 103 => ⟨S8x30x9000, .f32⟩
  | 104 => ⟨S8x30x9000, .f32⟩
  | 105 => ⟨S8x3x10x9000, .f32⟩
  | 106 => ⟨S_, .f32⟩
  | 107 => ⟨S8x3x9000, .f32⟩
  | 108 => ⟨S_, .f32⟩
  | 109 => ⟨S8x3x9000, .f32⟩
  | 110 => ⟨S8x3x9000, .f32⟩
  | 111 => ⟨S8x9000x3, .f32⟩
  | 112 => ⟨S8x30x1, .f32⟩
  | 113 => ⟨S8x30x4, .f32⟩
  | 114 => ⟨S8x9000x1, .f32⟩
  | 115 => ⟨S8x9000x4, .f32⟩
  | 116 => ⟨S8x30x1x4, .f32⟩
  | 117 => ⟨S8x30x9000x4, .f32⟩
  | 118 => ⟨S8x1x9000x4, .f32⟩
  | 119 => ⟨S8x30x9000x4, .f32⟩
  | 120 => ⟨S8x30x9000x8, .f32⟩
  | 121 => ⟨S8x270000x8, .f32⟩
  | 122 => ⟨S8x10, .f32⟩
  | 123 => ⟨S8x270000x10, .f32⟩
  | 124 => ⟨S1x1x10, .f32⟩
  | 125 => ⟨S8x270000x10, .f32⟩
  | 126 => ⟨S8x270000x10, .f32⟩
  | 127 => ⟨S_, .f32⟩
  | _ => ⟨S8x30x9000, .i32⟩

abbrev hbmTy0_1 (i : Nat) : BufTy := match i % 128 with
  | 0 => ⟨S8x270000x10, .f32⟩
  | 1 => ⟨S8x270000x10, .f32⟩
  | 2 => ⟨S10x10, .f32⟩
  | 3 => ⟨S8x270000x10, .f32⟩
  | 4 => ⟨S1x1x10, .f32⟩
  | 5 => ⟨S8x270000x10, .f32⟩
  | 6 => ⟨S8x270000x10, .f32⟩
  | 7 => ⟨S_, .f32⟩
  | 8 => ⟨S8x270000x10, .f32⟩
  | 9 => ⟨S8x270000x10, .f32⟩
  | 10 => ⟨S10x10, .f32⟩
  | 11 => ⟨S8x270000x10, .f32⟩
  | 12 => ⟨S1x1x10, .f32⟩
  | 13 => ⟨S8x270000x10, .f32⟩
  | 14 => ⟨S8x270000x10, .f32⟩
  | 15 => ⟨S_, .f32⟩
  | 16 => ⟨S8x270000x10, .f32⟩
  | 17 => ⟨S8x270000x10, .f32⟩
  | 18 => ⟨S10x1, .f32⟩
  | 19 => ⟨S8x270000x1, .f32⟩
  | 20 => ⟨S1x1x1, .f32⟩
  | 21 => ⟨S8x270000x1, .f32⟩
  | 22 => ⟨S8x270000x1, .f32⟩
  | 23 => ⟨S8x270000x1, .f32⟩
  | 24 => ⟨S8x270000x1, .f32⟩
  | 25 => ⟨S_, .f32⟩
  | 26 => ⟨S8x270000x1, .f32⟩
  | 27 => ⟨S8x270000x1, .f32⟩
  | 28 => ⟨S_, .f32⟩
  | 29 => ⟨S8x270000x1, .f32⟩
  | 30 => ⟨S8x270000x1, .f32⟩
  | 31 => ⟨S8x270000, .f32⟩
  | 32 => ⟨S8x30x9000, .f32⟩
  | 33 => ⟨S8x9000x30, .i32⟩
  | 34 => ⟨S8x9000x30, .f32⟩
  | 35 => ⟨S8x9000x1x30, .i32⟩
  | 36 => ⟨S4, .i32⟩
  | 37 => ⟨S1x1x4x1, .i32⟩
  | 38 => ⟨S8x9000x4x30, .i32⟩
  | 39 => ⟨S8x9000x4x30, .i32⟩
  | 40 => ⟨S8x9000x4x30, .i1⟩
  | 41 => ⟨S8x9000x1x30, .f32⟩
  | 42 => ⟨S8x9000x1x30, .f32⟩
  | 43 => ⟨S_, .f32⟩
  | 44 => ⟨S8x9000x1x30, .f32⟩
  | 45 => ⟨S8x9000x1x30, .f32⟩
  | 46 => ⟨S_, .f32⟩
  | 47 => ⟨S8x9000x1x30, .f32⟩
  | 48 => ⟨S8x9000x1x30, .f32⟩
  | 49 => ⟨S8x9000x4x30, .f32⟩
  | 50 => ⟨S8x9000x4x30, .f32⟩
  | 51 => ⟨S8x9000x4x30, .f32⟩
  | 52 => ⟨S288000x30, .f32⟩
  | 53 => ⟨S30x15, .f32⟩
  | 54 => ⟨S288000x15, .f32⟩
  | 55 => ⟨S1x15, .f32⟩
  | 56 => ⟨S288000x15, .f32⟩
  | 57 => ⟨S288000x15, .f32⟩
  | 58 => ⟨S288000x15, .f32⟩
  | 59 => ⟨S15x15, .f32⟩
  | 60 => ⟨S288000x15, .f32⟩
  | 61 => ⟨S1x15, .f32⟩
  | 62 => ⟨S288000x15, .f32⟩
  | 63 => ⟨S288000x15, .f32⟩
  | 64 => ⟨S288000x15, .f32⟩
  | 65 => ⟨S15x15, .f32⟩
  | 66 => ⟨S288000x15, .f32⟩
  | 67 => ⟨S1x15, .f32⟩
  | 68 => ⟨S288000x15, .f32⟩
  | 69 => ⟨S288000x15, .f32⟩
  | 70 => ⟨S288000x15, .f32⟩
  | 71 => ⟨S15x1, .f32⟩
  | 72 => ⟨S288000x1, .f32⟩
  | 73 => ⟨S1x1, .f32⟩
  | 74 => ⟨S288000x1, .f32⟩
  | 75 => ⟨S288000x1, .f32⟩
  | 76 => ⟨S72000x4, .f32⟩
  | 77 => ⟨S_, .f32⟩
  | 78 => ⟨S72000, .f32⟩
  | 79 => ⟨S_, .f32⟩
  | 80 => ⟨S72000, .f32⟩
  | 81 => ⟨S72000, .f32⟩
  | 82 => ⟨S72000x1, .f32⟩
  | 83 => ⟨S72000x4, .f32⟩
  | 84 => ⟨S72000x4, .f32⟩
  | 85 => ⟨S72000x4, .f32⟩
  | 86 => ⟨S_, .f32⟩
  | 87 => ⟨S72000, .f32⟩
  | 88 => ⟨S72000x1, .f32⟩
  | 89 => ⟨S72000x4, .f32⟩
  | 90 => ⟨S72000x4, .f32⟩
  | 91 => ⟨S8x1x9000, .i32⟩
  | 92 => ⟨S8x30x9000, .i32⟩
  | 93 => ⟨S8x30x9000, .i1⟩
  | 94 => ⟨S8x30x9000, .f32⟩
  | 95 => ⟨S8x270000, .f32⟩
  | 96 => ⟨S8x270000, .f32⟩
  | 97 => ⟨S_, .f32⟩
  | 98 => ⟨S8x270000, .f32⟩
  | 99 => ⟨S8x270000, .f32⟩
  | 100 => ⟨S_, .f32⟩
  | 101 => ⟨S8x270000, .f32⟩
  | 102 => ⟨S8x270000, .f32⟩
  | 103 => ⟨S8x270000, .f32⟩
  | 104 => ⟨S_, .f32⟩
  | 105 => ⟨S8x270000, .f32⟩
  | 106 => ⟨S8x270000, .f32⟩
  | 107 => ⟨S8x270000, .f32⟩
  | 108 => ⟨S_, .f32⟩
  | 109 => ⟨S8x270000, .f32⟩
  | 110 => ⟨S8x270000, .f32⟩
  | 111 => ⟨S8x270000, .f32⟩
  | 112 => ⟨S8x270000, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S72000, .f32⟩
  | 120 => ⟨S_, .f32⟩
  | 121 => ⟨S72000, .f32⟩
  | 122 => ⟨S72000, .f32⟩
  | 123 => ⟨S72000x1, .f32⟩
  | 124 => ⟨S72000x4, .f32⟩
  | 125 => ⟨S72000x4, .f32⟩
  | 126 => ⟨S72000x4, .f32⟩
  | 127 => ⟨S_, .f32⟩
  | _ => ⟨S8x30x9000, .i32⟩

abbrev hbmTy0_2 (i : Nat) : BufTy := match i % 128 with
  | 0 => ⟨S72000, .f32⟩
  | 1 => ⟨S72000x1, .f32⟩
  | 2 => ⟨S72000x1, .f32⟩
  | 3 => ⟨S72000x4, .f32⟩
  | 4 => ⟨S72000x4, .f32⟩
  | 5 => ⟨S72000, .i32⟩
  | 6 => ⟨S72000x1, .i32⟩
  | 7 => ⟨S_, .i32⟩
  | 8 => ⟨S72000x1, .i32⟩
  | 9 => ⟨S72000x1, .i1⟩
  | 10 => ⟨S_, .i32⟩
  | 11 => ⟨S72000x1, .i32⟩
  | 12 => ⟨S72000x1, .i32⟩
  | 13 => ⟨S72000x1, .i32⟩
  | 14 => ⟨S72000x1x1, .i32⟩
  | 15 => ⟨S1, .i32⟩
  | 16 => ⟨S_, .i32⟩
  | 17 => ⟨S72000x1x1, .i32⟩
  | 18 => ⟨S72000x1x1, .i1⟩
  | 19 => ⟨S1x1x1, .i32⟩
  | 20 => ⟨S72000x1x1, .i32⟩
  | 21 => ⟨S72000x1x1, .i1⟩
  | 22 => ⟨S72000x1x1, .i1⟩
  | 23 => ⟨S_, .i1⟩
  | 24 => ⟨S72000x1, .i1⟩
  | 25 => ⟨S72000x1, .f32⟩
  | 26 => ⟨S_, .f32⟩
  | 27 => ⟨S72000x1, .f32⟩
  | 28 => ⟨S72000x1, .f32⟩
  | 29 => ⟨S_, .f32⟩
  | 30 => ⟨S_, .f32⟩
  | 31 => ⟨S_, .f32⟩
  | 32 => ⟨S_, .f32⟩
  | 33 => ⟨S_, .f32⟩
  | 34 => ⟨S1x1, .f32⟩
  | 35 => ⟨S1x1, .f32⟩
  | _ => ⟨S8x30x9000, .i32⟩

abbrev hbmTy (i : Nat) : BufTy := match i / 128 with
  | 0 => hbmTy0_0 i
  | 1 => hbmTy0_1 i
  | 2 => hbmTy0_2 i
  | _ => ⟨S8x30x9000, .i32⟩

abbrev bufTy : (tb : Table) → Fin (tcTables nBuf tb) → BufTy
  | .hbm, ⟨i, _⟩ => hbmTy i
  | _, _ => ⟨S8x30x9000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c : Ref sig .tc := ⟨.hbm, 25, rfl⟩
abbrev main_v7 : Ref sig .tc := ⟨.hbm, 26, rfl⟩
abbrev main_call0_v0 : Ref sig .tc := ⟨.hbm, 27, rfl⟩
abbrev main_call0_c : Ref sig .tc := ⟨.hbm, 28, rfl⟩
abbrev main_call0_c_0 : Ref sig .tc := ⟨.hbm, 29, rfl⟩
abbrev main_call0_v1_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_call1_v0 : Ref sig .tc := ⟨.hbm, 46, rfl⟩
abbrev main_call1_v1_0 : Ref sig .tc := ⟨.hbm, 47, rfl⟩
abbrev main_v19 : Ref sig .tc := ⟨.hbm, 48, rfl⟩
abbrev main_call2_v0 : Ref sig .tc := ⟨.hbm, 49, rfl⟩
abbrev main_call2_v1_0 : Ref sig .tc := ⟨.hbm, 50, rfl⟩
abbrev main_v20 : Ref sig .tc := ⟨.hbm, 51, rfl⟩
abbrev main_v21 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_c_1 : Ref sig .tc := ⟨.hbm, 61, rfl⟩
abbrev main_call3_c_2 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_v11 : Ref sig .tc := ⟨.hbm, 68, rfl⟩
abbrev main_call3_c_3 : Ref sig .tc := ⟨.hbm, 69, rfl⟩
abbrev main_call3_v12 : Ref sig .tc := ⟨.hbm, 70, rfl⟩
abbrev main_call3_v13 : Ref sig .tc := ⟨.hbm, 71, rfl⟩
abbrev main_call3_v14 : Ref sig .tc := ⟨.hbm, 72, rfl⟩
abbrev main_call3_cst : Ref sig .tc := ⟨.hbm, 73, rfl⟩
abbrev main_call3_v15 : Ref sig .tc := ⟨.hbm, 74, rfl⟩
abbrev main_v22 : Ref sig .tc := ⟨.hbm, 75, rfl⟩
abbrev main_v23 : Ref sig .tc := ⟨.hbm, 76, rfl⟩
abbrev main_cst_3 : Ref sig .tc := ⟨.hbm, 77, rfl⟩
abbrev main_v24 : Ref sig .tc := ⟨.hbm, 78, rfl⟩
abbrev main_cst_4 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_c_1 : Ref sig .tc := ⟨.hbm, 90, rfl⟩
abbrev main_call4_c_2 : Ref sig .tc := ⟨.hbm, 91, rfl⟩
abbrev main_call4_v5 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_c_3 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_cst : Ref sig .tc := ⟨.hbm, 102, rfl⟩
abbrev main_call4_v14 : Ref sig .tc := ⟨.hbm, 103, rfl⟩
abbrev main_v28 : Ref sig .tc := ⟨.hbm, 104, rfl⟩
abbrev main_v29 : Ref sig .tc := ⟨.hbm, 105, rfl⟩
abbrev main_cst_5 : Ref sig .tc := ⟨.hbm, 106, rfl⟩
abbrev main_v30 : Ref sig .tc := ⟨.hbm, 107, rfl⟩
abbrev main_cst_6 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_call5_cst : Ref sig .tc := ⟨.hbm, 127, rfl⟩
abbrev main_call5_v0 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_call6_cst : Ref sig .tc := ⟨.hbm, 135, rfl⟩
abbrev main_call6_v0 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_call7_cst : Ref sig .tc := ⟨.hbm, 143, rfl⟩
abbrev main_call7_v0 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_cst_7 : Ref sig .tc := ⟨.hbm, 153, rfl⟩
abbrev main_v69 : Ref sig .tc := ⟨.hbm, 154, rfl⟩
abbrev main_v70 : Ref sig .tc := ⟨.hbm, 155, rfl⟩
abbrev main_cst_8 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_cst_9 : Ref sig .tc := ⟨.hbm, 171, rfl⟩
abbrev main_v85 : Ref sig .tc := ⟨.hbm, 172, rfl⟩
abbrev main_v86 : Ref sig .tc := ⟨.hbm, 173, rfl⟩
abbrev main_cst_10 : Ref sig .tc := ⟨.hbm, 174, rfl⟩
abbrev main_v87 : Ref sig .tc := ⟨.hbm, 175, rfl⟩
abbrev main_v88 : Ref sig .tc := ⟨.hbm, 176, rfl⟩
abbrev main_call8_v0 : Ref sig .tc := ⟨.hbm, 177, rfl⟩
abbrev main_call8_v1 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_cst_11 : Ref sig .tc := ⟨.hbm, 205, rfl⟩
abbrev main_v115 : Ref sig .tc := ⟨.hbm, 206, rfl⟩
abbrev main_cst_12 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_cst_13 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_cst_14 : Ref sig .tc := ⟨.hbm, 225, rfl⟩
abbrev main_v132 : Ref sig .tc := ⟨.hbm, 226, rfl⟩
abbrev main_v133 : Ref sig .tc := ⟨.hbm, 227, rfl⟩
abbrev main_cst_15 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_cst_16 : Ref sig .tc := ⟨.hbm, 232, rfl⟩
abbrev main_v137 : Ref sig .tc := ⟨.hbm, 233, rfl⟩
abbrev main_v138 : Ref sig .tc := ⟨.hbm, 234, rfl⟩
abbrev main_v139 : Ref sig .tc := ⟨.hbm, 235, rfl⟩
abbrev main_cst_17 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_cst_18 : Ref sig .tc := ⟨.hbm, 241, rfl⟩
abbrev main_v144 : Ref sig .tc := ⟨.hbm, 242, rfl⟩
abbrev main_cst_19 : Ref sig .tc := ⟨.hbm, 243, rfl⟩
abbrev main_v145 : Ref sig .tc := ⟨.hbm, 244, rfl⟩
abbrev main_v146 : Ref sig .tc := ⟨.hbm, 245, rfl⟩
abbrev main_call9_cst : Ref sig .tc := ⟨.hbm, 246, rfl⟩
abbrev main_call9_v0 : Ref sig .tc := ⟨.hbm, 247, rfl⟩
abbrev main_call9_cst_0 : Ref sig .tc := ⟨.hbm, 248, rfl⟩
abbrev main_call9_v1 : Ref sig .tc := ⟨.hbm, 249, rfl⟩
abbrev main_call9_v2 : Ref sig .tc := ⟨.hbm, 250, rfl⟩
abbrev main_call9_v3 : Ref sig .tc := ⟨.hbm, 251, rfl⟩
abbrev main_call9_v4 : Ref sig .tc := ⟨.hbm, 252, rfl⟩
abbrev main_call9_v5 : Ref sig .tc := ⟨.hbm, 253, rfl⟩
abbrev main_call9_v6 : Ref sig .tc := ⟨.hbm, 254, rfl⟩
abbrev main_call9_cst_1 : Ref sig .tc := ⟨.hbm, 255, rfl⟩
abbrev main_call9_v7 : Ref sig .tc := ⟨.hbm, 256, rfl⟩
abbrev main_call9_v8 : Ref sig .tc := ⟨.hbm, 257, rfl⟩
abbrev main_call9_v9 : Ref sig .tc := ⟨.hbm, 258, rfl⟩
abbrev main_call9_v10 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_call10_c : Ref sig .tc := ⟨.hbm, 263, rfl⟩
abbrev main_call10_v0 : Ref sig .tc := ⟨.hbm, 264, rfl⟩
abbrev main_call10_v1 : Ref sig .tc := ⟨.hbm, 265, rfl⟩
abbrev main_call10_c_0 : Ref sig .tc := ⟨.hbm, 266, rfl⟩
abbrev main_call10_v2 : Ref sig .tc := ⟨.hbm, 267, rfl⟩
abbrev main_call10_v3 : Ref sig .tc := ⟨.hbm, 268, rfl⟩
abbrev main_call10_v4 : Ref sig .tc := ⟨.hbm, 269, rfl⟩
abbrev main_call10_v5 : Ref sig .tc := ⟨.hbm, 270, rfl⟩
abbrev main_call10_c_1 : Ref sig .tc := ⟨.hbm, 271, rfl⟩
abbrev main_call10_c_2 : Ref sig .tc := ⟨.hbm, 272, rfl⟩
abbrev main_call10_v6 : Ref sig .tc := ⟨.hbm, 273, rfl⟩
abbrev main_call10_v7 : Ref sig .tc := ⟨.hbm, 274, rfl⟩
abbrev main_call10_v8 : Ref sig .tc := ⟨.hbm, 275, rfl⟩
abbrev main_call10_v9 : Ref sig .tc := ⟨.hbm, 276, rfl⟩
abbrev main_call10_v10 : Ref sig .tc := ⟨.hbm, 277, rfl⟩
abbrev main_call10_v11 : Ref sig .tc := ⟨.hbm, 278, rfl⟩
abbrev main_call10_c_3 : Ref sig .tc := ⟨.hbm, 279, rfl⟩
abbrev main_call10_v12 : Ref sig .tc := ⟨.hbm, 280, rfl⟩
abbrev main_call10_v13 : Ref sig .tc := ⟨.hbm, 281, rfl⟩
abbrev main_call10_cst : Ref sig .tc := ⟨.hbm, 282, rfl⟩
abbrev main_call10_v14 : Ref sig .tc := ⟨.hbm, 283, rfl⟩
abbrev main_v150 : Ref sig .tc := ⟨.hbm, 284, rfl⟩
abbrev main_cst_20 : Ref sig .tc := ⟨.hbm, 285, rfl⟩
abbrev main_v151 : Ref sig .tc := ⟨.hbm, 286, rfl⟩
abbrev main_cst_21 : Ref sig .tc := ⟨.hbm, 287, rfl⟩
abbrev main_v152 : Ref sig .tc := ⟨.hbm, 288, rfl⟩
abbrev main_v153 : Ref sig .tc := ⟨.hbm, 289, rfl⟩
abbrev main_v154 : Ref sig .tc := ⟨.hbm, 290, rfl⟩
abbrev main_v155 : Ref sig .tc := ⟨.hbm, 291, rfl⟩

abbrev nD : Nat := 1
abbrev τ : Topo := Topo.v7x

variable {F : FTy → Type} [FloatOps F]
-- ==== Proof.RefOps.lean ====
/- The reference program as a list of operations, and the terms it computes that are used more than once. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v35`, named. It packs its operands into a list of dependent pairs
    whose shapes a later argument's type mentions, so `simp` cannot rewrite an operand where it stands; applied by
    name, the operands are plain arguments, which the window lemmas below rewrite before the name unfolds. -/
def fn_main_v35 : (⟨S8x30x1, .f32⟩ : BufTy).Contents (Elt F) → (⟨S8x30x3, .f32⟩ : BufTy).Contents (Elt F) → (⟨S8x30x4, .f32⟩ : BufTy).Contents (Elt F) :=
  (fun a b => concatenate S8x30x4 2 [⟨S8x30x1, a⟩, ⟨S8x30x3, b⟩] concatenates_S8x30x1_S8x30x3_S8x30x4_d2)

/-- The function of the operation that writes `main_v37`, named. It packs its operands into a list of dependent pairs
    whose shapes a later argument's type mentions, so `simp` cannot rewrite an operand where it stands; applied by
    name, the operands are plain arguments, which the window lemmas below rewrite before the name unfolds. -/
def fn_main_v37 : (⟨S8x9000x1, .f32⟩ : BufTy).Contents (Elt F) → (⟨S8x9000x3, .f32⟩ : BufTy).Contents (Elt F) → (⟨S8x9000x4, .f32⟩ : BufTy).Contents (Elt F) :=
  (fun a b => concatenate S8x9000x4 2 [⟨S8x9000x1, a⟩, ⟨S8x9000x3, b⟩] concatenates_S8x9000x1_S8x9000x3_S8x9000x4_d2)

/-- The function of the operation that writes `main_v42`, named. It packs its operands into a list of dependent pairs
    whose shapes a later argument's type mentions, so `simp` cannot rewrite an operand where it stands; applied by
    name, the operands are plain arguments, which the window lemmas below rewrite before the name unfolds. -/
def fn_main_v42 : (⟨S8x30x9000x4, .f32⟩ : BufTy).Contents (Elt F) → (⟨S8x30x9000x4, .f32⟩ : BufTy).Contents (Elt F) → (⟨S8x30x9000x8, .f32⟩ : BufTy).Contents (Elt F) :=
  (fun a b => concatenate S8x30x9000x8 3 [⟨S8x30x9000x4, a⟩, ⟨S8x30x9000x4, b⟩] concatenates_S8x30x9000x4_S8x30x9000x4_S8x30x9000x8_d3)

/-- @main's operations 1 … 30 of 274 (window `main_part0`). -/
abbrev ops_part0_0 : List (HloOp τ sig (Elt F)) :=
  [ unary main_arg0 main_v0 (broadcastInDim S8x30x9000x1 ![0, 1, 2] bcast_S8x30x9000_S8x30x9000x1_0_1_2 : (⟨S8x30x9000, .i32⟩ : BufTy).Contents (Elt F) → (⟨S8x30x9000x1, .i32⟩ : BufTy).Contents (Elt F)),
    nullary main_v1 (iotaInDim S4 32 0),
    unary main_v1 main_v2 (broadcastInDim S1x1x1x4 ![3] bcast_S4_S1x1x1x4_3 : (⟨S4, .i32⟩ : BufTy).Contents (Elt F) → (⟨S1x1x1x4, .i32⟩ : BufTy).Contents (Elt F)),
    unary main_v0 main_v3 (broadcastInDim S8x30x9000x4 ![0, 1, 2, 3] bcast_S8x30x9000x1_S8x30x9000x4_0_1_2_3 : (⟨S8x30x9000x1, .i32⟩ : BufTy).Contents (Elt F) → (⟨S8x30x9000x4, .i32⟩ : BufTy).Contents (Elt F)),
    unary main_v2 main_v4 (broadcastInDim S8x30x9000x4 ![0, 1, 2, 3] bcast_S1x1x1x4_S8x30x9000x4_0_1_2_3 : (⟨S1x1x1x4, .i32⟩ : BufTy).Contents (Elt F) → (⟨S8x30x9000x4, .i32⟩ : BufTy).Contents (Elt F)),
    binary main_v3 main_v4 main_v5 (cmpi .eq : (⟨S8x30x9000x4, .i32⟩ : BufTy).Contents (Elt F) → (⟨S8x30x9000x4, .i32⟩ : BufTy).Contents (Elt F) → (⟨S8x30x9000x4, .i1⟩ : BufTy).Contents (Elt F)),
    unary main_v5 main_v6 ((extui 32 · natLt_1_32) : (⟨S8x30x9000x4, .i1⟩ : BufTy).Contents (Elt F) → (⟨S8x30x9000x4, .i32⟩ : BufTy).Contents (Elt F)),
    nullary main_c (constantI S_ 32 0#32),
    binary main_v6 main_c main_v7 ((fun x v => Host.reduce IntOp.addi x v reducesTo_S8x30x9000x4_S8x9000x4_d1 h_S_) : (⟨S8x30x9000x4, .i32⟩ : BufTy).Contents (Elt F) → (⟨S_, .i32⟩ : BufTy).Contents (Elt F) → (⟨S8x9000x4, .i32⟩ : BufTy).Contents (Elt F)),
    TRef.nullary (TRef.of (T := ⟨S8x9000x4, .i32⟩) main_call0_v0) (iotaInDim S8x9000x4 32 2),
    TRef.nullary (TRef.of (T := ⟨S_, .i32⟩) main_call0_c) (constantI S_ 32 2147483648#32),
    TRef.nullary (TRef.of (T := ⟨S_, .i32⟩) main_call0_c_0) (constantI S_ 32 0#32),
    TRef.quaternary (TRef.of (T := ⟨S8x9000x4, .i32⟩) main_v7) (TRef.of (T := ⟨S8x9000x4, .i32⟩) main_call0_v0) (TRef.of (T := ⟨S_, .i32⟩) main_call0_c) (TRef.of (T := ⟨S_, .i32⟩) main_call0_c_0) (TRef.of (T := ⟨S8x9000, .i32⟩) main_call0_v1_0) (fun x y u v j => (Host.reduce2 reducer_argmax_i32_i32 x y u v reducesTo_S8x9000x4_S8x9000_d2 h_S_ j).1),
    TRef.quaternary (TRef.of (T := ⟨S8x9000x4, .i32⟩) main_v7) (TRef.of (T := ⟨S8x9000x4, .i32⟩) main_call0_v0) (TRef.of (T := ⟨S_, .i32⟩) main_call0_c) (TRef.of (T := ⟨S_, .i32⟩) main_call0_c_0) (TRef.of (T := ⟨S8x9000, .i32⟩) main_v8) (fun x y u v j => (Host.reduce2 reducer_argmax_i32_i32 x y u v reducesTo_S8x9000x4_S8x9000_d2 h_S_ j).2),
    unary main_v8 main_v9 (broadcastInDim S8x1x9000 ![0, 2] bcast_S8x9000_S8x1x9000_0_2 : (⟨S8x9000, .i32⟩ : BufTy).Contents (Elt F) → (⟨S8x1x9000, .i32⟩ : BufTy).Contents (Elt F)),
    unary main_v9 main_v10 (broadcastInDim S8x30x9000 ![0, 1, 2] bcast_S8x1x9000_S8x30x9000_0_1_2 : (⟨S8x1x9000, .i32⟩ : BufTy).Contents (Elt F) → (⟨S8x30x9000, .i32⟩ : BufTy).Contents (Elt F)),
    binary main_arg0 main_v10 main_v11 (cmpi .eq : (⟨S8x30x9000, .i32⟩ : BufTy).Contents (Elt F) → (⟨S8x30x9000, .i32⟩ : BufTy).Contents (Elt F) → (⟨S8x30x9000, .i1⟩ : BufTy).Contents (Elt F)),
    unary main_v11 main_v12 (uitofp .f32 : (⟨S8x30x9000, .i1⟩ : BufTy).Contents (Elt F) → (⟨S8x30x9000, .f32⟩ : BufTy).Contents (Elt F)),
    nullary main_cst (constant S_ .f32 0x00000000#32),
    binary main_v12 main_cst main_v13 ((fun x v => Host.reduceAdd x v reducesTo_S8x30x9000_S8x30_d2 h_S_) : (⟨S8x30x9000, .f32⟩ : BufTy).Contents (Elt F) → (⟨S_, .f32⟩ : BufTy).Contents (Elt F) → (⟨S8x30, .f32⟩ : BufTy).Contents (Elt F)),
    nullary main_cst_0 (constant S_ .f32 0x460CA000#32),
    unary main_cst_0 main_v14 (broadcastInDim S8x30 ![] bcast_S_S8x30 : (⟨S_, .f32⟩ : BufTy).Contents (Elt F) → (⟨S8x30, .f32⟩ : BufTy).Contents (Elt F)),
    binary main_v13 main_v14 main_v15 (Host.divf : (⟨S8x30, .f32⟩ : BufTy).Contents (Elt F) → (⟨S8x30, .f32⟩ : BufTy).Contents (Elt F) → (⟨S8x30, .f32⟩ : BufTy).Contents (Elt F)),
    nullary main_cst_1 (constant S_ .f32 0x00000000#32),
    binary main_v12 main_cst_1 main_v16 ((fun x v => Host.reduceAdd x v reducesTo_S8x30x9000_S8x9000_d1 h_S_) : (⟨S8x30x9000, .f32⟩ : BufTy).Contents (Elt F) → (⟨S_, .f32⟩ : BufTy).Contents (Elt F) → (⟨S8x9000, .f32⟩ : BufTy).Contents (Elt F)),
    nullary main_cst_2 (constant S_ .f32 0x41F00000#32),
    unary main_cst_2 main_v17 (broadcastInDim S8x9000 ![] bcast_S_S8x9000 : (⟨S_, .f32⟩ : BufTy).Contents (Elt F) → (⟨S8x9000, .f32⟩ : BufTy).Contents (Elt F)),
    binary main_v16 main_v17 main_v18 (Host.divf : (⟨S8x9000, .f32⟩ : BufTy).Contents (Elt F) → (⟨S8x9000, .f32⟩ : BufTy).Contents (Elt F) → (⟨S8x9000, .f32⟩ : BufTy).Contents (Elt F)),
    TRef.nullary (TRef.of (T := ⟨S8x30, .i32⟩) main_call1_v0) (iotaInDim S8x30 32 1),
    TRef.binary (TRef.of (T := ⟨S8x30, .f32⟩) main_v15) (TRef.of (T := ⟨S8x30, .i32⟩) main_call1_v0) (TRef.of (T := ⟨S8x30, .f32⟩) main_call1_v1_0) (fun x y => (Host.sort2 S8x30 1 comparator_f32_i32_d1 x y).1) ]

/-- @main's operations 31 … 60 of 274 (window `main_part0`). -/
abbrev ops_part0_1 : List (HloOp τ sig (Elt F)) :=
  [ TRef.binary (TRef.of (T := ⟨S8x30, .f32⟩) main_v15) (TRef.of (T := ⟨S8x30, .i32⟩) main_call1_v0) (TRef.of (T := ⟨S8x30, .i32⟩) main_v19) (fun x y => (Host.sort2 S8x30 1 comparator_f32_i32_d1 x y).2),
    TRef.nullary (TRef.of (T := ⟨S8x9000, .i32⟩) main_call2_v0) (iotaInDim S8x9000 32 1),
    TRef.binary (TRef.of (T := ⟨S8x9000, .f32⟩) main_v18) (TRef.of (T := ⟨S8x9000, .i32⟩) main_call2_v0) (TRef.of (T := ⟨S8x9000, .f32⟩) main_call2_v1_0) (fun x y => (Host.sort2 S8x9000 1 comparator_f32_i32_d1 x y).1),
    TRef.binary (TRef.of (T := ⟨S8x9000, .f32⟩) main_v18) (TRef.of (T := ⟨S8x9000, .i32⟩) main_call2_v0) (TRef.of (T := ⟨S8x9000, .i32⟩) main_v20) (fun x y => (Host.sort2 S8x9000 1 comparator_f32_i32_d1 x y).2),
    unary main_v20 main_v21 (broadcastInDim S8x1x9000 ![0, 2] bcast_S8x9000_S8x1x9000_0_2 : (⟨S8x9000, .i32⟩ : BufTy).Contents (Elt F) → (⟨S8x1x9000, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S8x1x9000, .i32⟩) main_call3_v0) (broadcastInDim S8x1x9000 ![] bcast_S_S8x1x9000),
    TRef.binary (TRef.of (T := ⟨S8x1x9000, .i32⟩) main_v21) (TRef.of (T := ⟨S8x1x9000, .i32⟩) main_call3_v0) (TRef.of (T := ⟨S8x1x9000, .i1⟩) main_call3_v1) (cmpi .slt),
    TRef.nullary (TRef.of (T := ⟨S_, .i32⟩) main_call3_c_0) (constantI S_ 32 9000#32),
    TRef.unary (TRef.of (T := ⟨S_, .i32⟩) main_call3_c_0) (TRef.of (T := ⟨S8x1x9000, .i32⟩) main_call3_v2) (broadcastInDim S8x1x9000 ![] bcast_S_S8x1x9000),
    TRef.binary (TRef.of (T := ⟨S8x1x9000, .i32⟩) main_v21) (TRef.of (T := ⟨S8x1x9000, .i32⟩) main_call3_v2) (TRef.of (T := ⟨S8x1x9000, .i32⟩) main_call3_v3) addi,
    TRef.ternary (TRef.of (T := ⟨S8x1x9000, .i1⟩) main_call3_v1) (TRef.of (T := ⟨S8x1x9000, .i32⟩) main_call3_v3) (TRef.of (T := ⟨S8x1x9000, .i32⟩) main_v21) (TRef.of (T := ⟨S8x1x9000, .i32⟩) main_call3_v4) select,
    TRef.reshape (TRef.of (T := ⟨S8x1x9000, .i32⟩) main_call3_v4) (TRef.of (T := ⟨S8x9000x1, .i32⟩) main_call3_v5) (rfl : (.i32 : EltTy) = .i32) shapeCasts_S8x1x9000_S8x9000x1,
    TRef.nullary (TRef.of (T := ⟨S1, .i32⟩) main_call3_c_1) (constantI S1 32 8999#32),
    TRef.nullary (TRef.of (T := ⟨S_, .i32⟩) main_call3_c_2) (constantI S_ 32 0#32),
    TRef.unary (TRef.of (T := ⟨S_, .i32⟩) main_call3_c_2) (TRef.of (T := ⟨S8x9000x1, .i32⟩) main_call3_v6) (broadcastInDim S8x9000x1 ![] bcast_S_S8x9000x1),
    TRef.binary (TRef.of (T := ⟨S8x9000x1, .i32⟩) main_call3_v5) (TRef.of (T := ⟨S8x9000x1, .i32⟩) main_call3_v6) (TRef.of (T := ⟨S8x9000x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S8x9000x1, .i32⟩) main_call3_v9) (broadcastInDim S8x9000x1 ![0, 1, 2] bcast_S1x1x1_S8x9000x1_0_1_2),
    TRef.binary (TRef.of (T := ⟨S8x9000x1, .i32⟩) main_call3_v5) (TRef.of (T := ⟨S8x9000x1, .i32⟩) main_call3_v9) (TRef.of (T := ⟨S8x9000x1, .i1⟩) main_call3_v10) (cmpi .sle),
    TRef.binary (TRef.of (T := ⟨S8x9000x1, .i1⟩) main_call3_v7) (TRef.of (T := ⟨S8x9000x1, .i1⟩) main_call3_v10) (TRef.of (T := ⟨S8x9000x1, .i1⟩) main_call3_v11) andi,
    TRef.nullary (TRef.of (T := ⟨S_, .i1⟩) main_call3_c_3) (constantI S_ 1 1#1),
    TRef.binary (TRef.of (T := ⟨S8x9000x1, .i1⟩) main_call3_v11) (TRef.of (T := ⟨S_, .i1⟩) main_call3_c_3) (TRef.of (T := ⟨S8x9000, .i1⟩) main_call3_v12) (fun x v => Host.reduce IntOp.andi x v reducesTo_S8x9000x1_S8x9000_d2 h_S_),
    TRef.binary (TRef.of (T := ⟨S8x30x9000, .f32⟩) main_v12) (TRef.of (T := ⟨S8x9000x1, .i32⟩) main_call3_v5) (TRef.of (T := ⟨S8x30x9000, .f32⟩) main_call3_v13) (fun x i => Host.gather gather_S8x30x9000_S8x9000x1_S8x30x9000_1_2_0_0_2_2_1301 x i),
    TRef.unary (TRef.of (T := ⟨S8x9000, .i1⟩) main_call3_v12) (TRef.of (T := ⟨S8x30x9000, .i1⟩) main_call3_v14) (broadcastInDim S8x30x9000 ![0, 2] bcast_S8x9000_S8x30x9000_0_2),
    TRef.nullary (TRef.of (T := ⟨S_, .f32⟩) main_call3_cst) (constant S_ .f32 0x7FC00000#32),
    TRef.unary (TRef.of (T := ⟨S_, .f32⟩) main_call3_cst) (TRef.of (T := ⟨S8x30x9000, .f32⟩) main_call3_v15) (broadcastInDim S8x30x9000 ![] bcast_S_S8x30x9000),
    TRef.ternary (TRef.of (T := ⟨S8x30x9000, .i1⟩) main_call3_v14) (TRef.of (T := ⟨S8x30x9000, .f32⟩) main_call3_v13) (TRef.of (T := ⟨S8x30x9000, .f32⟩) main_call3_v15) (TRef.of (T := ⟨S8x30x9000, .f32⟩) main_v22) select,
    reshape main_v22 main_v23 (rfl : (.f32 : EltTy) = .f32) shapeCasts_S8x30x9000_S8x30x3x3000,
    nullary main_cst_3 (constant S_ .f32 0x00000000#32) ]

/-- @main's operations 61 … 90 of 274 (window `main_part0`). -/
abbrev ops_part0_2 : List (HloOp τ sig (Elt F)) :=
  [ binary main_v23 main_cst_3 main_v24 ((fun x v => Host.reduceAdd x v reducesTo_S8x30x3x3000_S8x30x3_d3 h_S_) : (⟨S8x30x3x3000, .f32⟩ : BufTy).Contents (Elt F) → (⟨S_, .f32⟩ : BufTy).Contents (Elt F) → (⟨S8x30x3, .f32⟩ : BufTy).Contents (Elt F)),
    nullary main_cst_4 (constant S_ .f32 0x453B8000#32),
    unary main_cst_4 main_v25 (broadcastInDim S8x30x3 ![] bcast_S_S8x30x3 : (⟨S_, .f32⟩ : BufTy).Contents (Elt F) → (⟨S8x30x3, .f32⟩ : BufTy).Contents (Elt F)),
    binary main_v24 main_v25 main_v26 (Host.divf : (⟨S8x30x3, .f32⟩ : BufTy).Contents (Elt F) → (⟨S8x30x3, .f32⟩ : BufTy).Contents (Elt F) → (⟨S8x30x3, .f32⟩ : BufTy).Contents (Elt F)),
    unary main_v19 main_v27 (broadcastInDim S8x30x1 ![0, 1] bcast_S8x30_S8x30x1_0_1 : (⟨S8x30, .i32⟩ : BufTy).Contents (Elt F) → (⟨S8x30x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S8x30x1, .i32⟩) main_call4_v0) (broadcastInDim S8x30x1 ![] bcast_S_S8x30x1),
    TRef.binary (TRef.of (T := ⟨S8x30x1, .i32⟩) main_v27) (TRef.of (T := ⟨S8x30x1, .i32⟩) main_call4_v0) (TRef.of (T := ⟨S8x30x1, .i1⟩) main_call4_v1) (cmpi .slt),
    TRef.nullary (TRef.of (T := ⟨S_, .i32⟩) main_call4_c_0) (constantI S_ 32 30#32),
    TRef.unary (TRef.of (T := ⟨S_, .i32⟩) main_call4_c_0) (TRef.of (T := ⟨S8x30x1, .i32⟩) main_call4_v2) (broadcastInDim S8x30x1 ![] bcast_S_S8x30x1),
    TRef.binary (TRef.of (T := ⟨S8x30x1, .i32⟩) main_v27) (TRef.of (T := ⟨S8x30x1, .i32⟩) main_call4_v2) (TRef.of (T := ⟨S8x30x1, .i32⟩) main_call4_v3) addi,
    TRef.ternary (TRef.of (T := ⟨S8x30x1, .i1⟩) main_call4_v1) (TRef.of (T := ⟨S8x30x1, .i32⟩) main_call4_v3) (TRef.of (T := ⟨S8x30x1, .i32⟩) main_v27) (TRef.of (T := ⟨S8x30x1, .i32⟩) main_call4_v4) select,
    TRef.nullary (TRef.of (T := ⟨S1, .i32⟩) main_call4_c_1) (constantI S1 32 29#32),
    TRef.nullary (TRef.of (T := ⟨S_, .i32⟩) main_call4_c_2) (constantI S_ 32 0#32),
    TRef.unary (TRef.of (T := ⟨S_, .i32⟩) main_call4_c_2) (TRef.of (T := ⟨S8x30x1, .i32⟩) main_call4_v5) (broadcastInDim S8x30x1 ![] bcast_S_S8x30x1),
    TRef.binary (TRef.of (T := ⟨S8x30x1, .i32⟩) main_call4_v4) (TRef.of (T := ⟨S8x30x1, .i32⟩) main_call4_v5) (TRef.of (T := ⟨S8x30x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S8x30x1, .i32⟩) main_call4_v8) (broadcastInDim S8x30x1 ![0, 1, 2] bcast_S1x1x1_S8x30x1_0_1_2),
    TRef.binary (TRef.of (T := ⟨S8x30x1, .i32⟩) main_call4_v4) (TRef.of (T := ⟨S8x30x1, .i32⟩) main_call4_v8) (TRef.of (T := ⟨S8x30x1, .i1⟩) main_call4_v9) (cmpi .sle),
    TRef.binary (TRef.of (T := ⟨S8x30x1, .i1⟩) main_call4_v6) (TRef.of (T := ⟨S8x30x1, .i1⟩) main_call4_v9) (TRef.of (T := ⟨S8x30x1, .i1⟩) main_call4_v10) andi,
    TRef.nullary (TRef.of (T := ⟨S_, .i1⟩) main_call4_c_3) (constantI S_ 1 1#1),
    TRef.binary (TRef.of (T := ⟨S8x30x1, .i1⟩) main_call4_v10) (TRef.of (T := ⟨S_, .i1⟩) main_call4_c_3) (TRef.of (T := ⟨S8x30, .i1⟩) main_call4_v11) (fun x v => Host.reduce IntOp.andi x v reducesTo_S8x30x1_S8x30_d2 h_S_),
    TRef.binary (TRef.of (T := ⟨S8x30x9000, .f32⟩) main_v12) (TRef.of (T := ⟨S8x30x1, .i32⟩) main_call4_v4) (TRef.of (T := ⟨S8x30x9000, .f32⟩) main_call4_v12) (fun x i => Host.gather gather_S8x30x9000_S8x30x1_S8x30x9000_2_1_0_0_1_2_119000 x i),
    TRef.unary (TRef.of (T := ⟨S8x30, .i1⟩) main_call4_v11) (TRef.of (T := ⟨S8x30x9000, .i1⟩) main_call4_v13) (broadcastInDim S8x30x9000 ![0, 1] bcast_S8x30_S8x30x9000_0_1),
    TRef.nullary (TRef.of (T := ⟨S_, .f32⟩) main_call4_cst) (constant S_ .f32 0x7FC00000#32),
    TRef.unary (TRef.of (T := ⟨S_, .f32⟩) main_call4_cst) (TRef.of (T := ⟨S8x30x9000, .f32⟩) main_call4_v14) (broadcastInDim S8x30x9000 ![] bcast_S_S8x30x9000),
    TRef.ternary (TRef.of (T := ⟨S8x30x9000, .i1⟩) main_call4_v13) (TRef.of (T := ⟨S8x30x9000, .f32⟩) main_call4_v12) (TRef.of (T := ⟨S8x30x9000, .f32⟩) main_call4_v14) (TRef.of (T := ⟨S8x30x9000, .f32⟩) main_v28) select,
    reshape main_v28 main_v29 (rfl : (.f32 : EltTy) = .f32) shapeCasts_S8x30x9000_S8x3x10x9000,
    nullary main_cst_5 (constant S_ .f32 0x00000000#32),
    binary main_v29 main_cst_5 main_v30 ((fun x v => Host.reduceAdd x v reducesTo_S8x3x10x9000_S8x3x9000_d2 h_S_) : (⟨S8x3x10x9000, .f32⟩ : BufTy).Contents (Elt F) → (⟨S_, .f32⟩ : BufTy).Contents (Elt F) → (⟨S8x3x9000, .f32⟩ : BufTy).Contents (Elt F)) ]

/-- @main's operations 91 … 113 of 274 (window `main_part0`). -/
abbrev ops_part0_3 : List (HloOp τ sig (Elt F)) :=
  [ nullary main_cst_6 (constant S_ .f32 0x41200000#32),
    unary main_cst_6 main_v31 (broadcastInDim S8x3x9000 ![] bcast_S_S8x3x9000 : (⟨S_, .f32⟩ : BufTy).Contents (Elt F) → (⟨S8x3x9000, .f32⟩ : BufTy).Contents (Elt F)),
    binary main_v30 main_v31 main_v32 (Host.divf : (⟨S8x3x9000, .f32⟩ : BufTy).Contents (Elt F) → (⟨S8x3x9000, .f32⟩ : BufTy).Contents (Elt F) → (⟨S8x3x9000, .f32⟩ : BufTy).Contents (Elt F)),
    unary main_v32 main_v33 ((transpose S8x9000x3 [0, 2, 1] · transposes_S8x3x9000_S8x9000x3_0_2_1) : (⟨S8x3x9000, .f32⟩ : BufTy).Contents (Elt F) → (⟨S8x9000x3, .f32⟩ : BufTy).Contents (Elt F)),
    unary main_v15 main_v34 (broadcastInDim S8x30x1 ![0, 1] bcast_S8x30_S8x30x1_0_1 : (⟨S8x30, .f32⟩ : BufTy).Contents (Elt F) → (⟨S8x30x1, .f32⟩ : BufTy).Contents (Elt F)),
    binary main_v34 main_v26 main_v35 (fn_main_v35 (F := F)),
    unary main_v18 main_v36 (broadcastInDim S8x9000x1 ![0, 1] bcast_S8x9000_S8x9000x1_0_1 : (⟨S8x9000, .f32⟩ : BufTy).Contents (Elt F) → (⟨S8x9000x1, .f32⟩ : BufTy).Contents (Elt F)),
    binary main_v36 main_v33 main_v37 (fn_main_v37 (F := F)),
    unary main_v35 main_v38 (broadcastInDim S8x30x1x4 ![0, 1, 3] bcast_S8x30x4_S8x30x1x4_0_1_3 : (⟨S8x30x4, .f32⟩ : BufTy).Contents (Elt F) → (⟨S8x30x1x4, .f32⟩ : BufTy).Contents (Elt F)),
    unary main_v38 main_v39 (broadcastInDim S8x30x9000x4 ![0, 1, 2, 3] bcast_S8x30x1x4_S8x30x9000x4_0_1_2_3 : (⟨S8x30x1x4, .f32⟩ : BufTy).Contents (Elt F) → (⟨S8x30x9000x4, .f32⟩ : BufTy).Contents (Elt F)),
    unary main_v37 main_v40 (broadcastInDim S8x1x9000x4 ![0, 2, 3] bcast_S8x9000x4_S8x1x9000x4_0_2_3 : (⟨S8x9000x4, .f32⟩ : BufTy).Contents (Elt F) → (⟨S8x1x9000x4, .f32⟩ : BufTy).Contents (Elt F)),
    unary main_v40 main_v41 (broadcastInDim S8x30x9000x4 ![0, 1, 2, 3] bcast_S8x1x9000x4_S8x30x9000x4_0_1_2_3 : (⟨S8x1x9000x4, .f32⟩ : BufTy).Contents (Elt F) → (⟨S8x30x9000x4, .f32⟩ : BufTy).Contents (Elt F)),
    binary main_v39 main_v41 main_v42 (fn_main_v42 (F := F)),
    reshape main_v42 main_v43 (rfl : (.f32 : EltTy) = .f32) shapeCasts_S8x30x9000x8_S8x270000x8,
    unary main_arg2 main_v44 ((transpose S8x10 [1, 0] · transposes_S10x8_S8x10_1_0) : (⟨S10x8, .f32⟩ : BufTy).Contents (Elt F) → (⟨S8x10, .f32⟩ : BufTy).Contents (Elt F)),
    binary main_v43 main_v44 main_v45 ((fun l r => Host.dotGeneral dot_S8x270000x8_S8x10_S8x270000x10_2_0_01_1_n_n none l r) : (⟨S8x270000x8, .f32⟩ : BufTy).Contents (Elt F) → (⟨S8x10, .f32⟩ : BufTy).Contents (Elt F) → (⟨S8x270000x10, .f32⟩ : BufTy).Contents (Elt F)),
    unary main_arg3 main_v46 (broadcastInDim S1x1x10 ![2] bcast_S10_S1x1x10_2 : (⟨S10, .f32⟩ : BufTy).Contents (Elt F) → (⟨S1x1x10, .f32⟩ : BufTy).Contents (Elt F)),
    unary main_v46 main_v47 (broadcastInDim S8x270000x10 ![0, 1, 2] bcast_S1x1x10_S8x270000x10_0_1_2 : (⟨S1x1x10, .f32⟩ : BufTy).Contents (Elt F) → (⟨S8x270000x10, .f32⟩ : BufTy).Contents (Elt F)),
    binary main_v45 main_v47 main_v48 (addf : (⟨S8x270000x10, .f32⟩ : BufTy).Contents (Elt F) → (⟨S8x270000x10, .f32⟩ : BufTy).Contents (Elt F) → (⟨S8x270000x10, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S8x270000x10, .f32⟩) main_call5_v0) (broadcastInDim S8x270000x10 ![] bcast_S_S8x270000x10),
    TRef.binary (TRef.of (T := ⟨S8x270000x10, .f32⟩) main_v48) (TRef.of (T := ⟨S8x270000x10, .f32⟩) main_call5_v0) (TRef.of (T := ⟨S8x270000x10, .f32⟩) main_v49) maximumf,
    unary main_arg4 main_v50 ((transpose S10x10 [1, 0] · transposes_S10x10_S10x10_1_0) : (⟨S10x10, .f32⟩ : BufTy).Contents (Elt F) → (⟨S10x10, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 114 … 143 of 274 (window `main_part1`). -/
abbrev ops_part1_0 : List (HloOp τ sig (Elt F)) :=
  [ binary main_v49 main_v50 main_v51 ((fun l r => Host.dotGeneral dot_S8x270000x10_S10x10_S8x270000x10_2_0_01_1_n_n none l r) : (⟨S8x270000x10, .f32⟩ : BufTy).Contents (Elt F) → (⟨S10x10, .f32⟩ : BufTy).Contents (Elt F) → (⟨S8x270000x10, .f32⟩ : BufTy).Contents (Elt F)),
    unary main_arg5 main_v52 (broadcastInDim S1x1x10 ![2] bcast_S10_S1x1x10_2 : (⟨S10, .f32⟩ : BufTy).Contents (Elt F) → (⟨S1x1x10, .f32⟩ : BufTy).Contents (Elt F)),
    unary main_v52 main_v53 (broadcastInDim S8x270000x10 ![0, 1, 2] bcast_S1x1x10_S8x270000x10_0_1_2 : (⟨S1x1x10, .f32⟩ : BufTy).Contents (Elt F) → (⟨S8x270000x10, .f32⟩ : BufTy).Contents (Elt F)),
    binary main_v51 main_v53 main_v54 (addf : (⟨S8x270000x10, .f32⟩ : BufTy).Contents (Elt F) → (⟨S8x270000x10, .f32⟩ : BufTy).Contents (Elt F) → (⟨S8x270000x10, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S8x270000x10, .f32⟩) main_call6_v0) (broadcastInDim S8x270000x10 ![] bcast_S_S8x270000x10),
    TRef.binary (TRef.of (T := ⟨S8x270000x10, .f32⟩) main_v54) (TRef.of (T := ⟨S8x270000x10, .f32⟩) main_call6_v0) (TRef.of (T := ⟨S8x270000x10, .f32⟩) main_v55) maximumf,
    unary main_arg6 main_v56 ((transpose S10x10 [1, 0] · transposes_S10x10_S10x10_1_0) : (⟨S10x10, .f32⟩ : BufTy).Contents (Elt F) → (⟨S10x10, .f32⟩ : BufTy).Contents (Elt F)),
    binary main_v55 main_v56 main_v57 ((fun l r => Host.dotGeneral dot_S8x270000x10_S10x10_S8x270000x10_2_0_01_1_n_n none l r) : (⟨S8x270000x10, .f32⟩ : BufTy).Contents (Elt F) → (⟨S10x10, .f32⟩ : BufTy).Contents (Elt F) → (⟨S8x270000x10, .f32⟩ : BufTy).Contents (Elt F)),
    unary main_arg7 main_v58 (broadcastInDim S1x1x10 ![2] bcast_S10_S1x1x10_2 : (⟨S10, .f32⟩ : BufTy).Contents (Elt F) → (⟨S1x1x10, .f32⟩ : BufTy).Contents (Elt F)),
    unary main_v58 main_v59 (broadcastInDim S8x270000x10 ![0, 1, 2] bcast_S1x1x10_S8x270000x10_0_1_2 : (⟨S1x1x10, .f32⟩ : BufTy).Contents (Elt F) → (⟨S8x270000x10, .f32⟩ : BufTy).Contents (Elt F)),
    binary main_v57 main_v59 main_v60 (addf : (⟨S8x270000x10, .f32⟩ : BufTy).Contents (Elt F) → (⟨S8x270000x10, .f32⟩ : BufTy).Contents (Elt F) → (⟨S8x270000x10, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S8x270000x10, .f32⟩) main_call7_v0) (broadcastInDim S8x270000x10 ![] bcast_S_S8x270000x10),
    TRef.binary (TRef.of (T := ⟨S8x270000x10, .f32⟩) main_v60) (TRef.of (T := ⟨S8x270000x10, .f32⟩) main_call7_v0) (TRef.of (T := ⟨S8x270000x10, .f32⟩) main_v61) maximumf,
    unary main_arg8 main_v62 ((transpose S10x1 [1, 0] · transposes_S1x10_S10x1_1_0) : (⟨S1x10, .f32⟩ : BufTy).Contents (Elt F) → (⟨S10x1, .f32⟩ : BufTy).Contents (Elt F)),
    binary main_v61 main_v62 main_v63 ((fun l r => Host.dotGeneral dot_S8x270000x10_S10x1_S8x270000x1_2_0_01_1_n_n none l r) : (⟨S8x270000x10, .f32⟩ : BufTy).Contents (Elt F) → (⟨S10x1, .f32⟩ : BufTy).Contents (Elt F) → (⟨S8x270000x1, .f32⟩ : BufTy).Contents (Elt F)),
    unary main_arg9 main_v64 (broadcastInDim S1x1x1 ![2] bcast_S1_S1x1x1_2 : (⟨S1, .f32⟩ : BufTy).Contents (Elt F) → (⟨S1x1x1, .f32⟩ : BufTy).Contents (Elt F)),
    unary main_v64 main_v65 (broadcastInDim S8x270000x1 ![0, 1, 2] bcast_S1x1x1_S8x270000x1_0_1_2 : (⟨S1x1x1, .f32⟩ : BufTy).Contents (Elt F) → (⟨S8x270000x1, .f32⟩ : BufTy).Contents (Elt F)),
    binary main_v63 main_v65 main_v66 (addf : (⟨S8x270000x1, .f32⟩ : BufTy).Contents (Elt F) → (⟨S8x270000x1, .f32⟩ : BufTy).Contents (Elt F) → (⟨S8x270000x1, .f32⟩ : BufTy).Contents (Elt F)),
    unary main_v66 main_v67 (Host.negf : (⟨S8x270000x1, .f32⟩ : BufTy).Contents (Elt F) → (⟨S8x270000x1, .f32⟩ : BufTy).Contents (Elt F)),
    unary main_v67 main_v68 (Host.exp : (⟨S8x270000x1, .f32⟩ : BufTy).Contents (Elt F) → (⟨S8x270000x1, .f32⟩ : BufTy).Contents (Elt F)),
    nullary main_cst_7 (constant S_ .f32 0x3F800000#32),
    unary main_cst_7 main_v69 (broadcastInDim S8x270000x1 ![] bcast_S_S8x270000x1 : (⟨S_, .f32⟩ : BufTy).Contents (Elt F) → (⟨S8x270000x1, .f32⟩ : BufTy).Contents (Elt F)),
    binary main_v69 main_v68 main_v70 (addf : (⟨S8x270000x1, .f32⟩ : BufTy).Contents (Elt F) → (⟨S8x270000x1, .f32⟩ : BufTy).Contents (Elt F) → (⟨S8x270000x1, .f32⟩ : BufTy).Contents (Elt F)),
    nullary main_cst_8 (constant S_ .f32 0x3F800000#32),
    unary main_cst_8 main_v71 (broadcastInDim S8x270000x1 ![] bcast_S_S8x270000x1 : (⟨S_, .f32⟩ : BufTy).Contents (Elt F) → (⟨S8x270000x1, .f32⟩ : BufTy).Contents (Elt F)),
    binary main_v71 main_v70 main_v72 (Host.divf : (⟨S8x270000x1, .f32⟩ : BufTy).Contents (Elt F) → (⟨S8x270000x1, .f32⟩ : BufTy).Contents (Elt F) → (⟨S8x270000x1, .f32⟩ : BufTy).Contents (Elt F)),
    reshape main_v72 main_v73 (rfl : (.f32 : EltTy) = .f32) shapeCasts_S8x270000x1_S8x270000,
    reshape main_v73 main_v74 (rfl : (.f32 : EltTy) = .f32) shapeCasts_S8x270000_S8x30x9000 ]

/-- @main's operations 144 … 173 of 274 (window `main_part1`). -/
abbrev ops_part1_1 : List (HloOp τ sig (Elt F)) :=
  [ unary main_arg0 main_v75 ((transpose S8x9000x30 [0, 2, 1] · transposes_S8x30x9000_S8x9000x30_0_2_1) : (⟨S8x30x9000, .i32⟩ : BufTy).Contents (Elt F) → (⟨S8x9000x30, .i32⟩ : BufTy).Contents (Elt F)),
    unary main_v74 main_v76 ((transpose S8x9000x30 [0, 2, 1] · transposes_S8x30x9000_S8x9000x30_0_2_1) : (⟨S8x30x9000, .f32⟩ : BufTy).Contents (Elt F) → (⟨S8x9000x30, .f32⟩ : BufTy).Contents (Elt F)),
    unary main_v75 main_v77 (broadcastInDim S8x9000x1x30 ![0, 1, 3] bcast_S8x9000x30_S8x9000x1x30_0_1_3 : (⟨S8x9000x30, .i32⟩ : BufTy).Contents (Elt F) → (⟨S8x9000x1x30, .i32⟩ : BufTy).Contents (Elt F)),
    nullary main_v78 (iotaInDim S4 32 0),
    unary main_v78 main_v79 (broadcastInDim S1x1x4x1 ![2] bcast_S4_S1x1x4x1_2 : (⟨S4, .i32⟩ : BufTy).Contents (Elt F) → (⟨S1x1x4x1, .i32⟩ : BufTy).Contents (Elt F)),
    unary main_v77 main_v80 (broadcastInDim S8x9000x4x30 ![0, 1, 2, 3] bcast_S8x9000x1x30_S8x9000x4x30_0_1_2_3 : (⟨S8x9000x1x30, .i32⟩ : BufTy).Contents (Elt F) → (⟨S8x9000x4x30, .i32⟩ : BufTy).Contents (Elt F)),
    unary main_v79 main_v81 (broadcastInDim S8x9000x4x30 ![0, 1, 2, 3] bcast_S1x1x4x1_S8x9000x4x30_0_1_2_3 : (⟨S1x1x4x1, .i32⟩ : BufTy).Contents (Elt F) → (⟨S8x9000x4x30, .i32⟩ : BufTy).Contents (Elt F)),
    binary main_v80 main_v81 main_v82 (cmpi .eq : (⟨S8x9000x4x30, .i32⟩ : BufTy).Contents (Elt F) → (⟨S8x9000x4x30, .i32⟩ : BufTy).Contents (Elt F) → (⟨S8x9000x4x30, .i1⟩ : BufTy).Contents (Elt F)),
    unary main_v76 main_v83 (broadcastInDim S8x9000x1x30 ![0, 1, 3] bcast_S8x9000x30_S8x9000x1x30_0_1_3 : (⟨S8x9000x30, .f32⟩ : BufTy).Contents (Elt F) → (⟨S8x9000x1x30, .f32⟩ : BufTy).Contents (Elt F)),
    unary main_v76 main_v84 (broadcastInDim S8x9000x1x30 ![0, 1, 3] bcast_S8x9000x30_S8x9000x1x30_0_1_3 : (⟨S8x9000x30, .f32⟩ : BufTy).Contents (Elt F) → (⟨S8x9000x1x30, .f32⟩ : BufTy).Contents (Elt F)),
    nullary main_cst_9 (constant S_ .f32 0x3F800000#32),
    unary main_cst_9 main_v85 (broadcastInDim S8x9000x1x30 ![] bcast_S_S8x9000x1x30 : (⟨S_, .f32⟩ : BufTy).Contents (Elt F) → (⟨S8x9000x1x30, .f32⟩ : BufTy).Contents (Elt F)),
    binary main_v85 main_v84 main_v86 (subf : (⟨S8x9000x1x30, .f32⟩ : BufTy).Contents (Elt F) → (⟨S8x9000x1x30, .f32⟩ : BufTy).Contents (Elt F) → (⟨S8x9000x1x30, .f32⟩ : BufTy).Contents (Elt F)),
    nullary main_cst_10 (constant S_ .f32 0x40400000#32),
    unary main_cst_10 main_v87 (broadcastInDim S8x9000x1x30 ![] bcast_S_S8x9000x1x30 : (⟨S_, .f32⟩ : BufTy).Contents (Elt F) → (⟨S8x9000x1x30, .f32⟩ : BufTy).Contents (Elt F)),
    binary main_v86 main_v87 main_v88 (Host.divf : (⟨S8x9000x1x30, .f32⟩ : BufTy).Contents (Elt F) → (⟨S8x9000x1x30, .f32⟩ : BufTy).Contents (Elt F) → (⟨S8x9000x1x30, .f32⟩ : BufTy).Contents (Elt F)),
    TRef.unary (TRef.of (T := ⟨S8x9000x1x30, .f32⟩) main_v83) (TRef.of (T := ⟨S8x9000x4x30, .f32⟩) main_call8_v0) (broadcastInDim S8x9000x4x30 ![0, 1, 2, 3] bcast_S8x9000x1x30_S8x9000x4x30_0_1_2_3),
    TRef.unary (TRef.of (T := ⟨S8x9000x1x30, .f32⟩) main_v88) (TRef.of (T := ⟨S8x9000x4x30, .f32⟩) main_call8_v1) (broadcastInDim S8x9000x4x30 ![0, 1, 2, 3] bcast_S8x9000x1x30_S8x9000x4x30_0_1_2_3),
    TRef.ternary (TRef.of (T := ⟨S8x9000x4x30, .i1⟩) main_v82) (TRef.of (T := ⟨S8x9000x4x30, .f32⟩) main_call8_v0) (TRef.of (T := ⟨S8x9000x4x30, .f32⟩) main_call8_v1) (TRef.of (T := ⟨S8x9000x4x30, .f32⟩) main_v89) select,
    reshape main_v89 main_v90 (rfl : (.f32 : EltTy) = .f32) shapeCasts_S8x9000x4x30_S288000x30,
    unary main_arg10 main_v91 ((transpose S30x15 [1, 0] · transposes_S15x30_S30x15_1_0) : (⟨S15x30, .f32⟩ : BufTy).Contents (Elt F) → (⟨S30x15, .f32⟩ : BufTy).Contents (Elt F)),
    binary main_v90 main_v91 main_v92 ((fun l r => Host.dotGeneral dot_S288000x30_S30x15_S288000x15_1_0_0_1_n_n none l r) : (⟨S288000x30, .f32⟩ : BufTy).Contents (Elt F) → (⟨S30x15, .f32⟩ : BufTy).Contents (Elt F) → (⟨S288000x15, .f32⟩ : BufTy).Contents (Elt F)),
    unary main_arg11 main_v93 (broadcastInDim S1x15 ![1] bcast_S15_S1x15_1 : (⟨S15, .f32⟩ : BufTy).Contents (Elt F) → (⟨S1x15, .f32⟩ : BufTy).Contents (Elt F)),
    unary main_v93 main_v94 (broadcastInDim S288000x15 ![0, 1] bcast_S1x15_S288000x15_0_1 : (⟨S1x15, .f32⟩ : BufTy).Contents (Elt F) → (⟨S288000x15, .f32⟩ : BufTy).Contents (Elt F)),
    binary main_v92 main_v94 main_v95 (addf : (⟨S288000x15, .f32⟩ : BufTy).Contents (Elt F) → (⟨S288000x15, .f32⟩ : BufTy).Contents (Elt F) → (⟨S288000x15, .f32⟩ : BufTy).Contents (Elt F)),
    unary main_v95 main_v96 (Host.tanh : (⟨S288000x15, .f32⟩ : BufTy).Contents (Elt F) → (⟨S288000x15, .f32⟩ : BufTy).Contents (Elt F)),
    unary main_arg12 main_v97 ((transpose S15x15 [1, 0] · transposes_S15x15_S15x15_1_0) : (⟨S15x15, .f32⟩ : BufTy).Contents (Elt F) → (⟨S15x15, .f32⟩ : BufTy).Contents (Elt F)),
    binary main_v96 main_v97 main_v98 ((fun l r => Host.dotGeneral dot_S288000x15_S15x15_S288000x15_1_0_0_1_n_n none l r) : (⟨S288000x15, .f32⟩ : BufTy).Contents (Elt F) → (⟨S15x15, .f32⟩ : BufTy).Contents (Elt F) → (⟨S288000x15, .f32⟩ : BufTy).Contents (Elt F)),
    unary main_arg13 main_v99 (broadcastInDim S1x15 ![1] bcast_S15_S1x15_1 : (⟨S15, .f32⟩ : BufTy).Contents (Elt F) → (⟨S1x15, .f32⟩ : BufTy).Contents (Elt F)),
    unary main_v99 main_v100 (broadcastInDim S288000x15 ![0, 1] bcast_S1x15_S288000x15_0_1 : (⟨S1x15, .f32⟩ : BufTy).Contents (Elt F) → (⟨S288000x15, .f32⟩ : BufTy).Contents (Elt F)) ]

/-- @main's operations 174 … 179 of 274 (window `main_part1`). -/
abbrev ops_part1_2 : List (HloOp τ sig (Elt F)) :=
  [ binary main_v98 main_v100 main_v101 (addf : (⟨S288000x15, .f32⟩ : BufTy).Contents (Elt F) → (⟨S288000x15, .f32⟩ : BufTy).Contents (Elt F) → (⟨S288000x15, .f32⟩ : BufTy).Contents (Elt F)),
    unary main_v101 main_v102 (Host.tanh : (⟨S288000x15, .f32⟩ : BufTy).Contents (Elt F) → (⟨S288000x15, .f32⟩ : BufTy).Contents (Elt F)),
    unary main_arg14 main_v103 ((transpose S15x15 [1, 0] · transposes_S15x15_S15x15_1_0) : (⟨S15x15, .f32⟩ : BufTy).Contents (Elt F) → (⟨S15x15, .f32⟩ : BufTy).Contents (Elt F)),
    binary main_v102 main_v103 main_v104 ((fun l r => Host.dotGeneral dot_S288000x15_S15x15_S288000x15_1_0_0_1_n_n none l r) : (⟨S288000x15, .f32⟩ : BufTy).Contents (Elt F) → (⟨S15x15, .f32⟩ : BufTy).Contents (Elt F) → (⟨S288000x15, .f32⟩ : BufTy).Contents (Elt F)),
    unary main_arg15 main_v105 (broadcastInDim S1x15 ![1] bcast_S15_S1x15_1 : (⟨S15, .f32⟩ : BufTy).Contents (Elt F) → (⟨S1x15, .f32⟩ : BufTy).Contents (Elt F)),
    unary main_v105 main_v106 (broadcastInDim S288000x15 ![0, 1] bcast_S1x15_S288000x15_0_1 : (⟨S1x15, .f32⟩ : BufTy).Contents (Elt F) → (⟨S288000x15, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 180 … 209 of 274 (window `main_part2`). -/
abbrev ops_part2_0 : List (HloOp τ sig (Elt F)) :=
  [ binary main_v104 main_v106 main_v107 (addf : (⟨S288000x15, .f32⟩ : BufTy).Contents (Elt F) → (⟨S288000x15, .f32⟩ : BufTy).Contents (Elt F) → (⟨S288000x15, .f32⟩ : BufTy).Contents (Elt F)),
    unary main_v107 main_v108 (Host.tanh : (⟨S288000x15, .f32⟩ : BufTy).Contents (Elt F) → (⟨S288000x15, .f32⟩ : BufTy).Contents (Elt F)),
    unary main_arg16 main_v109 ((transpose S15x1 [1, 0] · transposes_S1x15_S15x1_1_0) : (⟨S1x15, .f32⟩ : BufTy).Contents (Elt F) → (⟨S15x1, .f32⟩ : BufTy).Contents (Elt F)),
    binary main_v108 main_v109 main_v110 ((fun l r => Host.dotGeneral dot_S288000x15_S15x1_S288000x1_1_0_0_1_n_n none l r) : (⟨S288000x15, .f32⟩ : BufTy).Contents (Elt F) → (⟨S15x1, .f32⟩ : BufTy).Contents (Elt F) → (⟨S288000x1, .f32⟩ : BufTy).Contents (Elt F)),
    unary main_arg17 main_v111 (broadcastInDim S1x1 ![1] bcast_S1_S1x1_1 : (⟨S1, .f32⟩ : BufTy).Contents (Elt F) → (⟨S1x1, .f32⟩ : BufTy).Contents (Elt F)),
    unary main_v111 main_v112 (broadcastInDim S288000x1 ![0, 1] bcast_S1x1_S288000x1_0_1 : (⟨S1x1, .f32⟩ : BufTy).Contents (Elt F) → (⟨S288000x1, .f32⟩ : BufTy).Contents (Elt F)),
    binary main_v110 main_v112 main_v113 (addf : (⟨S288000x1, .f32⟩ : BufTy).Contents (Elt F) → (⟨S288000x1, .f32⟩ : BufTy).Contents (Elt F) → (⟨S288000x1, .f32⟩ : BufTy).Contents (Elt F)),
    reshape main_v113 main_v114 (rfl : (.f32 : EltTy) = .f32) shapeCasts_S288000x1_S72000x4,
    nullary main_cst_11 (constant S_ .f32 0xFF800000#32),
    binary main_v114 main_cst_11 main_v115 ((fun x v => Host.reduce FloatOps.maximumf x v reducesTo_S72000x4_S72000_d1 h_S_) : (⟨S72000x4, .f32⟩ : BufTy).Contents (Elt F) → (⟨S_, .f32⟩ : BufTy).Contents (Elt F) → (⟨S72000, .f32⟩ : BufTy).Contents (Elt F)),
    nullary main_cst_12 (constant S_ .f32 0xFF800000#32),
    unary main_cst_12 main_v116 (broadcastInDim S72000 ![] bcast_S_S72000 : (⟨S_, .f32⟩ : BufTy).Contents (Elt F) → (⟨S72000, .f32⟩ : BufTy).Contents (Elt F)),
    binary main_v116 main_v115 main_v117 (maximumf : (⟨S72000, .f32⟩ : BufTy).Contents (Elt F) → (⟨S72000, .f32⟩ : BufTy).Contents (Elt F) → (⟨S72000, .f32⟩ : BufTy).Contents (Elt F)),
    unary main_v117 main_v118 (broadcastInDim S72000x1 ![0] bcast_S72000_S72000x1_0 : (⟨S72000, .f32⟩ : BufTy).Contents (Elt F) → (⟨S72000x1, .f32⟩ : BufTy).Contents (Elt F)),
    unary main_v118 main_v119 (broadcastInDim S72000x4 ![0, 1] bcast_S72000x1_S72000x4_0_1 : (⟨S72000x1, .f32⟩ : BufTy).Contents (Elt F) → (⟨S72000x4, .f32⟩ : BufTy).Contents (Elt F)),
    binary main_v114 main_v119 main_v120 (subf : (⟨S72000x4, .f32⟩ : BufTy).Contents (Elt F) → (⟨S72000x4, .f32⟩ : BufTy).Contents (Elt F) → (⟨S72000x4, .f32⟩ : BufTy).Contents (Elt F)),
    unary main_v120 main_v121 (Host.exp : (⟨S72000x4, .f32⟩ : BufTy).Contents (Elt F) → (⟨S72000x4, .f32⟩ : BufTy).Contents (Elt F)),
    nullary main_cst_13 (constant S_ .f32 0x00000000#32),
    binary main_v121 main_cst_13 main_v122 ((fun x v => Host.reduceAdd x v reducesTo_S72000x4_S72000_d1 h_S_) : (⟨S72000x4, .f32⟩ : BufTy).Contents (Elt F) → (⟨S_, .f32⟩ : BufTy).Contents (Elt F) → (⟨S72000, .f32⟩ : BufTy).Contents (Elt F)),
    unary main_v122 main_v123 (broadcastInDim S72000x1 ![0] bcast_S72000_S72000x1_0 : (⟨S72000, .f32⟩ : BufTy).Contents (Elt F) → (⟨S72000x1, .f32⟩ : BufTy).Contents (Elt F)),
    unary main_v123 main_v124 (broadcastInDim S72000x4 ![0, 1] bcast_S72000x1_S72000x4_0_1 : (⟨S72000x1, .f32⟩ : BufTy).Contents (Elt F) → (⟨S72000x4, .f32⟩ : BufTy).Contents (Elt F)),
    binary main_v121 main_v124 main_v125 (Host.divf : (⟨S72000x4, .f32⟩ : BufTy).Contents (Elt F) → (⟨S72000x4, .f32⟩ : BufTy).Contents (Elt F) → (⟨S72000x4, .f32⟩ : BufTy).Contents (Elt F)),
    unary main_arg1 main_v126 (broadcastInDim S8x1x9000 ![0, 2] bcast_S8x9000_S8x1x9000_0_2 : (⟨S8x9000, .i32⟩ : BufTy).Contents (Elt F) → (⟨S8x1x9000, .i32⟩ : BufTy).Contents (Elt F)),
    unary main_v126 main_v127 (broadcastInDim S8x30x9000 ![0, 1, 2] bcast_S8x1x9000_S8x30x9000_0_1_2 : (⟨S8x1x9000, .i32⟩ : BufTy).Contents (Elt F) → (⟨S8x30x9000, .i32⟩ : BufTy).Contents (Elt F)),
    binary main_arg0 main_v127 main_v128 (cmpi .eq : (⟨S8x30x9000, .i32⟩ : BufTy).Contents (Elt F) → (⟨S8x30x9000, .i32⟩ : BufTy).Contents (Elt F) → (⟨S8x30x9000, .i1⟩ : BufTy).Contents (Elt F)),
    unary main_v128 main_v129 (uitofp .f32 : (⟨S8x30x9000, .i1⟩ : BufTy).Contents (Elt F) → (⟨S8x30x9000, .f32⟩ : BufTy).Contents (Elt F)),
    reshape main_v129 main_v130 (rfl : (.f32 : EltTy) = .f32) shapeCasts_S8x30x9000_S8x270000,
    unary main_v73 main_v131 (Host.log : (⟨S8x270000, .f32⟩ : BufTy).Contents (Elt F) → (⟨S8x270000, .f32⟩ : BufTy).Contents (Elt F)),
    nullary main_cst_14 (constant S_ .f32 0xC2C80000#32),
    unary main_cst_14 main_v132 (broadcastInDim S8x270000 ![] bcast_S_S8x270000 : (⟨S_, .f32⟩ : BufTy).Contents (Elt F) → (⟨S8x270000, .f32⟩ : BufTy).Contents (Elt F)) ]

/-- @main's operations 210 … 239 of 274 (window `main_part2`). -/
abbrev ops_part2_1 : List (HloOp τ sig (Elt F)) :=
  [ binary main_v131 main_v132 main_v133 (maximumf : (⟨S8x270000, .f32⟩ : BufTy).Contents (Elt F) → (⟨S8x270000, .f32⟩ : BufTy).Contents (Elt F) → (⟨S8x270000, .f32⟩ : BufTy).Contents (Elt F)),
    nullary main_cst_15 (constant S_ .f32 0x3F800000#32),
    unary main_cst_15 main_v134 (broadcastInDim S8x270000 ![] bcast_S_S8x270000 : (⟨S_, .f32⟩ : BufTy).Contents (Elt F) → (⟨S8x270000, .f32⟩ : BufTy).Contents (Elt F)),
    binary main_v134 main_v73 main_v135 (subf : (⟨S8x270000, .f32⟩ : BufTy).Contents (Elt F) → (⟨S8x270000, .f32⟩ : BufTy).Contents (Elt F) → (⟨S8x270000, .f32⟩ : BufTy).Contents (Elt F)),
    unary main_v135 main_v136 (Host.log : (⟨S8x270000, .f32⟩ : BufTy).Contents (Elt F) → (⟨S8x270000, .f32⟩ : BufTy).Contents (Elt F)),
    nullary main_cst_16 (constant S_ .f32 0xC2C80000#32),
    unary main_cst_16 main_v137 (broadcastInDim S8x270000 ![] bcast_S_S8x270000 : (⟨S_, .f32⟩ : BufTy).Contents (Elt F) → (⟨S8x270000, .f32⟩ : BufTy).Contents (Elt F)),
    binary main_v136 main_v137 main_v138 (maximumf : (⟨S8x270000, .f32⟩ : BufTy).Contents (Elt F) → (⟨S8x270000, .f32⟩ : BufTy).Contents (Elt F) → (⟨S8x270000, .f32⟩ : BufTy).Contents (Elt F)),
    binary main_v130 main_v133 main_v139 (mulf : (⟨S8x270000, .f32⟩ : BufTy).Contents (Elt F) → (⟨S8x270000, .f32⟩ : BufTy).Contents (Elt F) → (⟨S8x270000, .f32⟩ : BufTy).Contents (Elt F)),
    nullary main_cst_17 (constant S_ .f32 0x3F800000#32),
    unary main_cst_17 main_v140 (broadcastInDim S8x270000 ![] bcast_S_S8x270000 : (⟨S_, .f32⟩ : BufTy).Contents (Elt F) → (⟨S8x270000, .f32⟩ : BufTy).Contents (Elt F)),
    binary main_v140 main_v130 main_v141 (subf : (⟨S8x270000, .f32⟩ : BufTy).Contents (Elt F) → (⟨S8x270000, .f32⟩ : BufTy).Contents (Elt F) → (⟨S8x270000, .f32⟩ : BufTy).Contents (Elt F)),
    binary main_v141 main_v138 main_v142 (mulf : (⟨S8x270000, .f32⟩ : BufTy).Contents (Elt F) → (⟨S8x270000, .f32⟩ : BufTy).Contents (Elt F) → (⟨S8x270000, .f32⟩ : BufTy).Contents (Elt F)),
    binary main_v139 main_v142 main_v143 (addf : (⟨S8x270000, .f32⟩ : BufTy).Contents (Elt F) → (⟨S8x270000, .f32⟩ : BufTy).Contents (Elt F) → (⟨S8x270000, .f32⟩ : BufTy).Contents (Elt F)),
    nullary main_cst_18 (constant S_ .f32 0x00000000#32),
    binary main_v143 main_cst_18 main_v144 ((fun x v => Host.reduceAdd x v reducesTo_S8x270000_S_d0_1 h_S_) : (⟨S8x270000, .f32⟩ : BufTy).Contents (Elt F) → (⟨S_, .f32⟩ : BufTy).Contents (Elt F) → (⟨S_, .f32⟩ : BufTy).Contents (Elt F)),
    nullary main_cst_19 (constant S_ .f32 0x4A03D600#32),
    binary main_v144 main_cst_19 main_v145 (Host.divf : (⟨S_, .f32⟩ : BufTy).Contents (Elt F) → (⟨S_, .f32⟩ : BufTy).Contents (Elt F) → (⟨S_, .f32⟩ : BufTy).Contents (Elt F)),
    unary main_v145 main_v146 (Host.negf : (⟨S_, .f32⟩ : BufTy).Contents (Elt F) → (⟨S_, .f32⟩ : BufTy).Contents (Elt F)),
    TRef.nullary (TRef.of (T := ⟨S_, .f32⟩) main_call9_cst) (constant S_ .f32 0xFF800000#32),
    TRef.binary (TRef.of (T := ⟨S72000x4, .f32⟩) main_v125) (TRef.of (T := ⟨S_, .f32⟩) main_call9_cst) (TRef.of (T := ⟨S72000, .f32⟩) main_call9_v0) (fun x v => Host.reduce FloatOps.maximumf x v reducesTo_S72000x4_S72000_d1 h_S_),
    TRef.nullary (TRef.of (T := ⟨S_, .f32⟩) main_call9_cst_0) (constant S_ .f32 0xFF800000#32),
    TRef.unary (TRef.of (T := ⟨S_, .f32⟩) main_call9_cst_0) (TRef.of (T := ⟨S72000, .f32⟩) main_call9_v1) (broadcastInDim S72000 ![] bcast_S_S72000),
    TRef.binary (TRef.of (T := ⟨S72000, .f32⟩) main_call9_v1) (TRef.of (T := ⟨S72000, .f32⟩) main_call9_v0) (TRef.of (T := ⟨S72000, .f32⟩) main_call9_v2) maximumf,
    TRef.unary (TRef.of (T := ⟨S72000, .f32⟩) main_call9_v2) (TRef.of (T := ⟨S72000x1, .f32⟩) main_call9_v3) (broadcastInDim S72000x1 ![0] bcast_S72000_S72000x1_0),
    TRef.unary (TRef.of (T := ⟨S72000x1, .f32⟩) main_call9_v3) (TRef.of (T := ⟨S72000x4, .f32⟩) main_call9_v4) (broadcastInDim S72000x4 ![0, 1] bcast_S72000x1_S72000x4_0_1),
    TRef.binary (TRef.of (T := ⟨S72000x4, .f32⟩) main_v125) (TRef.of (T := ⟨S72000x4, .f32⟩) main_call9_v4) (TRef.of (T := ⟨S72000x4, .f32⟩) main_call9_v5) subf,
    TRef.unary (TRef.of (T := ⟨S72000x4, .f32⟩) main_call9_v5) (TRef.of (T := ⟨S72000x4, .f32⟩) main_call9_v6) Host.exp,
    TRef.nullary (TRef.of (T := ⟨S_, .f32⟩) main_call9_cst_1) (constant S_ .f32 0x00000000#32),
    TRef.binary (TRef.of (T := ⟨S72000x4, .f32⟩) main_call9_v6) (TRef.of (T := ⟨S_, .f32⟩) main_call9_cst_1) (TRef.of (T := ⟨S72000, .f32⟩) main_call9_v7) (fun x v => Host.reduceAdd x v reducesTo_S72000x4_S72000_d1 h_S_) ]

/-- @main's operations 240 … 269 of 274 (window `main_part2`). -/
abbrev ops_part2_2 : List (HloOp τ sig (Elt F)) :=
  [ TRef.unary (TRef.of (T := ⟨S72000, .f32⟩) main_call9_v7) (TRef.of (T := ⟨S72000x1, .f32⟩) main_call9_v8) (broadcastInDim S72000x1 ![0] bcast_S72000_S72000x1_0),
    TRef.unary (TRef.of (T := ⟨S72000x1, .f32⟩) main_call9_v8) (TRef.of (T := ⟨S72000x1, .f32⟩) main_call9_v9) Host.log,
    TRef.unary (TRef.of (T := ⟨S72000x1, .f32⟩) main_call9_v9) (TRef.of (T := ⟨S72000x4, .f32⟩) main_call9_v10) (broadcastInDim S72000x4 ![0, 1] bcast_S72000x1_S72000x4_0_1),
    TRef.binary (TRef.of (T := ⟨S72000x4, .f32⟩) main_call9_v5) (TRef.of (T := ⟨S72000x4, .f32⟩) main_call9_v10) (TRef.of (T := ⟨S72000x4, .f32⟩) main_v147) subf,
    reshape main_arg1 main_v148 (rfl : (.i32 : EltTy) = .i32) shapeCasts_S8x9000_S72000,
    unary main_v148 main_v149 (broadcastInDim S72000x1 ![0] bcast_S72000_S72000x1_0 : (⟨S72000, .i32⟩ : BufTy).Contents (Elt F) → (⟨S72000x1, .i32⟩ : BufTy).Contents (Elt F)),
    TRef.nullary (TRef.of (T := ⟨S_, .i32⟩) main_call10_c) (constantI S_ 32 0#32),
    TRef.unary (TRef.of (T := ⟨S_, .i32⟩) main_call10_c) (TRef.of (T := ⟨S72000x1, .i32⟩) main_call10_v0) (broadcastInDim S72000x1 ![] bcast_S_S72000x1),
    TRef.binary (TRef.of (T := ⟨S72000x1, .i32⟩) main_v149) (TRef.of (T := ⟨S72000x1, .i32⟩) main_call10_v0) (TRef.of (T := ⟨S72000x1, .i1⟩) main_call10_v1) (cmpi .slt),
    TRef.nullary (TRef.of (T := ⟨S_, .i32⟩) main_call10_c_0) (constantI S_ 32 4#32),
    TRef.unary (TRef.of (T := ⟨S_, .i32⟩) main_call10_c_0) (TRef.of (T := ⟨S72000x1, .i32⟩) main_call10_v2) (broadcastInDim S72000x1 ![] bcast_S_S72000x1),
    TRef.binary (TRef.of (T := ⟨S72000x1, .i32⟩) main_v149) (TRef.of (T := ⟨S72000x1, .i32⟩) main_call10_v2) (TRef.of (T := ⟨S72000x1, .i32⟩) main_call10_v3) addi,
    TRef.ternary (TRef.of (T := ⟨S72000x1, .i1⟩) main_call10_v1) (TRef.of (T := ⟨S72000x1, .i32⟩) main_call10_v3) (TRef.of (T := ⟨S72000x1, .i32⟩) main_v149) (TRef.of (T := ⟨S72000x1, .i32⟩) main_call10_v4) select,
    TRef.reshape (TRef.of (T := ⟨S72000x1, .i32⟩) main_call10_v4) (TRef.of (T := ⟨S72000x1x1, .i32⟩) main_call10_v5) (rfl : (.i32 : EltTy) = .i32) shapeCasts_S72000x1_S72000x1x1,
    TRef.nullary (TRef.of (T := ⟨S1, .i32⟩) main_call10_c_1) (constantI S1 32 3#32),
    TRef.nullary (TRef.of (T := ⟨S_, .i32⟩) main_call10_c_2) (constantI S_ 32 0#32),
    TRef.unary (TRef.of (T := ⟨S_, .i32⟩) main_call10_c_2) (TRef.of (T := ⟨S72000x1x1, .i32⟩) main_call10_v6) (broadcastInDim S72000x1x1 ![] bcast_S_S72000x1x1),
    TRef.binary (TRef.of (T := ⟨S72000x1x1, .i32⟩) main_call10_v5) (TRef.of (T := ⟨S72000x1x1, .i32⟩) main_call10_v6) (TRef.of (T := ⟨S72000x1x1, .i1⟩) main_call10_v7) (cmpi .sge),
    TRef.unary (TRef.of (T := ⟨S1, .i32⟩) main_call10_c_1) (TRef.of (T := ⟨S1x1x1, .i32⟩) main_call10_v8) (broadcastInDim S1x1x1 ![2] bcast_S1_S1x1x1_2),
    TRef.unary (TRef.of (T := ⟨S1x1x1, .i32⟩) main_call10_v8) (TRef.of (T := ⟨S72000x1x1, .i32⟩) main_call10_v9) (broadcastInDim S72000x1x1 ![0, 1, 2] bcast_S1x1x1_S72000x1x1_0_1_2),
    TRef.binary (TRef.of (T := ⟨S72000x1x1, .i32⟩) main_call10_v5) (TRef.of (T := ⟨S72000x1x1, .i32⟩) main_call10_v9) (TRef.of (T := ⟨S72000x1x1, .i1⟩) main_call10_v10) (cmpi .sle),
    TRef.binary (TRef.of (T := ⟨S72000x1x1, .i1⟩) main_call10_v7) (TRef.of (T := ⟨S72000x1x1, .i1⟩) main_call10_v10) (TRef.of (T := ⟨S72000x1x1, .i1⟩) main_call10_v11) andi,
    TRef.nullary (TRef.of (T := ⟨S_, .i1⟩) main_call10_c_3) (constantI S_ 1 1#1),
    TRef.binary (TRef.of (T := ⟨S72000x1x1, .i1⟩) main_call10_v11) (TRef.of (T := ⟨S_, .i1⟩) main_call10_c_3) (TRef.of (T := ⟨S72000x1, .i1⟩) main_call10_v12) (fun x v => Host.reduce IntOp.andi x v reducesTo_S72000x1x1_S72000x1_d2 h_S_),
    TRef.binary (TRef.of (T := ⟨S72000x4, .f32⟩) main_v147) (TRef.of (T := ⟨S72000x1x1, .i32⟩) main_call10_v5) (TRef.of (T := ⟨S72000x1, .f32⟩) main_call10_v13) (fun x i => Host.gather gather_S72000x4_S72000x1x1_S72000x1_n_1_0_0_1_2_11 x i),
    TRef.nullary (TRef.of (T := ⟨S_, .f32⟩) main_call10_cst) (constant S_ .f32 0x7FC00000#32),
    TRef.unary (TRef.of (T := ⟨S_, .f32⟩) main_call10_cst) (TRef.of (T := ⟨S72000x1, .f32⟩) main_call10_v14) (broadcastInDim S72000x1 ![] bcast_S_S72000x1),
    TRef.ternary (TRef.of (T := ⟨S72000x1, .i1⟩) main_call10_v12) (TRef.of (T := ⟨S72000x1, .f32⟩) main_call10_v13) (TRef.of (T := ⟨S72000x1, .f32⟩) main_call10_v14) (TRef.of (T := ⟨S72000x1, .f32⟩) main_v150) select,
    nullary main_cst_20 (constant S_ .f32 0x00000000#32),
    binary main_v150 main_cst_20 main_v151 ((fun x v => Host.reduceAdd x v reducesTo_S72000x1_S_d0_1 h_S_) : (⟨S72000x1, .f32⟩ : BufTy).Contents (Elt F) → (⟨S_, .f32⟩ : BufTy).Contents (Elt F) → (⟨S_, .f32⟩ : BufTy).Contents (Elt F)) ]

/-- @main's operations 270 … 274 of 274 (window `main_part2`). -/
abbrev ops_part2_3 : List (HloOp τ sig (Elt F)) :=
  [ nullary main_cst_21 (constant S_ .f32 0x478CA000#32),
    binary main_v151 main_cst_21 main_v152 (Host.divf : (⟨S_, .f32⟩ : BufTy).Contents (Elt F) → (⟨S_, .f32⟩ : BufTy).Contents (Elt F) → (⟨S_, .f32⟩ : BufTy).Contents (Elt F)),
    unary main_v152 main_v153 (Host.negf : (⟨S_, .f32⟩ : BufTy).Contents (Elt F) → (⟨S_, .f32⟩ : BufTy).Contents (Elt F)),
    reshape main_v146 main_v154 (rfl : (.f32 : EltTy) = .f32) shapeCasts_S_S1x1,
    reshape main_v153 main_v155 (rfl : (.f32 : EltTy) = .f32) shapeCasts_S_S1x1 ]

/-- Window `main_part2`'s operations. Not an abbreviation: `main_eq` below splits `ops` into the windows and no further. -/
def ops_part2 : List (HloOp τ sig (Elt F)) :=
  ops_part2_0 ++ (ops_part2_1 ++ (ops_part2_2 ++ (ops_part2_3)))

/-- No operation of @main: window `main_part3` only returns. -/
abbrev ops_part3 : List (HloOp τ sig (Elt F)) :=
  []

/-- @main's 274 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
/-- This window of the program is its list of operations, run in order. -/
theorem main_part0_eq (c : Dev nD) : main_part0 (F := F) c = seq ops_part0 := rfl
set_option maxRecDepth 8192 in
set_option maxHeartbeats 4000000 in
/-- This window of the program is its list of operations, run in order. -/
theorem main_part1_eq (c : Dev nD) : main_part1 (F := F) c = seq ops_part1 := rfl
set_option maxRecDepth 8192 in
set_option maxHeartbeats 4000000 in
/-- This window of the program is its list of operations, run in order. -/
theorem main_part2_eq (c : Dev nD) : main_part2 (F := F) c = seq ops_part2 := rfl
set_option maxRecDepth 8192 in
/-- This window of the program is its list of operations, run in order. -/
theorem main_part3_eq (c : Dev nD) : main_part3 (F := F) c = seq ops_part3 := rfl
set_option maxRecDepth 8192 in
/-- The program is its list of operations, run in order. -/
theorem main_eq (c : Dev nD) : main (F := F) c = seq ops := by
  simp only [ops, seq_append, ← main_part0_eq c, ← main_part1_eq c, ← main_part2_eq c, ← main_part3_eq c]
  rfl
/-- The program has no scoped buffer. -/
theorem scopedRefs_eq : (Finset.univ.filter fun b : Ref sig .tc => b.isScoped) = ∅ := by decide
/-- The program has no scoped semaphore. -/
theorem scopedSems_eq : (Finset.univ.filter fun sm : SemLoc sig => sm.isScoped .tc) = ∅ := by decide
set_option maxRecDepth 8192 in
/-- These operations touch only buffers of the program. -/
theorem ops_part0_0_sub : (ops_part0_0 : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., unary_bufs_sub .., unary_bufs_sub .., binary_bufs_sub .., unary_bufs_sub .., nullary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub ..⟩
set_option maxRecDepth 8192 in
/-- These operations allocate no buffer of their own. -/
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part0_1_sub : (ops_part0_1 : List (HloOp τ sig (Elt F))).Forall fun op => op.bufs ⊆ tcRefs τ sig :=
  ⟨binary_bufs_sub .., nullary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub ..⟩
set_option maxRecDepth 8192 in
/-- These operations allocate no buffer of their own. -/
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part0_2_sub : (ops_part0_2 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., binary_bufs_sub ..⟩
set_option maxRecDepth 8192 in
/-- These operations allocate no buffer of their own. -/
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part0_3_sub : (ops_part0_3 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., binary_bufs_sub .., unary_bufs_sub .., unary_bufs_sub .., unary_bufs_sub .., unary_bufs_sub .., binary_bufs_sub .., reshape_bufs_sub .., unary_bufs_sub .., binary_bufs_sub .., unary_bufs_sub .., unary_bufs_sub .., binary_bufs_sub .., nullary_bufs_sub .., unary_bufs_sub .., binary_bufs_sub .., unary_bufs_sub ..⟩
set_option maxRecDepth 8192 in
/-- These operations allocate no buffer of their own. -/
theorem ops_part0_3_fresh : (ops_part0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part1_0_sub : (ops_part1_0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., reshape_bufs_sub ..⟩
set_option maxRecDepth 8192 in
/-- These operations allocate no buffer of their own. -/
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part1_1_sub : (ops_part1_1 : List (HloOp τ sig (Elt F))).Forall fun op => op.bufs ⊆ tcRefs τ sig :=
  ⟨unary_bufs_sub .., unary_bufs_sub .., unary_bufs_sub .., nullary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., ternary_bufs_sub .., reshape_bufs_sub .., unary_bufs_sub .., binary_bufs_sub .., unary_bufs_sub .., unary_bufs_sub .., binary_bufs_sub .., unary_bufs_sub .., unary_bufs_sub .., binary_bufs_sub .., unary_bufs_sub .., unary_bufs_sub ..⟩
set_option maxRecDepth 8192 in
/-- These operations allocate no buffer of their own. -/
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part1_2_sub : (ops_part1_2 : List (HloOp τ sig (Elt F))).Forall fun op => op.bufs ⊆ tcRefs τ sig :=
  ⟨binary_bufs_sub .., unary_bufs_sub .., unary_bufs_sub .., binary_bufs_sub .., unary_bufs_sub .., unary_bufs_sub ..⟩
set_option maxRecDepth 8192 in
/-- These operations allocate no buffer of their own. -/
theorem ops_part1_2_fresh : (ops_part1_2 : List (HloOp τ sig (Elt F))).Forall fun op => op.fresh = ∅ :=
  ⟨rfl, rfl, rfl, rfl, rfl, rfl⟩
set_option maxRecDepth 8192 in
/-- These operations touch only buffers of the program. -/
theorem ops_part2_0_sub : (ops_part2_0 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., reshape_bufs_sub .., unary_bufs_sub .., nullary_bufs_sub .., unary_bufs_sub ..⟩
set_option maxRecDepth 8192 in
/-- These operations allocate no buffer of their own. -/
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part2_1_sub : (ops_part2_1 : List (HloOp τ sig (Elt F))).Forall fun op => op.bufs ⊆ tcRefs τ sig :=
  ⟨binary_bufs_sub .., nullary_bufs_sub .., unary_bufs_sub .., binary_bufs_sub .., unary_bufs_sub .., nullary_bufs_sub .., unary_bufs_sub .., binary_bufs_sub .., binary_bufs_sub .., nullary_bufs_sub .., unary_bufs_sub .., binary_bufs_sub .., binary_bufs_sub .., binary_bufs_sub .., nullary_bufs_sub .., binary_bufs_sub .., nullary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub ..⟩
set_option maxRecDepth 8192 in
/-- These operations allocate no buffer of their own. -/
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part2_2_sub : (ops_part2_2 : List (HloOp τ sig (Elt F))).Forall fun op => op.bufs ⊆ tcRefs τ sig :=
  ⟨unary_bufs_sub .., unary_bufs_sub .., unary_bufs_sub .., binary_bufs_sub .., reshape_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub ..⟩
set_option maxRecDepth 8192 in
/-- These operations allocate no buffer of their own. -/
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
/-- These operations touch only buffers of the program. -/
theorem ops_part2_3_sub : (ops_part2_3 : List (HloOp τ sig (Elt F))).Forall fun op => op.bufs ⊆ tcRefs τ sig :=
  ⟨nullary_bufs_sub .., binary_bufs_sub .., unary_bufs_sub .., reshape_bufs_sub .., reshape_bufs_sub ..⟩
set_option maxRecDepth 8192 in
/-- These operations allocate no buffer of their own. -/
theorem ops_part2_3_fresh : (ops_part2_3 : List (HloOp τ sig (Elt F))).Forall fun op => op.fresh = ∅ :=
  ⟨rfl, rfl, rfl, rfl, rfl⟩
set_option maxRecDepth 8192 in
/-- These operations touch only buffers of the program. -/
theorem ops_part3_sub : (ops_part3 : List (HloOp τ sig (Elt F))).Forall fun op => op.bufs ⊆ tcRefs τ sig :=
  trivial
set_option maxRecDepth 8192 in
/-- These operations allocate no buffer of their own. -/
theorem ops_part3_fresh : (ops_part3 : List (HloOp τ sig (Elt F))).Forall fun op => op.fresh = ∅ :=
  trivial
/-- These operations touch only buffers of the program. -/
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part2_3_sub op h, List.forall_iff_forall_mem.mp ops_part3_sub op h]
/-- These operations allocate no buffer of their own. -/
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part2_3_fresh op h, List.forall_iff_forall_mem.mp ops_part3_fresh op h]

set_option maxRecDepth 8192 in
/-- `main_v7`'s composed term of the arguments (named: it is used 2 times). -/
def res_main_v7 (V0 : Valuation τ sig (Elt F)) : (Proc.devRef .tc main_v7 : DevRef τ sig).ty.Contents (Elt F) :=
  Host.reduce IntOp.addi (extui 32 (cmpi .eq (broadcastInDim S8x30x9000x4 ![0, 1, 2, 3] bcast_S8x30x9000x1_S8x30x9000x4_0_1_2_3 (broadcastInDim S8x30x9000x1 ![0, 1, 2] bcast_S8x30x9000_S8x30x9000x1_0_1_2 (V0 (Proc.devRef .tc main_arg0)))) (broadcastInDim S8x30x9000x4 ![0, 1, 2, 3] bcast_S1x1x1x4_S8x30x9000x4_0_1_2_3 (broadcastInDim S1x1x1x4 ![3] bcast_S4_S1x1x1x4_3 (iotaInDim S4 32 0)))) natLt_1_32) (constantI S_ 32 0#32) reducesTo_S8x30x9000x4_S8x9000x4_d1 h_S_

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S8x9000x4 32 2

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 2147483648#32

set_option maxRecDepth 8192 in
/-- `main_call0_c_0`'s composed term of the arguments (named: it is used 2 times). -/
def res_main_call0_c_0 (V0 : Valuation τ sig (Elt F)) : (Proc.devRef .tc main_call0_c_0 : DevRef τ sig).ty.Contents (Elt F) :=
  constantI S_ 32 0#32

set_option maxRecDepth 8192 in
/-- `main_v12`'s composed term of the arguments (named: it is used 4 times). -/
def res_main_v12 (V0 : Valuation τ sig (Elt F)) : (Proc.devRef .tc main_v12 : DevRef τ sig).ty.Contents (Elt F) :=
  uitofp .f32 (cmpi .eq (V0 (Proc.devRef .tc main_arg0)) (broadcastInDim S8x30x9000 ![0, 1, 2] bcast_S8x1x9000_S8x30x9000_0_1_2 (broadcastInDim S8x1x9000 ![0, 2] bcast_S8x9000_S8x1x9000_0_2 ((fun j => (Host.reduce2 reducer_argmax_i32_i32 (res_main_v7 V0) (res_main_call0_v0 V0) (res_main_call0_c V0) (res_main_call0_c_0 V0) reducesTo_S8x9000x4_S8x9000_d2 h_S_ j).2)))))

set_option maxRecDepth 8192 in
/-- `main_v15`'s composed term of the arguments (named: it is used 3 times). -/
def res_main_v15 (V0 : Valuation τ sig (Elt F)) : (Proc.devRef .tc main_v15 : DevRef τ sig).ty.Contents (Elt F) :=
  Host.divf (Host.reduceAdd (res_main_v12 V0) (constant S_ .f32 0x00000000#32) reducesTo_S8x30x9000_S8x30_d2 h_S_) (broadcastInDim S8x30 ![] bcast_S_S8x30 (constant S_ .f32 0x460CA000#32))

set_option maxRecDepth 8192 in
/-- `main_v18`'s composed term of the arguments (named: it is used 3 times). -/
def res_main_v18 (V0 : Valuation τ sig (Elt F)) : (Proc.devRef .tc main_v18 : DevRef τ sig).ty.Contents (Elt F) :=
  Host.divf (Host.reduceAdd (res_main_v12 V0) (constant S_ .f32 0x00000000#32) reducesTo_S8x30x9000_S8x9000_d1 h_S_) (broadcastInDim S8x9000 ![] bcast_S_S8x9000 (constant S_ .f32 0x41F00000#32))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S8x30 32 1

set_option maxRecDepth 8192 in
/-- `main_call2_v0`'s composed term of the arguments (named: it is used 2 times). -/
def res_main_call2_v0 (V0 : Valuation τ sig (Elt F)) : (Proc.devRef .tc main_call2_v0 : DevRef τ sig).ty.Contents (Elt F) :=
  iotaInDim S8x9000 32 1

set_option maxRecDepth 8192 in
/-- `main_v21`'s composed term of the arguments (named: it is used 3 times). -/
def res_main_v21 (V0 : Valuation τ sig (Elt F)) : (Proc.devRef .tc main_v21 : DevRef τ sig).ty.Contents (Elt F) :=
  broadcastInDim S8x1x9000 ![0, 2] bcast_S8x9000_S8x1x9000_0_2 ((Host.sort2 S8x9000 1 comparator_f32_i32_d1 (res_main_v18 V0) (res_main_call2_v0 V0)).2)

set_option maxRecDepth 8192 in
/-- `main_call3_v5`'s composed term of the arguments (named: it is used 3 times). -/
def res_main_call3_v5 (V0 : Valuation τ sig (Elt F)) : (Proc.devRef .tc main_call3_v5 : DevRef τ sig).ty.Contents (Elt F) :=
  shapeCast _ (select (cmpi .slt (res_main_v21 V0) (broadcastInDim S8x1x9000 ![] bcast_S_S8x1x9000 (constantI S_ 32 0#32))) (addi (res_main_v21 V0) (broadcastInDim S8x1x9000 ![] bcast_S_S8x1x9000 (constantI S_ 32 9000#32))) (res_main_v21 V0)) shapeCasts_S8x1x9000_S8x9000x1

set_option maxRecDepth 8192 in
/-- `main_v27`'s composed term of the arguments (named: it is used 3 times). -/
def res_main_v27 (V0 : Valuation τ sig (Elt F)) : (Proc.devRef .tc main_v27 : DevRef τ sig).ty.Contents (Elt F) :=
  broadcastInDim S8x30x1 ![0, 1] bcast_S8x30_S8x30x1_0_1 ((Host.sort2 S8x30 1 comparator_f32_i32_d1 (res_main_v15 V0) (res_main_call1_v0 V0)).2)

set_option maxRecDepth 8192 in
/-- `main_call4_v4`'s composed term of the arguments (named: it is used 3 times). -/
def res_main_call4_v4 (V0 : Valuation τ sig (Elt F)) : (Proc.devRef .tc main_call4_v4 : DevRef τ sig).ty.Contents (Elt F) :=
  select (cmpi .slt (res_main_v27 V0) (broadcastInDim S8x30x1 ![] bcast_S_S8x30x1 (constantI S_ 32 0#32))) (addi (res_main_v27 V0) (broadcastInDim S8x30x1 ![] bcast_S_S8x30x1 (constantI S_ 32 30#32))) (res_main_v27 V0)

set_option maxRecDepth 8192 in
/-- `main_v63`'s composed term of the arguments (named: it is long). -/
def res_main_v63 (V0 : Valuation τ sig (Elt F)) : (Proc.devRef .tc main_v63 : DevRef τ sig).ty.Contents (Elt F) :=
  Host.dotGeneral dot_S8x270000x10_S10x1_S8x270000x1_2_0_01_1_n_n none (maximumf (addf (Host.dotGeneral dot_S8x270000x10_S10x10_S8x270000x10_2_0_01_1_n_n none (maximumf (addf (Host.dotGeneral dot_S8x270000x10_S10x10_S8x270000x10_2_0_01_1_n_n none (maximumf (addf (Host.dotGeneral dot_S8x270000x8_S8x10_S8x270000x10_2_0_01_1_n_n none (shapeCast _ (concatenate S8x30x9000x8 3 [⟨S8x30x9000x4, (broadcastInDim S8x30x9000x4 ![0, 1, 2, 3] bcast_S8x30x1x4_S8x30x9000x4_0_1_2_3 (broadcastInDim S8x30x1x4 ![0, 1, 3] bcast_S8x30x4_S8x30x1x4_0_1_3 (concatenate S8x30x4 2 [⟨S8x30x1, (broadcastInDim S8x30x1 ![0, 1] bcast_S8x30_S8x30x1_0_1 (res_main_v15 V0))⟩, ⟨S8x30x3, (Host.divf (Host.reduceAdd (shapeCast _ (select (broadcastInDim S8x30x9000 ![0, 2] bcast_S8x9000_S8x30x9000_0_2 (Host.reduce IntOp.andi (andi (cmpi .sge (res_main_call3_v5 V0) (broadcastInDim S8x9000x1 ![] bcast_S_S8x9000x1 (constantI S_ 32 0#32))) (cmpi .sle (res_main_call3_v5 V0) (broadcastInDim S8x9000x1 ![0, 1, 2] bcast_S1x1x1_S8x9000x1_0_1_2 (broadcastInDim S1x1x1 ![2] bcast_S1_S1x1x1_2 (constantI S1 32 8999#32))))) (constantI S_ 1 1#1) reducesTo_S8x9000x1_S8x9000_d2 h_S_)) (Host.gather gather_S8x30x9000_S8x9000x1_S8x30x9000_1_2_0_0_2_2_1301 (res_main_v12 V0) (res_main_call3_v5 V0)) (broadcastInDim S8x30x9000 ![] bcast_S_S8x30x9000 (constant S_ .f32 0x7FC00000#32))) shapeCasts_S8x30x9000_S8x30x3x3000) (constant S_ .f32 0x00000000#32) reducesTo_S8x30x3x3000_S8x30x3_d3 h_S_) (broadcastInDim S8x30x3 ![] bcast_S_S8x30x3 (constant S_ .f32 0x453B8000#32)))⟩] concatenates_S8x30x1_S8x30x3_S8x30x4_d2)))⟩, ⟨S8x30x9000x4, (broadcastInDim S8x30x9000x4 ![0, 1, 2, 3] bcast_S8x1x9000x4_S8x30x9000x4_0_1_2_3 (broadcastInDim S8x1x9000x4 ![0, 2, 3] bcast_S8x9000x4_S8x1x9000x4_0_2_3 (concatenate S8x9000x4 2 [⟨S8x9000x1, (broadcastInDim S8x9000x1 ![0, 1] bcast_S8x9000_S8x9000x1_0_1 (res_main_v18 V0))⟩, ⟨S8x9000x3, (transpose S8x9000x3 [0, 2, 1] (Host.divf (Host.reduceAdd (shapeCast _ (select (broadcastInDim S8x30x9000 ![0, 1] bcast_S8x30_S8x30x9000_0_1 (Host.reduce IntOp.andi (andi (cmpi .sge (res_main_call4_v4 V0) (broadcastInDim S8x30x1 ![] bcast_S_S8x30x1 (constantI S_ 32 0#32))) (cmpi .sle (res_main_call4_v4 V0) (broadcastInDim S8x30x1 ![0, 1, 2] bcast_S1x1x1_S8x30x1_0_1_2 (broadcastInDim S1x1x1 ![2] bcast_S1_S1x1x1_2 (constantI S1 32 29#32))))) (constantI S_ 1 1#1) reducesTo_S8x30x1_S8x30_d2 h_S_)) (Host.gather gather_S8x30x9000_S8x30x1_S8x30x9000_2_1_0_0_1_2_119000 (res_main_v12 V0) (res_main_call4_v4 V0)) (broadcastInDim S8x30x9000 ![] bcast_S_S8x30x9000 (constant S_ .f32 0x7FC00000#32))) shapeCasts_S8x30x9000_S8x3x10x9000) (constant S_ .f32 0x00000000#32) reducesTo_S8x3x10x9000_S8x3x9000_d2 h_S_) (broadcastInDim S8x3x9000 ![] bcast_S_S8x3x9000 (constant S_ .f32 0x41200000#32))) transposes_S8x3x9000_S8x9000x3_0_2_1)⟩] concatenates_S8x9000x1_S8x9000x3_S8x9000x4_d2)))⟩] concatenates_S8x30x9000x4_S8x30x9000x4_S8x30x9000x8_d3) shapeCasts_S8x30x9000x8_S8x270000x8) (transpose S8x10 [1, 0] (V0 (Proc.devRef .tc main_arg2)) transposes_S10x8_S8x10_1_0)) (broadcastInDim S8x270000x10 ![0, 1, 2] bcast_S1x1x10_S8x270000x10_0_1_2 (broadcastInDim S1x1x10 ![2] bcast_S10_S1x1x10_2 (V0 (Proc.devRef .tc main_arg3))))) (broadcastInDim S8x270000x10 ![] bcast_S_S8x270000x10 (constant S_ .f32 0x00000000#32))) (transpose S10x10 [1, 0] (V0 (Proc.devRef .tc main_arg4)) transposes_S10x10_S10x10_1_0)) (broadcastInDim S8x270000x10 ![0, 1, 2] bcast_S1x1x10_S8x270000x10_0_1_2 (broadcastInDim S1x1x10 ![2] bcast_S10_S1x1x10_2 (V0 (Proc.devRef .tc main_arg5))))) (broadcastInDim S8x270000x10 ![] bcast_S_S8x270000x10 (constant S_ .f32 0x00000000#32))) (transpose S10x10 [1, 0] (V0 (Proc.devRef .tc main_arg6)) transposes_S10x10_S10x10_1_0)) (broadcastInDim S8x270000x10 ![0, 1, 2] bcast_S1x1x10_S8x270000x10_0_1_2 (broadcastInDim S1x1x10 ![2] bcast_S10_S1x1x10_2 (V0 (Proc.devRef .tc main_arg7))))) (broadcastInDim S8x270000x10 ![] bcast_S_S8x270000x10 (constant S_ .f32 0x00000000#32))) (transpose S10x1 [1, 0] (V0 (Proc.devRef .tc main_arg8)) transposes_S1x10_S10x1_1_0)

set_option maxRecDepth 8192 in
/-- `main_v73`'s composed term of the arguments (named: it is used 3 times). -/
def res_main_v73 (V0 : Valuation τ sig (Elt F)) : (Proc.devRef .tc main_v73 : DevRef τ sig).ty.Contents (Elt F) :=
  shapeCast _ (Host.divf (broadcastInDim S8x270000x1 ![] bcast_S_S8x270000x1 (constant S_ .f32 0x3F800000#32)) (addf (broadcastInDim S8x270000x1 ![] bcast_S_S8x270000x1 (constant S_ .f32 0x3F800000#32)) (Host.exp (Host.negf (addf (res_main_v63 V0) (broadcastInDim S8x270000x1 ![0, 1, 2] bcast_S1x1x1_S8x270000x1_0_1_2 (broadcastInDim S1x1x1 ![2] bcast_S1_S1x1x1_2 (V0 (Proc.devRef .tc main_arg9))))))))) shapeCasts_S8x270000x1_S8x270000

set_option maxRecDepth 8192 in
/-- `main_v76`'s composed term of the arguments (named: it is used 2 times). -/
def res_main_v76 (V0 : Valuation τ sig (Elt F)) : (Proc.devRef .tc main_v76 : DevRef τ sig).ty.Contents (Elt F) :=
  transpose S8x9000x30 [0, 2, 1] (shapeCast _ (res_main_v73 V0) shapeCasts_S8x270000_S8x30x9000) transposes_S8x30x9000_S8x9000x30_0_2_1

set_option maxRecDepth 8192 in
/-- `main_v114`'s composed term of the arguments (named: it is used 2 times). -/
def res_main_v114 (V0 : Valuation τ sig (Elt F)) : (Proc.devRef .tc main_v114 : DevRef τ sig).ty.Contents (Elt F) :=
  shapeCast _ (addf (Host.dotGeneral dot_S288000x15_S15x1_S288000x1_1_0_0_1_n_n none (Host.tanh (addf (Host.dotGeneral dot_S288000x15_S15x15_S288000x15_1_0_0_1_n_n none (Host.tanh (addf (Host.dotGeneral dot_S288000x15_S15x15_S288000x15_1_0_0_1_n_n none (Host.tanh (addf (Host.dotGeneral dot_S288000x30_S30x15_S288000x15_1_0_0_1_n_n none (shapeCast _ (select (cmpi .eq (broadcastInDim S8x9000x4x30 ![0, 1, 2, 3] bcast_S8x9000x1x30_S8x9000x4x30_0_1_2_3 (broadcastInDim S8x9000x1x30 ![0, 1, 3] bcast_S8x9000x30_S8x9000x1x30_0_1_3 (transpose S8x9000x30 [0, 2, 1] (V0 (Proc.devRef .tc main_arg0)) transposes_S8x30x9000_S8x9000x30_0_2_1))) (broadcastInDim S8x9000x4x30 ![0, 1, 2, 3] bcast_S1x1x4x1_S8x9000x4x30_0_1_2_3 (broadcastInDim S1x1x4x1 ![2] bcast_S4_S1x1x4x1_2 (iotaInDim S4 32 0)))) (broadcastInDim S8x9000x4x30 ![0, 1, 2, 3] bcast_S8x9000x1x30_S8x9000x4x30_0_1_2_3 (broadcastInDim S8x9000x1x30 ![0, 1, 3] bcast_S8x9000x30_S8x9000x1x30_0_1_3 (res_main_v76 V0))) (broadcastInDim S8x9000x4x30 ![0, 1, 2, 3] bcast_S8x9000x1x30_S8x9000x4x30_0_1_2_3 (Host.divf (subf (broadcastInDim S8x9000x1x30 ![] bcast_S_S8x9000x1x30 (constant S_ .f32 0x3F800000#32)) (broadcastInDim S8x9000x1x30 ![0, 1, 3] bcast_S8x9000x30_S8x9000x1x30_0_1_3 (res_main_v76 V0))) (broadcastInDim S8x9000x1x30 ![] bcast_S_S8x9000x1x30 (constant S_ .f32 0x40400000#32))))) shapeCasts_S8x9000x4x30_S288000x30) (transpose S30x15 [1, 0] (V0 (Proc.devRef .tc main_arg10)) transposes_S15x30_S30x15_1_0)) (broadcastInDim S288000x15 ![0, 1] bcast_S1x15_S288000x15_0_1 (broadcastInDim S1x15 ![1] bcast_S15_S1x15_1 (V0 (Proc.devRef .tc main_arg11)))))) (transpose S15x15 [1, 0] (V0 (Proc.devRef .tc main_arg12)) transposes_S15x15_S15x15_1_0)) (broadcastInDim S288000x15 ![0, 1] bcast_S1x15_S288000x15_0_1 (broadcastInDim S1x15 ![1] bcast_S15_S1x15_1 (V0 (Proc.devRef .tc main_arg13)))))) (transpose S15x15 [1, 0] (V0 (Proc.devRef .tc main_arg14)) transposes_S15x15_S15x15_1_0)) (broadcastInDim S288000x15 ![0, 1] bcast_S1x15_S288000x15_0_1 (broadcastInDim S1x15 ![1] bcast_S15_S1x15_1 (V0 (Proc.devRef .tc main_arg15)))))) (transpose S15x1 [1, 0] (V0 (Proc.devRef .tc main_arg16)) transposes_S1x15_S15x1_1_0)) (broadcastInDim S288000x1 ![0, 1] bcast_S1x1_S288000x1_0_1 (broadcastInDim S1x1 ![1] bcast_S1_S1x1_1 (V0 (Proc.devRef .tc main_arg17))))) shapeCasts_S288000x1_S72000x4

set_option maxRecDepth 8192 in
/-- `main_v121`'s composed term of the arguments (named: it is used 2 times). -/
def res_main_v121 (V0 : Valuation τ sig (Elt F)) : (Proc.devRef .tc main_v121 : DevRef τ sig).ty.Contents (Elt F) :=
  Host.exp (subf (res_main_v114 V0) (broadcastInDim S72000x4 ![0, 1] bcast_S72000x1_S72000x4_0_1 (broadcastInDim S72000x1 ![0] bcast_S72000_S72000x1_0 (maximumf (broadcastInDim S72000 ![] bcast_S_S72000 (constant S_ .f32 0xFF800000#32)) (Host.reduce FloatOps.maximumf (res_main_v114 V0) (constant S_ .f32 0xFF800000#32) reducesTo_S72000x4_S72000_d1 h_S_)))))

set_option maxRecDepth 8192 in
/-- `main_v125`'s composed term of the arguments (named: it is used 2 times). -/
def res_main_v125 (V0 : Valuation τ sig (Elt F)) : (Proc.devRef .tc main_v125 : DevRef τ sig).ty.Contents (Elt F) :=
  Host.divf (res_main_v121 V0) (broadcastInDim S72000x4 ![0, 1] bcast_S72000x1_S72000x4_0_1 (broadcastInDim S72000x1 ![0] bcast_S72000_S72000x1_0 (Host.reduceAdd (res_main_v121 V0) (constant S_ .f32 0x00000000#32) reducesTo_S72000x4_S72000_d1 h_S_)))

set_option maxRecDepth 8192 in
/-- `main_v130`'s composed term of the arguments (named: it is used 2 times). -/
def res_main_v130 (V0 : Valuation τ sig (Elt F)) : (Proc.devRef .tc main_v130 : DevRef τ sig).ty.Contents (Elt F) :=
  shapeCast _ (uitofp .f32 (cmpi .eq (V0 (Proc.devRef .tc main_arg0)) (broadcastInDim S8x30x9000 ![0, 1, 2] bcast_S8x1x9000_S8x30x9000_0_1_2 (broadcastInDim S8x1x9000 ![0, 2] bcast_S8x9000_S8x1x9000_0_2 (V0 (Proc.devRef .tc main_arg1)))))) shapeCasts_S8x30x9000_S8x270000

set_option maxRecDepth 8192 in
/-- `main_call9_v5`'s composed term of the arguments (named: it is used 2 times). -/
def res_main_call9_v5 (V0 : Valuation τ sig (Elt F)) : (Proc.devRef .tc main_call9_v5 : DevRef τ sig).ty.Contents (Elt F) :=
  subf (res_main_v125 V0) (broadcastInDim S72000x4 ![0, 1] bcast_S72000x1_S72000x4_0_1 (broadcastInDim S72000x1 ![0] bcast_S72000_S72000x1_0 (maximumf (broadcastInDim S72000 ![] bcast_S_S72000 (constant S_ .f32 0xFF800000#32)) (Host.reduce FloatOps.maximumf (res_main_v125 V0) (constant S_ .f32 0xFF800000#32) reducesTo_S72000x4_S72000_d1 h_S_))))

set_option maxRecDepth 8192 in
/-- `main_v149`'s composed term of the arguments (named: it is used 3 times). -/
def res_main_v149 (V0 : Valuation τ sig (Elt F)) : (Proc.devRef .tc main_v149 : DevRef τ sig).ty.Contents (Elt F) :=
  broadcastInDim S72000x1 ![0] bcast_S72000_S72000x1_0 (shapeCast _ (V0 (Proc.devRef .tc main_arg1)) shapeCasts_S8x9000_S72000)

set_option maxRecDepth 8192 in
/-- `main_call10_v5`'s composed term of the arguments (named: it is used 3 times). -/
def res_main_call10_v5 (V0 : Valuation τ sig (Elt F)) : (Proc.devRef .tc main_call10_v5 : DevRef τ sig).ty.Contents (Elt F) :=
  shapeCast _ (select (cmpi .slt (res_main_v149 V0) (broadcastInDim S72000x1 ![] bcast_S_S72000x1 (constantI S_ 32 0#32))) (addi (res_main_v149 V0) (broadcastInDim S72000x1 ![] bcast_S_S72000x1 (constantI S_ 32 4#32))) (res_main_v149 V0)) shapeCasts_S72000x1_S72000x1x1

end Cert.ReferenceIdeal.Value

end
-- ==== Proof.RefVals.lean ====
/- What the reference's buffers hold after the first stages of its run. -/
module

public import proofs.«01_k».proof.Proof.RefOps

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents before @main's first window. -/
def val0 (V0 : Valuation τ sig (Elt F)) : Valuation τ sig (Elt F) := V0
/-- After stage `val0` the buffer `main_arg0` holds this term of the launch contents. -/
theorem val0_main_arg0 (V0 : Valuation τ sig (Elt F)) : val0 V0 (no_index (Proc.devRef .tc main_arg0)) = V0 (Proc.devRef .tc main_arg0) := rfl
/-- After stage `val0` the buffer `main_arg1` holds this term of the launch contents. -/
theorem val0_main_arg1 (V0 : Valuation τ sig (Elt F)) : val0 V0 (no_index (Proc.devRef .tc main_arg1)) = V0 (Proc.devRef .tc main_arg1) := rfl
/-- After stage `val0` the buffer `main_arg2` holds this term of the launch contents. -/
theorem val0_main_arg2 (V0 : Valuation τ sig (Elt F)) : val0 V0 (no_index (Proc.devRef .tc main_arg2)) = V0 (Proc.devRef .tc main_arg2) := rfl
/-- After stage `val0` the buffer `main_arg3` holds this term of the launch contents. -/
theorem val0_main_arg3 (V0 : Valuation τ sig (Elt F)) : val0 V0 (no_index (Proc.devRef .tc main_arg3)) = V0 (Proc.devRef .tc main_arg3) := rfl
/-- After stage `val0` the buffer `main_arg4` holds this term of the launch contents. -/
theorem val0_main_arg4 (V0 : Valuation τ sig (Elt F)) : val0 V0 (no_index (Proc.devRef .tc main_arg4)) = V0 (Proc.devRef .tc main_arg4) := rfl
/-- After stage `val0` the buffer `main_arg5` holds this term of the launch contents. -/
theorem val0_main_arg5 (V0 : Valuation τ sig (Elt F)) : val0 V0 (no_index (Proc.devRef .tc main_arg5)) = V0 (Proc.devRef .tc main_arg5) := rfl
/-- After stage `val0` the buffer `main_arg6` holds this term of the launch contents. -/
theorem val0_main_arg6 (V0 : Valuation τ sig (Elt F)) : val0 V0 (no_index (Proc.devRef .tc main_arg6)) = V0 (Proc.devRef .tc main_arg6) := rfl
/-- After stage `val0` the buffer `main_arg7` holds this term of the launch contents. -/
theorem val0_main_arg7 (V0 : Valuation τ sig (Elt F)) : val0 V0 (no_index (Proc.devRef .tc main_arg7)) = V0 (Proc.devRef .tc main_arg7) := rfl
/-- After stage `val0` the buffer `main_arg8` holds this term of the launch contents. -/
theorem val0_main_arg8 (V0 : Valuation τ sig (Elt F)) : val0 V0 (no_index (Proc.devRef .tc main_arg8)) = V0 (Proc.devRef .tc main_arg8) := rfl
/-- After stage `val0` the buffer `main_arg9` holds this term of the launch contents. -/
theorem val0_main_arg9 (V0 : Valuation τ sig (Elt F)) : val0 V0 (no_index (Proc.devRef .tc main_arg9)) = V0 (Proc.devRef .tc main_arg9) := rfl
/-- After stage `val0` the buffer `main_arg10` holds this term of the launch contents. -/
theorem val0_main_arg10 (V0 : Valuation τ sig (Elt F)) : val0 V0 (no_index (Proc.devRef .tc main_arg10)) = V0 (Proc.devRef .tc main_arg10) := rfl
/-- After stage `val0` the buffer `main_arg11` holds this term of the launch contents. -/
theorem val0_main_arg11 (V0 : Valuation τ sig (Elt F)) : val0 V0 (no_index (Proc.devRef .tc main_arg11)) = V0 (Proc.devRef .tc main_arg11) := rfl
/-- After stage `val0` the buffer `main_arg12` holds this term of the launch contents. -/
theorem val0_main_arg12 (V0 : Valuation τ sig (Elt F)) : val0 V0 (no_index (Proc.devRef .tc main_arg12)) = V0 (Proc.devRef .tc main_arg12) := rfl
/-- After stage `val0` the buffer `main_arg13` holds this term of the launch contents. -/
theorem val0_main_arg13 (V0 : Valuation τ sig (Elt F)) : val0 V0 (no_index (Proc.devRef .tc main_arg13)) = V0 (Proc.devRef .tc main_arg13) := rfl
/-- After stage `val0` the buffer `main_arg14` holds this term of the launch contents. -/
theorem val0_main_arg14 (V0 : Valuation τ sig (Elt F)) : val0 V0 (no_index (Proc.devRef .tc main_arg14)) = V0 (Proc.devRef .tc main_arg14) := rfl
/-- After stage `val0` the buffer `main_arg15` holds this term of the launch contents. -/
theorem val0_main_arg15 (V0 : Valuation τ sig (Elt F)) : val0 V0 (no_index (Proc.devRef .tc main_arg15)) = V0 (Proc.devRef .tc main_arg15) := rfl
/-- After stage `val0` the buffer `main_arg16` holds this term of the launch contents. -/
theorem val0_main_arg16 (V0 : Valuation τ sig (Elt F)) : val0 V0 (no_index (Proc.devRef .tc main_arg16)) = V0 (Proc.devRef .tc main_arg16) := rfl
/-- After stage `val0` the buffer `main_arg17` holds this term of the launch contents. -/
theorem val0_main_arg17 (V0 : Valuation τ sig (Elt F)) : val0 V0 (no_index (Proc.devRef .tc main_arg17)) = V0 (Proc.devRef .tc main_arg17) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_c, main_v7, main_call0_v0, main_call0_c, main_call0_c_0, main_call0_v1_0, main_v8, main_v9, main_v10, main_v11, main_v12, main_cst, main_v13, main_cst_0, main_v14, main_v15, main_cst_1, main_v16, main_cst_2, main_v17, main_v18, main_call1_v0, main_call1_v1_0]
set_option maxRecDepth 8192 in
/-- The buffers this stretch of operations writes, one per operation. -/
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- After stage `val0_1` the buffer `main_arg0` holds this term of the launch contents. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
/-- After stage `val0_1` the buffer `main_arg1` holds this term of the launch contents. -/
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
/-- After stage `val0_1` the buffer `main_arg2` holds this term of the launch contents. -/
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
/-- After stage `val0_1` the buffer `main_arg3` holds this term of the launch contents. -/
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
/-- After stage `val0_1` the buffer `main_arg4` holds this term of the launch contents. -/
theorem val0_1_main_arg4 (V0 : Valuation τ sig (Elt F)) : val0_1 V0 (no_index (Proc.devRef .tc main_arg4)) = V0 (Proc.devRef .tc main_arg4) :=
  (val0_1_keep V0 main_arg4 (by decide)).trans (val0_main_arg4 V0)
/-- After stage `val0_1` the buffer `main_arg5` holds this term of the launch contents. -/
theorem val0_1_main_arg5 (V0 : Valuation τ sig (Elt F)) : val0_1 V0 (no_index (Proc.devRef .tc main_arg5)) = V0 (Proc.devRef .tc main_arg5) :=
  (val0_1_keep V0 main_arg5 (by decide)).trans (val0_main_arg5 V0)
/-- After stage `val0_1` the buffer `main_arg6` holds this term of the launch contents. -/
theorem val0_1_main_arg6 (V0 : Valuation τ sig (Elt F)) : val0_1 V0 (no_index (Proc.devRef .tc main_arg6)) = V0 (Proc.devRef .tc main_arg6) :=
  (val0_1_keep V0 main_arg6 (by decide)).trans (val0_main_arg6 V0)
/-- After stage `val0_1` the buffer `main_arg7` holds this term of the launch contents. -/
theorem val0_1_main_arg7 (V0 : Valuation τ sig (Elt F)) : val0_1 V0 (no_index (Proc.devRef .tc main_arg7)) = V0 (Proc.devRef .tc main_arg7) :=
  (val0_1_keep V0 main_arg7 (by decide)).trans (val0_main_arg7 V0)
/-- After stage `val0_1` the buffer `main_arg8` holds this term of the launch contents. -/
theorem val0_1_main_arg8 (V0 : Valuation τ sig (Elt F)) : val0_1 V0 (no_index (Proc.devRef .tc main_arg8)) = V0 (Proc.devRef .tc main_arg8) :=
  (val0_1_keep V0 main_arg8 (by decide)).trans (val0_main_arg8 V0)
/-- After stage `val0_1` the buffer `main_arg9` holds this term of the launch contents. -/
theorem val0_1_main_arg9 (V0 : Valuation τ sig (Elt F)) : val0_1 V0 (no_index (Proc.devRef .tc main_arg9)) = V0 (Proc.devRef .tc main_arg9) :=
  (val0_1_keep V0 main_arg9 (by decide)).trans (val0_main_arg9 V0)
/-- After stage `val0_1` the buffer `main_arg10` holds this term of the launch contents. -/
theorem val0_1_main_arg10 (V0 : Valuation τ sig (Elt F)) : val0_1 V0 (no_index (Proc.devRef .tc main_arg10)) = V0 (Proc.devRef .tc main_arg10) :=
  (val0_1_keep V0 main_arg10 (by decide)).trans (val0_main_arg10 V0)
/-- After stage `val0_1` the buffer `main_arg11` holds this term of the launch contents. -/
theorem val0_1_main_arg11 (V0 : Valuation τ sig (Elt F)) : val0_1 V0 (no_index (Proc.devRef .tc main_arg11)) = V0 (Proc.devRef .tc main_arg11) :=
  (val0_1_keep V0 main_arg11 (by decide)).trans (val0_main_arg11 V0)
/-- After stage `val0_1` the buffer `main_arg12` holds this term of the launch contents. -/
theorem val0_1_main_arg12 (V0 : Valuation τ sig (Elt F)) : val0_1 V0 (no_index (Proc.devRef .tc main_arg12)) = V0 (Proc.devRef .tc main_arg12) :=
  (val0_1_keep V0 main_arg12 (by decide)).trans (val0_main_arg12 V0)
/-- After stage `val0_1` the buffer `main_arg13` holds this term of the launch contents. -/
theorem val0_1_main_arg13 (V0 : Valuation τ sig (Elt F)) : val0_1 V0 (no_index (Proc.devRef .tc main_arg13)) = V0 (Proc.devRef .tc main_arg13) :=
  (val0_1_keep V0 main_arg13 (by decide)).trans (val0_main_arg13 V0)
/-- After stage `val0_1` the buffer `main_arg14` holds this term of the launch contents. -/
theorem val0_1_main_arg14 (V0 : Valuation τ sig (Elt F)) : val0_1 V0 (no_index (Proc.devRef .tc main_arg14)) = V0 (Proc.devRef .tc main_arg14) :=
  (val0_1_keep V0 main_arg14 (by decide)).trans (val0_main_arg14 V0)
/-- After stage `val0_1` the buffer `main_arg15` holds this term of the launch contents. -/
theorem val0_1_main_arg15 (V0 : Valuation τ sig (Elt F)) : val0_1 V0 (no_index (Proc.devRef .tc main_arg15)) = V0 (Proc.devRef .tc main_arg15) :=
  (val0_1_keep V0 main_arg15 (by decide)).trans (val0_main_arg15 V0)
/-- After stage `val0_1` the buffer `main_arg16` holds this term of the launch contents. -/
theorem val0_1_main_arg16 (V0 : Valuation τ sig (Elt F)) : val0_1 V0 (no_index (Proc.devRef .tc main_arg16)) = V0 (Proc.devRef .tc main_arg16) :=
  (val0_1_keep V0 main_arg16 (by decide)).trans (val0_main_arg16 V0)
/-- After stage `val0_1` the buffer `main_arg17` holds this term of the launch contents. -/
theorem val0_1_main_arg17 (V0 : Valuation τ sig (Elt F)) : val0_1 V0 (no_index (Proc.devRef .tc main_arg17)) = V0 (Proc.devRef .tc main_arg17) :=
  (val0_1_keep V0 main_arg17 (by decide)).trans (val0_main_arg17 V0)
set_option maxRecDepth 8192 in
set_option maxHeartbeats 2000000 in
/-- After stage `val0_1` the buffer `main_v12` holds this term of the launch contents. -/
theorem val0_1_main_v12 (V0 : Valuation τ sig (Elt F)) : val0_1 V0 (no_index (Proc.devRef .tc main_v12)) = res_main_v12 V0 := by
  unfold val0_1
  simp only [ops_part0_0, TRef.binary, TRef.nullary, TRef.quaternary, TRef.toBuf, TRef.ofBuf, cast_eq]
  after_results_simp
  simp only [val0_main_arg0] <;> rfl
set_option maxRecDepth 8192 in
set_option maxHeartbeats 2000000 in
/-- After stage `val0_1` the buffer `main_v15` holds this term of the launch contents. -/
theorem val0_1_main_v15 (V0 : Valuation τ sig (Elt F)) : val0_1 V0 (no_index (Proc.devRef .tc main_v15)) = res_main_v15 V0 := by
  unfold val0_1
  simp only [ops_part0_0, TRef.binary, TRef.nullary, TRef.quaternary, TRef.toBuf, TRef.ofBuf, cast_eq]
  after_results_simp
  simp only [val0_main_arg0] <;> rfl
set_option maxRecDepth 8192 in
set_option maxHeartbeats 2000000 in
/-- After stage `val0_1` the buffer `main_v18` holds this term of the launch contents. -/
theorem val0_1_main_v18 (V0 : Valuation τ sig (Elt F)) : val0_1 V0 (no_index (Proc.devRef .tc main_v18)) = res_main_v18 V0 := by
  unfold val0_1
  simp only [ops_part0_0, TRef.binary, TRef.nullary, TRef.quaternary, TRef.toBuf, TRef.ofBuf, cast_eq]
  after_results_simp
  simp only [val0_main_arg0] <;> rfl
set_option maxRecDepth 8192 in
set_option maxHeartbeats 2000000 in
/-- After stage `val0_1` the buffer `main_call1_v0` holds this term of the launch contents. -/
theorem val0_1_main_call1_v0 (V0 : Valuation τ sig (Elt F)) : val0_1 V0 (no_index (Proc.devRef .tc main_call1_v0)) = res_main_call1_v0 V0 := by
  unfold val0_1
  simp only [ops_part0_0, TRef.binary, TRef.nullary, TRef.quaternary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v19, main_call2_v0, main_call2_v1_0, main_v20, main_v21, main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v22, main_v23, main_cst_3]
set_option maxRecDepth 8192 in
/-- The buffers this stretch of operations writes, one per operation. -/
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- After stage `val0_2` the buffer `main_arg0` holds this term of the launch contents. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- After stage `val0_2` the buffer `main_arg1` holds this term of the launch contents. -/
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
/-- After stage `val0_2` the buffer `main_arg2` holds this term of the launch contents. -/
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
/-- After stage `val0_2` the buffer `main_arg3` holds this term of the launch contents. -/
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
/-- After stage `val0_2` the buffer `main_arg4` holds this term of the launch contents. -/
theorem val0_2_main_arg4 (V0 : Valuation τ sig (Elt F)) : val0_2 V0 (no_index (Proc.devRef .tc main_arg4)) = V0 (Proc.devRef .tc main_arg4) :=
  (val0_2_keep V0 main_arg4 (by decide)).trans (val0_1_main_arg4 V0)
/-- After stage `val0_2` the buffer `main_arg5` holds this term of the launch contents. -/
theorem val0_2_main_arg5 (V0 : Valuation τ sig (Elt F)) : val0_2 V0 (no_index (Proc.devRef .tc main_arg5)) = V0 (Proc.devRef .tc main_arg5) :=
  (val0_2_keep V0 main_arg5 (by decide)).trans (val0_1_main_arg5 V0)
/-- After stage `val0_2` the buffer `main_arg6` holds this term of the launch contents. -/
theorem val0_2_main_arg6 (V0 : Valuation τ sig (Elt F)) : val0_2 V0 (no_index (Proc.devRef .tc main_arg6)) = V0 (Proc.devRef .tc main_arg6) :=
  (val0_2_keep V0 main_arg6 (by decide)).trans (val0_1_main_arg6 V0)
/-- After stage `val0_2` the buffer `main_arg7` holds this term of the launch contents. -/
theorem val0_2_main_arg7 (V0 : Valuation τ sig (Elt F)) : val0_2 V0 (no_index (Proc.devRef .tc main_arg7)) = V0 (Proc.devRef .tc main_arg7) :=
  (val0_2_keep V0 main_arg7 (by decide)).trans (val0_1_main_arg7 V0)
/-- After stage `val0_2` the buffer `main_arg8` holds this term of the launch contents. -/
theorem val0_2_main_arg8 (V0 : Valuation τ sig (Elt F)) : val0_2 V0 (no_index (Proc.devRef .tc main_arg8)) = V0 (Proc.devRef .tc main_arg8) :=
  (val0_2_keep V0 main_arg8 (by decide)).trans (val0_1_main_arg8 V0)
/-- After stage `val0_2` the buffer `main_arg9` holds this term of the launch contents. -/
theorem val0_2_main_arg9 (V0 : Valuation τ sig (Elt F)) : val0_2 V0 (no_index (Proc.devRef .tc main_arg9)) = V0 (Proc.devRef .tc main_arg9) :=
  (val0_2_keep V0 main_arg9 (by decide)).trans (val0_1_main_arg9 V0)
/-- After stage `val0_2` the buffer `main_arg10` holds this term of the launch contents. -/
theorem val0_2_main_arg10 (V0 : Valuation τ sig (Elt F)) : val0_2 V0 (no_index (Proc.devRef .tc main_arg10)) = V0 (Proc.devRef .tc main_arg10) :=
  (val0_2_keep V0 main_arg10 (by decide)).trans (val0_1_main_arg10 V0)
/-- After stage `val0_2` the buffer `main_arg11` holds this term of the launch contents. -/
theorem val0_2_main_arg11 (V0 : Valuation τ sig (Elt F)) : val0_2 V0 (no_index (Proc.devRef .tc main_arg11)) = V0 (Proc.devRef .tc main_arg11) :=
  (val0_2_keep V0 main_arg11 (by decide)).trans (val0_1_main_arg11 V0)
/-- After stage `val0_2` the buffer `main_arg12` holds this term of the launch contents. -/
theorem val0_2_main_arg12 (V0 : Valuation τ sig (Elt F)) : val0_2 V0 (no_index (Proc.devRef .tc main_arg12)) = V0 (Proc.devRef .tc main_arg12) :=
  (val0_2_keep V0 main_arg12 (by decide)).trans (val0_1_main_arg12 V0)
/-- After stage `val0_2` the buffer `main_arg13` holds this term of the launch contents. -/
theorem val0_2_main_arg13 (V0 : Valuation τ sig (Elt F)) : val0_2 V0 (no_index (Proc.devRef .tc main_arg13)) = V0 (Proc.devRef .tc main_arg13) :=
  (val0_2_keep V0 main_arg13 (by decide)).trans (val0_1_main_arg13 V0)
/-- After stage `val0_2` the buffer `main_arg14` holds this term of the launch contents. -/
theorem val0_2_main_arg14 (V0 : Valuation τ sig (Elt F)) : val0_2 V0 (no_index (Proc.devRef .tc main_arg14)) = V0 (Proc.devRef .tc main_arg14) :=
  (val0_2_keep V0 main_arg14 (by decide)).trans (val0_1_main_arg14 V0)
/-- After stage `val0_2` the buffer `main_arg15` holds this term of the launch contents. -/
theorem val0_2_main_arg15 (V0 : Valuation τ sig (Elt F)) : val0_2 V0 (no_index (Proc.devRef .tc main_arg15)) = V0 (Proc.devRef .tc main_arg15) :=
  (val0_2_keep V0 main_arg15 (by decide)).trans (val0_1_main_arg15 V0)
/-- After stage `val0_2` the buffer `main_arg16` holds this term of the launch contents. -/
theorem val0_2_main_arg16 (V0 : Valuation τ sig (Elt F)) : val0_2 V0 (no_index (Proc.devRef .tc main_arg16)) = V0 (Proc.devRef .tc main_arg16) :=
  (val0_2_keep V0 main_arg16 (by decide)).trans (val0_1_main_arg16 V0)
/-- After stage `val0_2` the buffer `main_arg17` holds this term of the launch contents. -/
theorem val0_2_main_arg17 (V0 : Valuation τ sig (Elt F)) : val0_2 V0 (no_index (Proc.devRef .tc main_arg17)) = V0 (Proc.devRef .tc main_arg17) :=
  (val0_2_keep V0 main_arg17 (by decide)).trans (val0_1_main_arg17 V0)
/-- After stage `val0_2` the buffer `main_v12` holds this term of the launch contents. -/
theorem val0_2_main_v12 (V0 : Valuation τ sig (Elt F)) : val0_2 V0 (no_index (Proc.devRef .tc main_v12)) = res_main_v12 V0 :=
  (val0_2_keep V0 main_v12 (by decide)).trans (val0_1_main_v12 V0)
/-- After stage `val0_2` the buffer `main_v15` holds this term of the launch contents. -/
theorem val0_2_main_v15 (V0 : Valuation τ sig (Elt F)) : val0_2 V0 (no_index (Proc.devRef .tc main_v15)) = res_main_v15 V0 :=
  (val0_2_keep V0 main_v15 (by decide)).trans (val0_1_main_v15 V0)
/-- After stage `val0_2` the buffer `main_v18` holds this term of the launch contents. -/
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
/-- After stage `val0_2` the buffer `main_v19` holds this term of the launch contents. -/
theorem val0_2_main_v19 (V0 : Valuation τ sig (Elt F)) : val0_2 V0 (no_index (Proc.devRef .tc main_v19)) = (Host.sort2 S8x30 1 comparator_f32_i32_d1 (res_main_v15 V0) (res_main_call1_v0 V0)).2 := by
  unfold val0_2
  simp only [ops_part0_1, TRef.binary, TRef.nullary, TRef.reshape, TRef.ternary, TRef.unary, TRef.toBuf, TRef.ofBuf, cast_eq]
  after_results_simp
  simp only [val0_1_main_call1_v0, val0_1_main_v15] <;> rfl
set_option maxRecDepth 8192 in
set_option maxHeartbeats 2000000 in
/-- After stage `val0_2` the buffer `main_v23` holds this term of the launch contents. -/
theorem val0_2_main_v23 (V0 : Valuation τ sig (Elt F)) : val0_2 V0 (no_index (Proc.devRef .tc main_v23)) = shapeCast _ (select (broadcastInDim S8x30x9000 ![0, 2] bcast_S8x9000_S8x30x9000_0_2 (Host.reduce IntOp.andi (andi (cmpi .sge (res_main_call3_v5 V0) (broadcastInDim S8x9000x1 ![] bcast_S_S8x9000x1 (constantI S_ 32 0#32))) (cmpi .sle (res_main_call3_v5 V0) (broadcastInDim S8x9000x1 ![0, 1, 2] bcast_S1x1x1_S8x9000x1_0_1_2 (broadcastInDim S1x1x1 ![2] bcast_S1_S1x1x1_2 (constantI S1 32 8999#32))))) (constantI S_ 1 1#1) reducesTo_S8x9000x1_S8x9000_d2 h_S_)) (Host.gather gather_S8x30x9000_S8x9000x1_S8x30x9000_1_2_0_0_2_2_1301 (res_main_v12 V0) (res_main_call3_v5 V0)) (broadcastInDim S8x30x9000 ![] bcast_S_S8x30x9000 (constant S_ .f32 0x7FC00000#32))) shapeCasts_S8x30x9000_S8x30x3x3000 := by
  unfold val0_2
  simp only [ops_part0_1, TRef.binary, TRef.nullary, TRef.reshape, TRef.ternary, TRef.unary, TRef.toBuf, TRef.ofBuf, cast_eq]
  after_results_simp
  simp only [val0_1_main_v18, val0_1_main_v12] <;> rfl
set_option maxRecDepth 8192 in
set_option maxHeartbeats 2000000 in
/-- After stage `val0_2` the buffer `main_cst_3` holds this term of the launch contents. -/
theorem val0_2_main_cst_3 (V0 : Valuation τ sig (Elt F)) : val0_2 V0 (no_index (Proc.devRef .tc main_cst_3)) = constant S_ .f32 0x00000000#32 := by
  unfold val0_2
  simp only [ops_part0_1, TRef.binary, TRef.nullary, TRef.reshape, TRef.ternary, TRef.unary, TRef.toBuf, TRef.ofBuf, cast_eq]
  after_results_simp
  all_goals rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v24, main_cst_4, main_v25, main_v26, main_v27, main_call4_c, main_call4_v0, main_call4_v1, main_call4_c_0, main_call4_v2, main_call4_v3, main_call4_v4, main_call4_c_1, main_call4_c_2, main_call4_v5, main_call4_v6, main_call4_v7, main_call4_v8, main_call4_v9, main_call4_v10, main_call4_c_3, main_call4_v11, main_call4_v12, main_call4_v13, main_call4_cst, main_call4_v14, main_v28, main_v29, main_cst_5, main_v30]
set_option maxRecDepth 8192 in
/-- The buffers this stretch of operations writes, one per operation. -/
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
/-- After stage `val0_3` the buffer `main_arg0` holds this term of the launch contents. -/
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
/-- After stage `val0_3` the buffer `main_arg1` holds this term of the launch contents. -/
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
/-- After stage `val0_3` the buffer `main_arg2` holds this term of the launch contents. -/
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
/-- After stage `val0_3` the buffer `main_arg3` holds this term of the launch contents. -/
theorem val0_3_main_arg3 (V0 : Valuation τ sig (Elt F)) : val0_3 V0 (no_index (Proc.devRef .tc main_arg3)) = V0 (Proc.devRef .tc main_arg3) :=
  (val0_3_keep V0 main_arg3 (by decide)).trans (val0_2_main_arg3 V0)
/-- After stage `val0_3` the buffer `main_arg4` holds this term of the launch contents. -/
theorem val0_3_main_arg4 (V0 : Valuation τ sig (Elt F)) : val0_3 V0 (no_index (Proc.devRef .tc main_arg4)) = V0 (Proc.devRef .tc main_arg4) :=
  (val0_3_keep V0 main_arg4 (by decide)).trans (val0_2_main_arg4 V0)
/-- After stage `val0_3` the buffer `main_arg5` holds this term of the launch contents. -/
theorem val0_3_main_arg5 (V0 : Valuation τ sig (Elt F)) : val0_3 V0 (no_index (Proc.devRef .tc main_arg5)) = V0 (Proc.devRef .tc main_arg5) :=
  (val0_3_keep V0 main_arg5 (by decide)).trans (val0_2_main_arg5 V0)
/-- After stage `val0_3` the buffer `main_arg6` holds this term of the launch contents. -/
theorem val0_3_main_arg6 (V0 : Valuation τ sig (Elt F)) : val0_3 V0 (no_index (Proc.devRef .tc main_arg6)) = V0 (Proc.devRef .tc main_arg6) :=
  (val0_3_keep V0 main_arg6 (by decide)).trans (val0_2_main_arg6 V0)
/-- After stage `val0_3` the buffer `main_arg7` holds this term of the launch contents. -/
theorem val0_3_main_arg7 (V0 : Valuation τ sig (Elt F)) : val0_3 V0 (no_index (Proc.devRef .tc main_arg7)) = V0 (Proc.devRef .tc main_arg7) :=
  (val0_3_keep V0 main_arg7 (by decide)).trans (val0_2_main_arg7 V0)
/-- After stage `val0_3` the buffer `main_arg8` holds this term of the launch contents. -/
theorem val0_3_main_arg8 (V0 : Valuation τ sig (Elt F)) : val0_3 V0 (no_index (Proc.devRef .tc main_arg8)) = V0 (Proc.devRef .tc main_arg8) :=
  (val0_3_keep V0 main_arg8 (by decide)).trans (val0_2_main_arg8 V0)
/-- After stage `val0_3` the buffer `main_arg9` holds this term of the launch contents. -/
theorem val0_3_main_arg9 (V0 : Valuation τ sig (Elt F)) : val0_3 V0 (no_index (Proc.devRef .tc main_arg9)) = V0 (Proc.devRef .tc main_arg9) :=
  (val0_3_keep V0 main_arg9 (by decide)).trans (val0_2_main_arg9 V0)
/-- After stage `val0_3` the buffer `main_arg10` holds this term of the launch contents. -/
theorem val0_3_main_arg10 (V0 : Valuation τ sig (Elt F)) : val0_3 V0 (no_index (Proc.devRef .tc main_arg10)) = V0 (Proc.devRef .tc main_arg10) :=
  (val0_3_keep V0 main_arg10 (by decide)).trans (val0_2_main_arg10 V0)
/-- After stage `val0_3` the buffer `main_arg11` holds this term of the launch contents. -/
theorem val0_3_main_arg11 (V0 : Valuation τ sig (Elt F)) : val0_3 V0 (no_index (Proc.devRef .tc main_arg11)) = V0 (Proc.devRef .tc main_arg11) :=
  (val0_3_keep V0 main_arg11 (by decide)).trans (val0_2_main_arg11 V0)
/-- After stage `val0_3` the buffer `main_arg12` holds this term of the launch contents. -/
theorem val0_3_main_arg12 (V0 : Valuation τ sig (Elt F)) : val0_3 V0 (no_index (Proc.devRef .tc main_arg12)) = V0 (Proc.devRef .tc main_arg12) :=
  (val0_3_keep V0 main_arg12 (by decide)).trans (val0_2_main_arg12 V0)
/-- After stage `val0_3` the buffer `main_arg13` holds this term of the launch contents. -/
theorem val0_3_main_arg13 (V0 : Valuation τ sig (Elt F)) : val0_3 V0 (no_index (Proc.devRef .tc main_arg13)) = V0 (Proc.devRef .tc main_arg13) :=
  (val0_3_keep V0 main_arg13 (by decide)).trans (val0_2_main_arg13 V0)
/-- After stage `val0_3` the buffer `main_arg14` holds this term of the launch contents. -/
theorem val0_3_main_arg14 (V0 : Valuation τ sig (Elt F)) : val0_3 V0 (no_index (Proc.devRef .tc main_arg14)) = V0 (Proc.devRef .tc main_arg14) :=
  (val0_3_keep V0 main_arg14 (by decide)).trans (val0_2_main_arg14 V0)
/-- After stage `val0_3` the buffer `main_arg15` holds this term of the launch contents. -/
theorem val0_3_main_arg15 (V0 : Valuation τ sig (Elt F)) : val0_3 V0 (no_index (Proc.devRef .tc main_arg15)) = V0 (Proc.devRef .tc main_arg15) :=
  (val0_3_keep V0 main_arg15 (by decide)).trans (val0_2_main_arg15 V0)
/-- After stage `val0_3` the buffer `main_arg16` holds this term of the launch contents. -/
theorem val0_3_main_arg16 (V0 : Valuation τ sig (Elt F)) : val0_3 V0 (no_index (Proc.devRef .tc main_arg16)) = V0 (Proc.devRef .tc main_arg16) :=
  (val0_3_keep V0 main_arg16 (by decide)).trans (val0_2_main_arg16 V0)
/-- After stage `val0_3` the buffer `main_arg17` holds this term of the launch contents. -/
theorem val0_3_main_arg17 (V0 : Valuation τ sig (Elt F)) : val0_3 V0 (no_index (Proc.devRef .tc main_arg17)) = V0 (Proc.devRef .tc main_arg17) :=
  (val0_3_keep V0 main_arg17 (by decide)).trans (val0_2_main_arg17 V0)
/-- After stage `val0_3` the buffer `main_v15` holds this term of the launch contents. -/
theorem val0_3_main_v15 (V0 : Valuation τ sig (Elt F)) : val0_3 V0 (no_index (Proc.devRef .tc main_v15)) = res_main_v15 V0 :=
  (val0_3_keep V0 main_v15 (by decide)).trans (val0_2_main_v15 V0)
/-- After stage `val0_3` the buffer `main_v18` holds this term of the launch contents. -/
theorem val0_3_main_v18 (V0 : Valuation τ sig (Elt F)) : val0_3 V0 (no_index (Proc.devRef .tc main_v18)) = res_main_v18 V0 :=
  (val0_3_keep V0 main_v18 (by decide)).trans (val0_2_main_v18 V0)
set_option maxRecDepth 8192 in
set_option maxHeartbeats 2000000 in
/-- After stage `val0_3` the buffer `main_v26` holds this term of the launch contents. -/
theorem val0_3_main_v26 (V0 : Valuation τ sig (Elt F)) : val0_3 V0 (no_index (Proc.devRef .tc main_v26)) = Host.divf (Host.reduceAdd (shapeCast _ (select (broadcastInDim S8x30x9000 ![0, 2] bcast_S8x9000_S8x30x9000_0_2 (Host.reduce IntOp.andi (andi (cmpi .sge (res_main_call3_v5 V0) (broadcastInDim S8x9000x1 ![] bcast_S_S8x9000x1 (constantI S_ 32 0#32))) (cmpi .sle (res_main_call3_v5 V0) (broadcastInDim S8x9000x1 ![0, 1, 2] bcast_S1x1x1_S8x9000x1_0_1_2 (broadcastInDim S1x1x1 ![2] bcast_S1_S1x1x1_2 (constantI S1 32 8999#32))))) (constantI S_ 1 1#1) reducesTo_S8x9000x1_S8x9000_d2 h_S_)) (Host.gather gather_S8x30x9000_S8x9000x1_S8x30x9000_1_2_0_0_2_2_1301 (res_main_v12 V0) (res_main_call3_v5 V0)) (broadcastInDim S8x30x9000 ![] bcast_S_S8x30x9000 (constant S_ .f32 0x7FC00000#32))) shapeCasts_S8x30x9000_S8x30x3x3000) (constant S_ .f32 0x00000000#32) reducesTo_S8x30x3x3000_S8x30x3_d3 h_S_) (broadcastInDim S8x30x3 ![] bcast_S_S8x30x3 (constant S_ .f32 0x453B8000#32)) := by
  unfold val0_3
  simp only [ops_part0_2, TRef.binary, TRef.nullary, TRef.ternary, TRef.unary, TRef.toBuf, TRef.ofBuf, cast_eq]
  after_results_simp
  simp only [val0_2_main_cst_3, val0_2_main_v23] <;> rfl
set_option maxRecDepth 8192 in
set_option maxHeartbeats 2000000 in
/-- After stage `val0_3` the buffer `main_v30` holds this term of the launch contents. -/
theorem val0_3_main_v30 (V0 : Valuation τ sig (Elt F)) : val0_3 V0 (no_index (Proc.devRef .tc main_v30)) = Host.reduceAdd (shapeCast _ (select (broadcastInDim S8x30x9000 ![0, 1] bcast_S8x30_S8x30x9000_0_1 (Host.reduce IntOp.andi (andi (cmpi .sge (res_main_call4_v4 V0) (broadcastInDim S8x30x1 ![] bcast_S_S8x30x1 (constantI S_ 32 0#32))) (cmpi .sle (res_main_call4_v4 V0) (broadcastInDim S8x30x1 ![0, 1, 2] bcast_S1x1x1_S8x30x1_0_1_2 (broadcastInDim S1x1x1 ![2] bcast_S1_S1x1x1_2 (constantI S1 32 29#32))))) (constantI S_ 1 1#1) reducesTo_S8x30x1_S8x30_d2 h_S_)) (Host.gather gather_S8x30x9000_S8x30x1_S8x30x9000_2_1_0_0_1_2_119000 (res_main_v12 V0) (res_main_call4_v4 V0)) (broadcastInDim S8x30x9000 ![] bcast_S_S8x30x9000 (constant S_ .f32 0x7FC00000#32))) shapeCasts_S8x30x9000_S8x3x10x9000) (constant S_ .f32 0x00000000#32) reducesTo_S8x3x10x9000_S8x3x9000_d2 h_S_ := by
  unfold val0_3
  simp only [ops_part0_2, TRef.binary, TRef.nullary, TRef.ternary, TRef.unary, TRef.toBuf, TRef.ofBuf, cast_eq]
  after_results_simp
  simp only [val0_2_main_v19, val0_2_main_v12] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_cst_6, main_v31, main_v32, main_v33, main_v34, main_v35, main_v36, main_v37, main_v38, main_v39, main_v40, main_v41, main_v42, main_v43, main_v44, main_v45, main_v46, main_v47, main_v48, main_call5_cst, main_call5_v0, main_v49, main_v50]
set_option maxRecDepth 8192 in
/-- The buffers this stretch of operations writes, one per operation. -/
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
/-- After stage `val1` the buffer `main_arg0` holds this term of the launch contents. -/
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
/-- After stage `val1` the buffer `main_arg1` holds this term of the launch contents. -/
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
/-- After stage `val1` the buffer `main_arg2` holds this term of the launch contents. -/
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
/-- After stage `val1` the buffer `main_arg3` holds this term of the launch contents. -/
theorem val1_main_arg3 (V0 : Valuation τ sig (Elt F)) : val1 V0 (no_index (Proc.devRef .tc main_arg3)) = V0 (Proc.devRef .tc main_arg3) :=
  (val1_keep V0 main_arg3 (by decide)).trans (val0_3_main_arg3 V0)
/-- After stage `val1` the buffer `main_arg4` holds this term of the launch contents. -/
theorem val1_main_arg4 (V0 : Valuation τ sig (Elt F)) : val1 V0 (no_index (Proc.devRef .tc main_arg4)) = V0 (Proc.devRef .tc main_arg4) :=
  (val1_keep V0 main_arg4 (by decide)).trans (val0_3_main_arg4 V0)
/-- After stage `val1` the buffer `main_arg5` holds this term of the launch contents. -/
theorem val1_main_arg5 (V0 : Valuation τ sig (Elt F)) : val1 V0 (no_index (Proc.devRef .tc main_arg5)) = V0 (Proc.devRef .tc main_arg5) :=
  (val1_keep V0 main_arg5 (by decide)).trans (val0_3_main_arg5 V0)
/-- After stage `val1` the buffer `main_arg6` holds this term of the launch contents. -/
theorem val1_main_arg6 (V0 : Valuation τ sig (Elt F)) : val1 V0 (no_index (Proc.devRef .tc main_arg6)) = V0 (Proc.devRef .tc main_arg6) :=
  (val1_keep V0 main_arg6 (by decide)).trans (val0_3_main_arg6 V0)
/-- After stage `val1` the buffer `main_arg7` holds this term of the launch contents. -/
theorem val1_main_arg7 (V0 : Valuation τ sig (Elt F)) : val1 V0 (no_index (Proc.devRef .tc main_arg7)) = V0 (Proc.devRef .tc main_arg7) :=
  (val1_keep V0 main_arg7 (by decide)).trans (val0_3_main_arg7 V0)
/-- After stage `val1` the buffer `main_arg8` holds this term of the launch contents. -/
theorem val1_main_arg8 (V0 : Valuation τ sig (Elt F)) : val1 V0 (no_index (Proc.devRef .tc main_arg8)) = V0 (Proc.devRef .tc main_arg8) :=
  (val1_keep V0 main_arg8 (by decide)).trans (val0_3_main_arg8 V0)
/-- After stage `val1` the buffer `main_arg9` holds this term of the launch contents. -/
theorem val1_main_arg9 (V0 : Valuation τ sig (Elt F)) : val1 V0 (no_index (Proc.devRef .tc main_arg9)) = V0 (Proc.devRef .tc main_arg9) :=
  (val1_keep V0 main_arg9 (by decide)).trans (val0_3_main_arg9 V0)
/-- After stage `val1` the buffer `main_arg10` holds this term of the launch contents. -/
theorem val1_main_arg10 (V0 : Valuation τ sig (Elt F)) : val1 V0 (no_index (Proc.devRef .tc main_arg10)) = V0 (Proc.devRef .tc main_arg10) :=
  (val1_keep V0 main_arg10 (by decide)).trans (val0_3_main_arg10 V0)
/-- After stage `val1` the buffer `main_arg11` holds this term of the launch contents. -/
theorem val1_main_arg11 (V0 : Valuation τ sig (Elt F)) : val1 V0 (no_index (Proc.devRef .tc main_arg11)) = V0 (Proc.devRef .tc main_arg11) :=
  (val1_keep V0 main_arg11 (by decide)).trans (val0_3_main_arg11 V0)
/-- After stage `val1` the buffer `main_arg12` holds this term of the launch contents. -/
theorem val1_main_arg12 (V0 : Valuation τ sig (Elt F)) : val1 V0 (no_index (Proc.devRef .tc main_arg12)) = V0 (Proc.devRef .tc main_arg12) :=
  (val1_keep V0 main_arg12 (by decide)).trans (val0_3_main_arg12 V0)
/-- After stage `val1` the buffer `main_arg13` holds this term of the launch contents. -/
theorem val1_main_arg13 (V0 : Valuation τ sig (Elt F)) : val1 V0 (no_index (Proc.devRef .tc main_arg13)) = V0 (Proc.devRef .tc main_arg13) :=
  (val1_keep V0 main_arg13 (by decide)).trans (val0_3_main_arg13 V0)
/-- After stage `val1` the buffer `main_arg14` holds this term of the launch contents. -/
theorem val1_main_arg14 (V0 : Valuation τ sig (Elt F)) : val1 V0 (no_index (Proc.devRef .tc main_arg14)) = V0 (Proc.devRef .tc main_arg14) :=
  (val1_keep V0 main_arg14 (by decide)).trans (val0_3_main_arg14 V0)
/-- After stage `val1` the buffer `main_arg15` holds this term of the launch contents. -/
theorem val1_main_arg15 (V0 : Valuation τ sig (Elt F)) : val1 V0 (no_index (Proc.devRef .tc main_arg15)) = V0 (Proc.devRef .tc main_arg15) :=
  (val1_keep V0 main_arg15 (by decide)).trans (val0_3_main_arg15 V0)
/-- After stage `val1` the buffer `main_arg16` holds this term of the launch contents. -/
theorem val1_main_arg16 (V0 : Valuation τ sig (Elt F)) : val1 V0 (no_index (Proc.devRef .tc main_arg16)) = V0 (Proc.devRef .tc main_arg16) :=
  (val1_keep V0 main_arg16 (by decide)).trans (val0_3_main_arg16 V0)
/-- After stage `val1` the buffer `main_arg17` holds this term of the launch contents. -/
theorem val1_main_arg17 (V0 : Valuation τ sig (Elt F)) : val1 V0 (no_index (Proc.devRef .tc main_arg17)) = V0 (Proc.devRef .tc main_arg17) :=
  (val1_keep V0 main_arg17 (by decide)).trans (val0_3_main_arg17 V0)
set_option maxRecDepth 8192 in
set_option maxHeartbeats 2000000 in
/-- After stage `val1` the buffer `main_v49` holds this term of the launch contents. -/
theorem val1_main_v49 (V0 : Valuation τ sig (Elt F)) : val1 V0 (no_index (Proc.devRef .tc main_v49)) = maximumf (addf (Host.dotGeneral dot_S8x270000x8_S8x10_S8x270000x10_2_0_01_1_n_n none (shapeCast _ (concatenate S8x30x9000x8 3 [⟨S8x30x9000x4, (broadcastInDim S8x30x9000x4 ![0, 1, 2, 3] bcast_S8x30x1x4_S8x30x9000x4_0_1_2_3 (broadcastInDim S8x30x1x4 ![0, 1, 3] bcast_S8x30x4_S8x30x1x4_0_1_3 (concatenate S8x30x4 2 [⟨S8x30x1, (broadcastInDim S8x30x1 ![0, 1] bcast_S8x30_S8x30x1_0_1 (res_main_v15 V0))⟩, ⟨S8x30x3, (Host.divf (Host.reduceAdd (shapeCast _ (select (broadcastInDim S8x30x9000 ![0, 2] bcast_S8x9000_S8x30x9000_0_2 (Host.reduce IntOp.andi (andi (cmpi .sge (res_main_call3_v5 V0) (broadcastInDim S8x9000x1 ![] bcast_S_S8x9000x1 (constantI S_ 32 0#32))) (cmpi .sle (res_main_call3_v5 V0) (broadcastInDim S8x9000x1 ![0, 1, 2] bcast_S1x1x1_S8x9000x1_0_1_2 (broadcastInDim S1x1x1 ![2] bcast_S1_S1x1x1_2 (constantI S1 32 8999#32))))) (constantI S_ 1 1#1) reducesTo_S8x9000x1_S8x9000_d2 h_S_)) (Host.gather gather_S8x30x9000_S8x9000x1_S8x30x9000_1_2_0_0_2_2_1301 (res_main_v12 V0) (res_main_call3_v5 V0)) (broadcastInDim S8x30x9000 ![] bcast_S_S8x30x9000 (constant S_ .f32 0x7FC00000#32))) shapeCasts_S8x30x9000_S8x30x3x3000) (constant S_ .f32 0x00000000#32) reducesTo_S8x30x3x3000_S8x30x3_d3 h_S_) (broadcastInDim S8x30x3 ![] bcast_S_S8x30x3 (constant S_ .f32 0x453B8000#32)))⟩] concatenates_S8x30x1_S8x30x3_S8x30x4_d2)))⟩, ⟨S8x30x9000x4, (broadcastInDim S8x30x9000x4 ![0, 1, 2, 3] bcast_S8x1x9000x4_S8x30x9000x4_0_1_2_3 (broadcastInDim S8x1x9000x4 ![0, 2, 3] bcast_S8x9000x4_S8x1x9000x4_0_2_3 (concatenate S8x9000x4 2 [⟨S8x9000x1, (broadcastInDim S8x9000x1 ![0, 1] bcast_S8x9000_S8x9000x1_0_1 (res_main_v18 V0))⟩, ⟨S8x9000x3, (transpose S8x9000x3 [0, 2, 1] (Host.divf (Host.reduceAdd (shapeCast _ (select (broadcastInDim S8x30x9000 ![0, 1] bcast_S8x30_S8x30x9000_0_1 (Host.reduce IntOp.andi (andi (cmpi .sge (res_main_call4_v4 V0) (broadcastInDim S8x30x1 ![] bcast_S_S8x30x1 (constantI S_ 32 0#32))) (cmpi .sle (res_main_call4_v4 V0) (broadcastInDim S8x30x1 ![0, 1, 2] bcast_S1x1x1_S8x30x1_0_1_2 (broadcastInDim S1x1x1 ![2] bcast_S1_S1x1x1_2 (constantI S1 32 29#32))))) (constantI S_ 1 1#1) reducesTo_S8x30x1_S8x30_d2 h_S_)) (Host.gather gather_S8x30x9000_S8x30x1_S8x30x9000_2_1_0_0_1_2_119000 (res_main_v12 V0) (res_main_call4_v4 V0)) (broadcastInDim S8x30x9000 ![] bcast_S_S8x30x9000 (constant S_ .f32 0x7FC00000#32))) shapeCasts_S8x30x9000_S8x3x10x9000) (constant S_ .f32 0x00000000#32) reducesTo_S8x3x10x9000_S8x3x9000_d2 h_S_) (broadcastInDim S8x3x9000 ![] bcast_S_S8x3x9000 (constant S_ .f32 0x41200000#32))) transposes_S8x3x9000_S8x9000x3_0_2_1)⟩] concatenates_S8x9000x1_S8x9000x3_S8x9000x4_d2)))⟩] concatenates_S8x30x9000x4_S8x30x9000x4_S8x30x9000x8_d3) shapeCasts_S8x30x9000x8_S8x270000x8) (transpose S8x10 [1, 0] (V0 (Proc.devRef .tc main_arg2)) transposes_S10x8_S8x10_1_0)) (broadcastInDim S8x270000x10 ![0, 1, 2] bcast_S1x1x10_S8x270000x10_0_1_2 (broadcastInDim S1x1x10 ![2] bcast_S10_S1x1x10_2 (V0 (Proc.devRef .tc main_arg3))))) (broadcastInDim S8x270000x10 ![] bcast_S_S8x270000x10 (constant S_ .f32 0x00000000#32)) := by
  unfold val1
  simp only [ops_part0_3, TRef.binary, TRef.nullary, TRef.unary, TRef.toBuf, TRef.ofBuf, cast_eq]
  after_results_simp
  simp only [val0_3_main_arg3, val0_3_main_arg2, val0_3_main_v30, val0_3_main_v18, val0_3_main_v26, val0_3_main_v15] <;> rfl
set_option maxRecDepth 8192 in
set_option maxHeartbeats 2000000 in
/-- After stage `val1` the buffer `main_v50` holds this term of the launch contents. -/
theorem val1_main_v50 (V0 : Valuation τ sig (Elt F)) : val1 V0 (no_index (Proc.devRef .tc main_v50)) = transpose S10x10 [1, 0] (V0 (Proc.devRef .tc main_arg4)) transposes_S10x10_S10x10_1_0 := by
  unfold val1
  simp only [ops_part0_3, TRef.binary, TRef.nullary, TRef.unary, TRef.toBuf, TRef.ofBuf, cast_eq]
  after_results_simp
  simp only [val0_3_main_arg4] <;> rfl

/-- The device's buffer contents after @main's first 143 operations. -/
def val1_1 (V0 : Valuation τ sig (Elt F)) : Valuation τ sig (Elt F) := after ops_part1_0 (val1 V0)
/-- The buffers that window `ops_part1_0`'s operations write. -/
abbrev ops_part1_0_W : List (Ref sig .tc) := [main_v51, main_v52, main_v53, main_v54, main_call6_cst, main_call6_v0, main_v55, main_v56, main_v57, main_v58, main_v59, main_v60, main_call7_cst, main_call7_v0, main_v61, main_v62, main_v63, main_v64, main_v65, main_v66, main_v67, main_v68, main_cst_7, main_v69, main_v70, main_cst_8, main_v71, main_v72, main_v73, main_v74]
set_option maxRecDepth 8192 in
/-- The buffers this stretch of operations writes, one per operation. -/
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
/-- After stage `val1_1` the buffer `main_arg0` holds this term of the launch contents. -/
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
/-- After stage `val1_1` the buffer `main_arg1` holds this term of the launch contents. -/
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
/-- After stage `val1_1` the buffer `main_arg2` holds this term of the launch contents. -/
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
/-- After stage `val1_1` the buffer `main_arg3` holds this term of the launch contents. -/
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
/-- After stage `val1_1` the buffer `main_arg4` holds this term of the launch contents. -/
theorem val1_1_main_arg4 (V0 : Valuation τ sig (Elt F)) : val1_1 V0 (no_index (Proc.devRef .tc main_arg4)) = V0 (Proc.devRef .tc main_arg4) :=
  (val1_1_keep V0 main_arg4 (by decide)).trans (val1_main_arg4 V0)
/-- After stage `val1_1` the buffer `main_arg5` holds this term of the launch contents. -/
theorem val1_1_main_arg5 (V0 : Valuation τ sig (Elt F)) : val1_1 V0 (no_index (Proc.devRef .tc main_arg5)) = V0 (Proc.devRef .tc main_arg5) :=
  (val1_1_keep V0 main_arg5 (by decide)).trans (val1_main_arg5 V0)
/-- After stage `val1_1` the buffer `main_arg6` holds this term of the launch contents. -/
theorem val1_1_main_arg6 (V0 : Valuation τ sig (Elt F)) : val1_1 V0 (no_index (Proc.devRef .tc main_arg6)) = V0 (Proc.devRef .tc main_arg6) :=
  (val1_1_keep V0 main_arg6 (by decide)).trans (val1_main_arg6 V0)
/-- After stage `val1_1` the buffer `main_arg7` holds this term of the launch contents. -/
theorem val1_1_main_arg7 (V0 : Valuation τ sig (Elt F)) : val1_1 V0 (no_index (Proc.devRef .tc main_arg7)) = V0 (Proc.devRef .tc main_arg7) :=
  (val1_1_keep V0 main_arg7 (by decide)).trans (val1_main_arg7 V0)
/-- After stage `val1_1` the buffer `main_arg8` holds this term of the launch contents. -/
theorem val1_1_main_arg8 (V0 : Valuation τ sig (Elt F)) : val1_1 V0 (no_index (Proc.devRef .tc main_arg8)) = V0 (Proc.devRef .tc main_arg8) :=
  (val1_1_keep V0 main_arg8 (by decide)).trans (val1_main_arg8 V0)
/-- After stage `val1_1` the buffer `main_arg9` holds this term of the launch contents. -/
theorem val1_1_main_arg9 (V0 : Valuation τ sig (Elt F)) : val1_1 V0 (no_index (Proc.devRef .tc main_arg9)) = V0 (Proc.devRef .tc main_arg9) :=
  (val1_1_keep V0 main_arg9 (by decide)).trans (val1_main_arg9 V0)
/-- After stage `val1_1` the buffer `main_arg10` holds this term of the launch contents. -/
theorem val1_1_main_arg10 (V0 : Valuation τ sig (Elt F)) : val1_1 V0 (no_index (Proc.devRef .tc main_arg10)) = V0 (Proc.devRef .tc main_arg10) :=
  (val1_1_keep V0 main_arg10 (by decide)).trans (val1_main_arg10 V0)
/-- After stage `val1_1` the buffer `main_arg11` holds this term of the launch contents. -/
theorem val1_1_main_arg11 (V0 : Valuation τ sig (Elt F)) : val1_1 V0 (no_index (Proc.devRef .tc main_arg11)) = V0 (Proc.devRef .tc main_arg11) :=
  (val1_1_keep V0 main_arg11 (by decide)).trans (val1_main_arg11 V0)
/-- After stage `val1_1` the buffer `main_arg12` holds this term of the launch contents. -/
theorem val1_1_main_arg12 (V0 : Valuation τ sig (Elt F)) : val1_1 V0 (no_index (Proc.devRef .tc main_arg12)) = V0 (Proc.devRef .tc main_arg12) :=
  (val1_1_keep V0 main_arg12 (by decide)).trans (val1_main_arg12 V0)
/-- After stage `val1_1` the buffer `main_arg13` holds this term of the launch contents. -/
theorem val1_1_main_arg13 (V0 : Valuation τ sig (Elt F)) : val1_1 V0 (no_index (Proc.devRef .tc main_arg13)) = V0 (Proc.devRef .tc main_arg13) :=
  (val1_1_keep V0 main_arg13 (by decide)).trans (val1_main_arg13 V0)
/-- After stage `val1_1` the buffer `main_arg14` holds this term of the launch contents. -/
theorem val1_1_main_arg14 (V0 : Valuation τ sig (Elt F)) : val1_1 V0 (no_index (Proc.devRef .tc main_arg14)) = V0 (Proc.devRef .tc main_arg14) :=
  (val1_1_keep V0 main_arg14 (by decide)).trans (val1_main_arg14 V0)
/-- After stage `val1_1` the buffer `main_arg15` holds this term of the launch contents. -/
theorem val1_1_main_arg15 (V0 : Valuation τ sig (Elt F)) : val1_1 V0 (no_index (Proc.devRef .tc main_arg15)) = V0 (Proc.devRef .tc main_arg15) :=
  (val1_1_keep V0 main_arg15 (by decide)).trans (val1_main_arg15 V0)
/-- After stage `val1_1` the buffer `main_arg16` holds this term of the launch contents. -/
theorem val1_1_main_arg16 (V0 : Valuation τ sig (Elt F)) : val1_1 V0 (no_index (Proc.devRef .tc main_arg16)) = V0 (Proc.devRef .tc main_arg16) :=
  (val1_1_keep V0 main_arg16 (by decide)).trans (val1_main_arg16 V0)
/-- After stage `val1_1` the buffer `main_arg17` holds this term of the launch contents. -/
theorem val1_1_main_arg17 (V0 : Valuation τ sig (Elt F)) : val1_1 V0 (no_index (Proc.devRef .tc main_arg17)) = V0 (Proc.devRef .tc main_arg17) :=
  (val1_1_keep V0 main_arg17 (by decide)).trans (val1_main_arg17 V0)
set_option maxRecDepth 8192 in
set_option maxHeartbeats 2000000 in
/-- After stage `val1_1` the buffer `main_v73` holds this term of the launch contents. -/
theorem val1_1_main_v73 (V0 : Valuation τ sig (Elt F)) : val1_1 V0 (no_index (Proc.devRef .tc main_v73)) = res_main_v73 V0 := by
  unfold val1_1
  simp only [ops_part1_0, TRef.binary, TRef.nullary, TRef.unary, TRef.toBuf, TRef.ofBuf, cast_eq]
  after_results_simp
  simp only [val1_main_arg9, val1_main_arg8, val1_main_arg7, val1_main_arg6, val1_main_arg5, val1_main_v50, val1_main_v49] <;> rfl
set_option maxRecDepth 8192 in
set_option maxHeartbeats 2000000 in
/-- After stage `val1_1` the buffer `main_v74` holds this term of the launch contents. -/
theorem val1_1_main_v74 (V0 : Valuation τ sig (Elt F)) : val1_1 V0 (no_index (Proc.devRef .tc main_v74)) = shapeCast _ (res_main_v73 V0) shapeCasts_S8x270000_S8x30x9000 := by
  unfold val1_1
  simp only [ops_part1_0, TRef.binary, TRef.nullary, TRef.unary, TRef.toBuf, TRef.ofBuf, cast_eq]
  after_results_simp
  simp only [val1_main_arg9, val1_main_arg8, val1_main_arg7, val1_main_arg6, val1_main_arg5, val1_main_v50, val1_main_v49] <;> rfl

/-- The device's buffer contents after @main's first 173 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v75, main_v76, main_v77, main_v78, main_v79, main_v80, main_v81, main_v82, main_v83, main_v84, main_cst_9, main_v85, main_v86, main_cst_10, main_v87, main_v88, main_call8_v0, main_call8_v1, main_v89, main_v90, main_v91, main_v92, main_v93, main_v94, main_v95, main_v96, main_v97, main_v98, main_v99, main_v100]
set_option maxRecDepth 8192 in
/-- The buffers this stretch of operations writes, one per operation. -/
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
/-- After stage `val1_2` the buffer `main_arg0` holds this term of the launch contents. -/
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
/-- After stage `val1_2` the buffer `main_arg1` holds this term of the launch contents. -/
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
/-- After stage `val1_2` the buffer `main_arg2` holds this term of the launch contents. -/
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
/-- After stage `val1_2` the buffer `main_arg3` holds this term of the launch contents. -/
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
/-- After stage `val1_2` the buffer `main_arg4` holds this term of the launch contents. -/
theorem val1_2_main_arg4 (V0 : Valuation τ sig (Elt F)) : val1_2 V0 (no_index (Proc.devRef .tc main_arg4)) = V0 (Proc.devRef .tc main_arg4) :=
  (val1_2_keep V0 main_arg4 (by decide)).trans (val1_1_main_arg4 V0)
/-- After stage `val1_2` the buffer `main_arg5` holds this term of the launch contents. -/
theorem val1_2_main_arg5 (V0 : Valuation τ sig (Elt F)) : val1_2 V0 (no_index (Proc.devRef .tc main_arg5)) = V0 (Proc.devRef .tc main_arg5) :=
  (val1_2_keep V0 main_arg5 (by decide)).trans (val1_1_main_arg5 V0)
/-- After stage `val1_2` the buffer `main_arg6` holds this term of the launch contents. -/
theorem val1_2_main_arg6 (V0 : Valuation τ sig (Elt F)) : val1_2 V0 (no_index (Proc.devRef .tc main_arg6)) = V0 (Proc.devRef .tc main_arg6) :=
  (val1_2_keep V0 main_arg6 (by decide)).trans (val1_1_main_arg6 V0)
/-- After stage `val1_2` the buffer `main_arg7` holds this term of the launch contents. -/
theorem val1_2_main_arg7 (V0 : Valuation τ sig (Elt F)) : val1_2 V0 (no_index (Proc.devRef .tc main_arg7)) = V0 (Proc.devRef .tc main_arg7) :=
  (val1_2_keep V0 main_arg7 (by decide)).trans (val1_1_main_arg7 V0)
/-- After stage `val1_2` the buffer `main_arg8` holds this term of the launch contents. -/
theorem val1_2_main_arg8 (V0 : Valuation τ sig (Elt F)) : val1_2 V0 (no_index (Proc.devRef .tc main_arg8)) = V0 (Proc.devRef .tc main_arg8) :=
  (val1_2_keep V0 main_arg8 (by decide)).trans (val1_1_main_arg8 V0)
/-- After stage `val1_2` the buffer `main_arg9` holds this term of the launch contents. -/
theorem val1_2_main_arg9 (V0 : Valuation τ sig (Elt F)) : val1_2 V0 (no_index (Proc.devRef .tc main_arg9)) = V0 (Proc.devRef .tc main_arg9) :=
  (val1_2_keep V0 main_arg9 (by decide)).trans (val1_1_main_arg9 V0)
/-- After stage `val1_2` the buffer `main_arg10` holds this term of the launch contents. -/
theorem val1_2_main_arg10 (V0 : Valuation τ sig (Elt F)) : val1_2 V0 (no_index (Proc.devRef .tc main_arg10)) = V0 (Proc.devRef .tc main_arg10) :=
  (val1_2_keep V0 main_arg10 (by decide)).trans (val1_1_main_arg10 V0)
/-- After stage `val1_2` the buffer `main_arg11` holds this term of the launch contents. -/
theorem val1_2_main_arg11 (V0 : Valuation τ sig (Elt F)) : val1_2 V0 (no_index (Proc.devRef .tc main_arg11)) = V0 (Proc.devRef .tc main_arg11) :=
  (val1_2_keep V0 main_arg11 (by decide)).trans (val1_1_main_arg11 V0)
/-- After stage `val1_2` the buffer `main_arg12` holds this term of the launch contents. -/
theorem val1_2_main_arg12 (V0 : Valuation τ sig (Elt F)) : val1_2 V0 (no_index (Proc.devRef .tc main_arg12)) = V0 (Proc.devRef .tc main_arg12) :=
  (val1_2_keep V0 main_arg12 (by decide)).trans (val1_1_main_arg12 V0)
/-- After stage `val1_2` the buffer `main_arg13` holds this term of the launch contents. -/
theorem val1_2_main_arg13 (V0 : Valuation τ sig (Elt F)) : val1_2 V0 (no_index (Proc.devRef .tc main_arg13)) = V0 (Proc.devRef .tc main_arg13) :=
  (val1_2_keep V0 main_arg13 (by decide)).trans (val1_1_main_arg13 V0)
/-- After stage `val1_2` the buffer `main_arg14` holds this term of the launch contents. -/
theorem val1_2_main_arg14 (V0 : Valuation τ sig (Elt F)) : val1_2 V0 (no_index (Proc.devRef .tc main_arg14)) = V0 (Proc.devRef .tc main_arg14) :=
  (val1_2_keep V0 main_arg14 (by decide)).trans (val1_1_main_arg14 V0)
/-- After stage `val1_2` the buffer `main_arg15` holds this term of the launch contents. -/
theorem val1_2_main_arg15 (V0 : Valuation τ sig (Elt F)) : val1_2 V0 (no_index (Proc.devRef .tc main_arg15)) = V0 (Proc.devRef .tc main_arg15) :=
  (val1_2_keep V0 main_arg15 (by decide)).trans (val1_1_main_arg15 V0)
/-- After stage `val1_2` the buffer `main_arg16` holds this term of the launch contents. -/
theorem val1_2_main_arg16 (V0 : Valuation τ sig (Elt F)) : val1_2 V0 (no_index (Proc.devRef .tc main_arg16)) = V0 (Proc.devRef .tc main_arg16) :=
  (val1_2_keep V0 main_arg16 (by decide)).trans (val1_1_main_arg16 V0)
/-- After stage `val1_2` the buffer `main_arg17` holds this term of the launch contents. -/
theorem val1_2_main_arg17 (V0 : Valuation τ sig (Elt F)) : val1_2 V0 (no_index (Proc.devRef .tc main_arg17)) = V0 (Proc.devRef .tc main_arg17) :=
  (val1_2_keep V0 main_arg17 (by decide)).trans (val1_1_main_arg17 V0)
/-- After stage `val1_2` the buffer `main_v73` holds this term of the launch contents. -/
theorem val1_2_main_v73 (V0 : Valuation τ sig (Elt F)) : val1_2 V0 (no_index (Proc.devRef .tc main_v73)) = res_main_v73 V0 :=
  (val1_2_keep V0 main_v73 (by decide)).trans (val1_1_main_v73 V0)
set_option maxRecDepth 8192 in
set_option maxHeartbeats 2000000 in
/-- After stage `val1_2` the buffer `main_v98` holds this term of the launch contents. -/
theorem val1_2_main_v98 (V0 : Valuation τ sig (Elt F)) : val1_2 V0 (no_index (Proc.devRef .tc main_v98)) = Host.dotGeneral dot_S288000x15_S15x15_S288000x15_1_0_0_1_n_n none (Host.tanh (addf (Host.dotGeneral dot_S288000x30_S30x15_S288000x15_1_0_0_1_n_n none (shapeCast _ (select (cmpi .eq (broadcastInDim S8x9000x4x30 ![0, 1, 2, 3] bcast_S8x9000x1x30_S8x9000x4x30_0_1_2_3 (broadcastInDim S8x9000x1x30 ![0, 1, 3] bcast_S8x9000x30_S8x9000x1x30_0_1_3 (transpose S8x9000x30 [0, 2, 1] (V0 (Proc.devRef .tc main_arg0)) transposes_S8x30x9000_S8x9000x30_0_2_1))) (broadcastInDim S8x9000x4x30 ![0, 1, 2, 3] bcast_S1x1x4x1_S8x9000x4x30_0_1_2_3 (broadcastInDim S1x1x4x1 ![2] bcast_S4_S1x1x4x1_2 (iotaInDim S4 32 0)))) (broadcastInDim S8x9000x4x30 ![0, 1, 2, 3] bcast_S8x9000x1x30_S8x9000x4x30_0_1_2_3 (broadcastInDim S8x9000x1x30 ![0, 1, 3] bcast_S8x9000x30_S8x9000x1x30_0_1_3 (res_main_v76 V0))) (broadcastInDim S8x9000x4x30 ![0, 1, 2, 3] bcast_S8x9000x1x30_S8x9000x4x30_0_1_2_3 (Host.divf (subf (broadcastInDim S8x9000x1x30 ![] bcast_S_S8x9000x1x30 (constant S_ .f32 0x3F800000#32)) (broadcastInDim S8x9000x1x30 ![0, 1, 3] bcast_S8x9000x30_S8x9000x1x30_0_1_3 (res_main_v76 V0))) (broadcastInDim S8x9000x1x30 ![] bcast_S_S8x9000x1x30 (constant S_ .f32 0x40400000#32))))) shapeCasts_S8x9000x4x30_S288000x30) (transpose S30x15 [1, 0] (V0 (Proc.devRef .tc main_arg10)) transposes_S15x30_S30x15_1_0)) (broadcastInDim S288000x15 ![0, 1] bcast_S1x15_S288000x15_0_1 (broadcastInDim S1x15 ![1] bcast_S15_S1x15_1 (V0 (Proc.devRef .tc main_arg11)))))) (transpose S15x15 [1, 0] (V0 (Proc.devRef .tc main_arg12)) transposes_S15x15_S15x15_1_0) := by
  unfold val1_2
  simp only [ops_part1_1, TRef.ternary, TRef.unary, TRef.toBuf, TRef.ofBuf, cast_eq]
  after_results_simp
  simp only [val1_1_main_arg12, val1_1_main_arg11, val1_1_main_arg10, val1_1_main_v74, val1_1_main_arg0] <;> rfl
set_option maxRecDepth 8192 in
set_option maxHeartbeats 2000000 in
/-- After stage `val1_2` the buffer `main_v100` holds this term of the launch contents. -/
theorem val1_2_main_v100 (V0 : Valuation τ sig (Elt F)) : val1_2 V0 (no_index (Proc.devRef .tc main_v100)) = broadcastInDim S288000x15 ![0, 1] bcast_S1x15_S288000x15_0_1 (broadcastInDim S1x15 ![1] bcast_S15_S1x15_1 (V0 (Proc.devRef .tc main_arg13))) := by
  unfold val1_2
  simp only [ops_part1_1, TRef.ternary, TRef.unary, TRef.toBuf, TRef.ofBuf, cast_eq]
  after_results_simp
  simp only [val1_1_main_arg13] <;> rfl

end Cert.ReferenceIdeal.Value

end
-- ==== Proof.RefRun.lean ====
/- What the reference's buffers hold after the last stages, and its whole run. -/
module

public import proofs.«01_k».proof.Proof.RefVals

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]
/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v101, main_v102, main_v103, main_v104, main_v105, main_v106]
set_option maxRecDepth 8192 in
/-- The buffers this stretch of operations writes, one per operation. -/
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
/-- After stage `val2` the buffer `main_arg0` holds this term of the launch contents. -/
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
/-- After stage `val2` the buffer `main_arg1` holds this term of the launch contents. -/
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
/-- After stage `val2` the buffer `main_arg2` holds this term of the launch contents. -/
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
/-- After stage `val2` the buffer `main_arg3` holds this term of the launch contents. -/
theorem val2_main_arg3 (V0 : Valuation τ sig (Elt F)) : val2 V0 (no_index (Proc.devRef .tc main_arg3)) = V0 (Proc.devRef .tc main_arg3) :=
  (val2_keep V0 main_arg3 (by decide)).trans (val1_2_main_arg3 V0)
/-- After stage `val2` the buffer `main_arg4` holds this term of the launch contents. -/
theorem val2_main_arg4 (V0 : Valuation τ sig (Elt F)) : val2 V0 (no_index (Proc.devRef .tc main_arg4)) = V0 (Proc.devRef .tc main_arg4) :=
  (val2_keep V0 main_arg4 (by decide)).trans (val1_2_main_arg4 V0)
/-- After stage `val2` the buffer `main_arg5` holds this term of the launch contents. -/
theorem val2_main_arg5 (V0 : Valuation τ sig (Elt F)) : val2 V0 (no_index (Proc.devRef .tc main_arg5)) = V0 (Proc.devRef .tc main_arg5) :=
  (val2_keep V0 main_arg5 (by decide)).trans (val1_2_main_arg5 V0)
/-- After stage `val2` the buffer `main_arg6` holds this term of the launch contents. -/
theorem val2_main_arg6 (V0 : Valuation τ sig (Elt F)) : val2 V0 (no_index (Proc.devRef .tc main_arg6)) = V0 (Proc.devRef .tc main_arg6) :=
  (val2_keep V0 main_arg6 (by decide)).trans (val1_2_main_arg6 V0)
/-- After stage `val2` the buffer `main_arg7` holds this term of the launch contents. -/
theorem val2_main_arg7 (V0 : Valuation τ sig (Elt F)) : val2 V0 (no_index (Proc.devRef .tc main_arg7)) = V0 (Proc.devRef .tc main_arg7) :=
  (val2_keep V0 main_arg7 (by decide)).trans (val1_2_main_arg7 V0)
/-- After stage `val2` the buffer `main_arg8` holds this term of the launch contents. -/
theorem val2_main_arg8 (V0 : Valuation τ sig (Elt F)) : val2 V0 (no_index (Proc.devRef .tc main_arg8)) = V0 (Proc.devRef .tc main_arg8) :=
  (val2_keep V0 main_arg8 (by decide)).trans (val1_2_main_arg8 V0)
/-- After stage `val2` the buffer `main_arg9` holds this term of the launch contents. -/
theorem val2_main_arg9 (V0 : Valuation τ sig (Elt F)) : val2 V0 (no_index (Proc.devRef .tc main_arg9)) = V0 (Proc.devRef .tc main_arg9) :=
  (val2_keep V0 main_arg9 (by decide)).trans (val1_2_main_arg9 V0)
/-- After stage `val2` the buffer `main_arg10` holds this term of the launch contents. -/
theorem val2_main_arg10 (V0 : Valuation τ sig (Elt F)) : val2 V0 (no_index (Proc.devRef .tc main_arg10)) = V0 (Proc.devRef .tc main_arg10) :=
  (val2_keep V0 main_arg10 (by decide)).trans (val1_2_main_arg10 V0)
/-- After stage `val2` the buffer `main_arg11` holds this term of the launch contents. -/
theorem val2_main_arg11 (V0 : Valuation τ sig (Elt F)) : val2 V0 (no_index (Proc.devRef .tc main_arg11)) = V0 (Proc.devRef .tc main_arg11) :=
  (val2_keep V0 main_arg11 (by decide)).trans (val1_2_main_arg11 V0)
/-- After stage `val2` the buffer `main_arg12` holds this term of the launch contents. -/
theorem val2_main_arg12 (V0 : Valuation τ sig (Elt F)) : val2 V0 (no_index (Proc.devRef .tc main_arg12)) = V0 (Proc.devRef .tc main_arg12) :=
  (val2_keep V0 main_arg12 (by decide)).trans (val1_2_main_arg12 V0)
/-- After stage `val2` the buffer `main_arg13` holds this term of the launch contents. -/
theorem val2_main_arg13 (V0 : Valuation τ sig (Elt F)) : val2 V0 (no_index (Proc.devRef .tc main_arg13)) = V0 (Proc.devRef .tc main_arg13) :=
  (val2_keep V0 main_arg13 (by decide)).trans (val1_2_main_arg13 V0)
/-- After stage `val2` the buffer `main_arg14` holds this term of the launch contents. -/
theorem val2_main_arg14 (V0 : Valuation τ sig (Elt F)) : val2 V0 (no_index (Proc.devRef .tc main_arg14)) = V0 (Proc.devRef .tc main_arg14) :=
  (val2_keep V0 main_arg14 (by decide)).trans (val1_2_main_arg14 V0)
/-- After stage `val2` the buffer `main_arg15` holds this term of the launch contents. -/
theorem val2_main_arg15 (V0 : Valuation τ sig (Elt F)) : val2 V0 (no_index (Proc.devRef .tc main_arg15)) = V0 (Proc.devRef .tc main_arg15) :=
  (val2_keep V0 main_arg15 (by decide)).trans (val1_2_main_arg15 V0)
/-- After stage `val2` the buffer `main_arg16` holds this term of the launch contents. -/
theorem val2_main_arg16 (V0 : Valuation τ sig (Elt F)) : val2 V0 (no_index (Proc.devRef .tc main_arg16)) = V0 (Proc.devRef .tc main_arg16) :=
  (val2_keep V0 main_arg16 (by decide)).trans (val1_2_main_arg16 V0)
/-- After stage `val2` the buffer `main_arg17` holds this term of the launch contents. -/
theorem val2_main_arg17 (V0 : Valuation τ sig (Elt F)) : val2 V0 (no_index (Proc.devRef .tc main_arg17)) = V0 (Proc.devRef .tc main_arg17) :=
  (val2_keep V0 main_arg17 (by decide)).trans (val1_2_main_arg17 V0)
/-- After stage `val2` the buffer `main_v73` holds this term of the launch contents. -/
theorem val2_main_v73 (V0 : Valuation τ sig (Elt F)) : val2 V0 (no_index (Proc.devRef .tc main_v73)) = res_main_v73 V0 :=
  (val2_keep V0 main_v73 (by decide)).trans (val1_2_main_v73 V0)
set_option maxRecDepth 8192 in
/-- After stage `val2` the buffer `main_v104` holds this term of the launch contents. -/
theorem val2_main_v104 (V0 : Valuation τ sig (Elt F)) : val2 V0 (no_index (Proc.devRef .tc main_v104)) = Host.dotGeneral dot_S288000x15_S15x15_S288000x15_1_0_0_1_n_n none (Host.tanh (addf (Host.dotGeneral dot_S288000x15_S15x15_S288000x15_1_0_0_1_n_n none (Host.tanh (addf (Host.dotGeneral dot_S288000x30_S30x15_S288000x15_1_0_0_1_n_n none (shapeCast _ (select (cmpi .eq (broadcastInDim S8x9000x4x30 ![0, 1, 2, 3] bcast_S8x9000x1x30_S8x9000x4x30_0_1_2_3 (broadcastInDim S8x9000x1x30 ![0, 1, 3] bcast_S8x9000x30_S8x9000x1x30_0_1_3 (transpose S8x9000x30 [0, 2, 1] (V0 (Proc.devRef .tc main_arg0)) transposes_S8x30x9000_S8x9000x30_0_2_1))) (broadcastInDim S8x9000x4x30 ![0, 1, 2, 3] bcast_S1x1x4x1_S8x9000x4x30_0_1_2_3 (broadcastInDim S1x1x4x1 ![2] bcast_S4_S1x1x4x1_2 (iotaInDim S4 32 0)))) (broadcastInDim S8x9000x4x30 ![0, 1, 2, 3] bcast_S8x9000x1x30_S8x9000x4x30_0_1_2_3 (broadcastInDim S8x9000x1x30 ![0, 1, 3] bcast_S8x9000x30_S8x9000x1x30_0_1_3 (res_main_v76 V0))) (broadcastInDim S8x9000x4x30 ![0, 1, 2, 3] bcast_S8x9000x1x30_S8x9000x4x30_0_1_2_3 (Host.divf (subf (broadcastInDim S8x9000x1x30 ![] bcast_S_S8x9000x1x30 (constant S_ .f32 0x3F800000#32)) (broadcastInDim S8x9000x1x30 ![0, 1, 3] bcast_S8x9000x30_S8x9000x1x30_0_1_3 (res_main_v76 V0))) (broadcastInDim S8x9000x1x30 ![] bcast_S_S8x9000x1x30 (constant S_ .f32 0x40400000#32))))) shapeCasts_S8x9000x4x30_S288000x30) (transpose S30x15 [1, 0] (V0 (Proc.devRef .tc main_arg10)) transposes_S15x30_S30x15_1_0)) (broadcastInDim S288000x15 ![0, 1] bcast_S1x15_S288000x15_0_1 (broadcastInDim S1x15 ![1] bcast_S15_S1x15_1 (V0 (Proc.devRef .tc main_arg11)))))) (transpose S15x15 [1, 0] (V0 (Proc.devRef .tc main_arg12)) transposes_S15x15_S15x15_1_0)) (broadcastInDim S288000x15 ![0, 1] bcast_S1x15_S288000x15_0_1 (broadcastInDim S1x15 ![1] bcast_S15_S1x15_1 (V0 (Proc.devRef .tc main_arg13)))))) (transpose S15x15 [1, 0] (V0 (Proc.devRef .tc main_arg14)) transposes_S15x15_S15x15_1_0) := by
  unfold val2
  simp only [ops_part1_2]
  after_results_simp
  simp only [val1_2_main_arg14, val1_2_main_v100, val1_2_main_v98] <;> rfl
set_option maxRecDepth 8192 in
/-- After stage `val2` the buffer `main_v106` holds this term of the launch contents. -/
theorem val2_main_v106 (V0 : Valuation τ sig (Elt F)) : val2 V0 (no_index (Proc.devRef .tc main_v106)) = broadcastInDim S288000x15 ![0, 1] bcast_S1x15_S288000x15_0_1 (broadcastInDim S1x15 ![1] bcast_S15_S1x15_1 (V0 (Proc.devRef .tc main_arg15))) := by
  unfold val2
  simp only [ops_part1_2]
  after_results_simp
  simp only [val1_2_main_arg15] <;> rfl

/-- The device's buffer contents after @main's first 209 operations. -/
def val2_1 (V0 : Valuation τ sig (Elt F)) : Valuation τ sig (Elt F) := after ops_part2_0 (val2 V0)
/-- The buffers that window `ops_part2_0`'s operations write. -/
abbrev ops_part2_0_W : List (Ref sig .tc) := [main_v107, main_v108, main_v109, main_v110, main_v111, main_v112, main_v113, main_v114, main_cst_11, main_v115, main_cst_12, main_v116, main_v117, main_v118, main_v119, main_v120, main_v121, main_cst_13, main_v122, main_v123, main_v124, main_v125, main_v126, main_v127, main_v128, main_v129, main_v130, main_v131, main_cst_14, main_v132]
set_option maxRecDepth 8192 in
/-- The buffers this stretch of operations writes, one per operation. -/
theorem ops_part2_0_writes : (ops_part2_0 : List (HloOp τ sig (Elt F))).Forall fun op => op.writes ⊆ (ops_part2_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
/-- After stage `val2_1` the buffer `main_arg0` holds this term of the launch contents. -/
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
/-- After stage `val2_1` the buffer `main_arg1` holds this term of the launch contents. -/
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
/-- After stage `val2_1` the buffer `main_arg2` holds this term of the launch contents. -/
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
/-- After stage `val2_1` the buffer `main_arg3` holds this term of the launch contents. -/
theorem val2_1_main_arg3 (V0 : Valuation τ sig (Elt F)) : val2_1 V0 (no_index (Proc.devRef .tc main_arg3)) = V0 (Proc.devRef .tc main_arg3) :=
  (val2_1_keep V0 main_arg3 (by decide)).trans (val2_main_arg3 V0)
/-- After stage `val2_1` the buffer `main_arg4` holds this term of the launch contents. -/
theorem val2_1_main_arg4 (V0 : Valuation τ sig (Elt F)) : val2_1 V0 (no_index (Proc.devRef .tc main_arg4)) = V0 (Proc.devRef .tc main_arg4) :=
  (val2_1_keep V0 main_arg4 (by decide)).trans (val2_main_arg4 V0)
/-- After stage `val2_1` the buffer `main_arg5` holds this term of the launch contents. -/
theorem val2_1_main_arg5 (V0 : Valuation τ sig (Elt F)) : val2_1 V0 (no_index (Proc.devRef .tc main_arg5)) = V0 (Proc.devRef .tc main_arg5) :=
  (val2_1_keep V0 main_arg5 (by decide)).trans (val2_main_arg5 V0)
/-- After stage `val2_1` the buffer `main_arg6` holds this term of the launch contents. -/
theorem val2_1_main_arg6 (V0 : Valuation τ sig (Elt F)) : val2_1 V0 (no_index (Proc.devRef .tc main_arg6)) = V0 (Proc.devRef .tc main_arg6) :=
  (val2_1_keep V0 main_arg6 (by decide)).trans (val2_main_arg6 V0)
/-- After stage `val2_1` the buffer `main_arg7` holds this term of the launch contents. -/
theorem val2_1_main_arg7 (V0 : Valuation τ sig (Elt F)) : val2_1 V0 (no_index (Proc.devRef .tc main_arg7)) = V0 (Proc.devRef .tc main_arg7) :=
  (val2_1_keep V0 main_arg7 (by decide)).trans (val2_main_arg7 V0)
/-- After stage `val2_1` the buffer `main_arg8` holds this term of the launch contents. -/
theorem val2_1_main_arg8 (V0 : Valuation τ sig (Elt F)) : val2_1 V0 (no_index (Proc.devRef .tc main_arg8)) = V0 (Proc.devRef .tc main_arg8) :=
  (val2_1_keep V0 main_arg8 (by decide)).trans (val2_main_arg8 V0)
/-- After stage `val2_1` the buffer `main_arg9` holds this term of the launch contents. -/
theorem val2_1_main_arg9 (V0 : Valuation τ sig (Elt F)) : val2_1 V0 (no_index (Proc.devRef .tc main_arg9)) = V0 (Proc.devRef .tc main_arg9) :=
  (val2_1_keep V0 main_arg9 (by decide)).trans (val2_main_arg9 V0)
/-- After stage `val2_1` the buffer `main_arg10` holds this term of the launch contents. -/
theorem val2_1_main_arg10 (V0 : Valuation τ sig (Elt F)) : val2_1 V0 (no_index (Proc.devRef .tc main_arg10)) = V0 (Proc.devRef .tc main_arg10) :=
  (val2_1_keep V0 main_arg10 (by decide)).trans (val2_main_arg10 V0)
/-- After stage `val2_1` the buffer `main_arg11` holds this term of the launch contents. -/
theorem val2_1_main_arg11 (V0 : Valuation τ sig (Elt F)) : val2_1 V0 (no_index (Proc.devRef .tc main_arg11)) = V0 (Proc.devRef .tc main_arg11) :=
  (val2_1_keep V0 main_arg11 (by decide)).trans (val2_main_arg11 V0)
/-- After stage `val2_1` the buffer `main_arg12` holds this term of the launch contents. -/
theorem val2_1_main_arg12 (V0 : Valuation τ sig (Elt F)) : val2_1 V0 (no_index (Proc.devRef .tc main_arg12)) = V0 (Proc.devRef .tc main_arg12) :=
  (val2_1_keep V0 main_arg12 (by decide)).trans (val2_main_arg12 V0)
/-- After stage `val2_1` the buffer `main_arg13` holds this term of the launch contents. -/
theorem val2_1_main_arg13 (V0 : Valuation τ sig (Elt F)) : val2_1 V0 (no_index (Proc.devRef .tc main_arg13)) = V0 (Proc.devRef .tc main_arg13) :=
  (val2_1_keep V0 main_arg13 (by decide)).trans (val2_main_arg13 V0)
/-- After stage `val2_1` the buffer `main_arg14` holds this term of the launch contents. -/
theorem val2_1_main_arg14 (V0 : Valuation τ sig (Elt F)) : val2_1 V0 (no_index (Proc.devRef .tc main_arg14)) = V0 (Proc.devRef .tc main_arg14) :=
  (val2_1_keep V0 main_arg14 (by decide)).trans (val2_main_arg14 V0)
/-- After stage `val2_1` the buffer `main_arg15` holds this term of the launch contents. -/
theorem val2_1_main_arg15 (V0 : Valuation τ sig (Elt F)) : val2_1 V0 (no_index (Proc.devRef .tc main_arg15)) = V0 (Proc.devRef .tc main_arg15) :=
  (val2_1_keep V0 main_arg15 (by decide)).trans (val2_main_arg15 V0)
/-- After stage `val2_1` the buffer `main_arg16` holds this term of the launch contents. -/
theorem val2_1_main_arg16 (V0 : Valuation τ sig (Elt F)) : val2_1 V0 (no_index (Proc.devRef .tc main_arg16)) = V0 (Proc.devRef .tc main_arg16) :=
  (val2_1_keep V0 main_arg16 (by decide)).trans (val2_main_arg16 V0)
/-- After stage `val2_1` the buffer `main_arg17` holds this term of the launch contents. -/
theorem val2_1_main_arg17 (V0 : Valuation τ sig (Elt F)) : val2_1 V0 (no_index (Proc.devRef .tc main_arg17)) = V0 (Proc.devRef .tc main_arg17) :=
  (val2_1_keep V0 main_arg17 (by decide)).trans (val2_main_arg17 V0)
/-- After stage `val2_1` the buffer `main_v73` holds this term of the launch contents. -/
theorem val2_1_main_v73 (V0 : Valuation τ sig (Elt F)) : val2_1 V0 (no_index (Proc.devRef .tc main_v73)) = res_main_v73 V0 :=
  (val2_1_keep V0 main_v73 (by decide)).trans (val2_main_v73 V0)
set_option maxRecDepth 8192 in
set_option maxHeartbeats 2000000 in
/-- After stage `val2_1` the buffer `main_v125` holds this term of the launch contents. -/
theorem val2_1_main_v125 (V0 : Valuation τ sig (Elt F)) : val2_1 V0 (no_index (Proc.devRef .tc main_v125)) = res_main_v125 V0 := by
  unfold val2_1
  simp only [ops_part2_0]
  after_results_simp
  simp only [val2_main_arg17, val2_main_arg16, val2_main_v106, val2_main_v104] <;> rfl
set_option maxRecDepth 8192 in
set_option maxHeartbeats 2000000 in
/-- After stage `val2_1` the buffer `main_v130` holds this term of the launch contents. -/
theorem val2_1_main_v130 (V0 : Valuation τ sig (Elt F)) : val2_1 V0 (no_index (Proc.devRef .tc main_v130)) = res_main_v130 V0 := by
  unfold val2_1
  simp only [ops_part2_0]
  after_results_simp
  simp only [val2_main_arg1, val2_main_arg0] <;> rfl
set_option maxRecDepth 8192 in
set_option maxHeartbeats 2000000 in
/-- After stage `val2_1` the buffer `main_v131` holds this term of the launch contents. -/
theorem val2_1_main_v131 (V0 : Valuation τ sig (Elt F)) : val2_1 V0 (no_index (Proc.devRef .tc main_v131)) = Host.log (res_main_v73 V0) := by
  unfold val2_1
  simp only [ops_part2_0]
  after_results_simp
  simp only [val2_main_v73] <;> rfl
set_option maxRecDepth 8192 in
set_option maxHeartbeats 2000000 in
/-- After stage `val2_1` the buffer `main_v132` holds this term of the launch contents. -/
theorem val2_1_main_v132 (V0 : Valuation τ sig (Elt F)) : val2_1 V0 (no_index (Proc.devRef .tc main_v132)) = broadcastInDim S8x270000 ![] bcast_S_S8x270000 (constant S_ .f32 0xC2C80000#32) := by
  unfold val2_1
  simp only [ops_part2_0]
  after_results_simp
  all_goals rfl

/-- The device's buffer contents after @main's first 239 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v133, main_cst_15, main_v134, main_v135, main_v136, main_cst_16, main_v137, main_v138, main_v139, main_cst_17, main_v140, main_v141, main_v142, main_v143, main_cst_18, main_v144, main_cst_19, main_v145, main_v146, main_call9_cst, main_call9_v0, main_call9_cst_0, main_call9_v1, main_call9_v2, main_call9_v3, main_call9_v4, main_call9_v5, main_call9_v6, main_call9_cst_1, main_call9_v7]
set_option maxRecDepth 8192 in
/-- The buffers this stretch of operations writes, one per operation. -/
theorem ops_part2_1_writes : (ops_part2_1 : List (HloOp τ sig (Elt F))).Forall fun op => op.writes ⊆ (ops_part2_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
/-- After stage `val2_2` the buffer `main_arg0` holds this term of the launch contents. -/
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
/-- After stage `val2_2` the buffer `main_arg1` holds this term of the launch contents. -/
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
/-- After stage `val2_2` the buffer `main_arg2` holds this term of the launch contents. -/
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
/-- After stage `val2_2` the buffer `main_arg3` holds this term of the launch contents. -/
theorem val2_2_main_arg3 (V0 : Valuation τ sig (Elt F)) : val2_2 V0 (no_index (Proc.devRef .tc main_arg3)) = V0 (Proc.devRef .tc main_arg3) :=
  (val2_2_keep V0 main_arg3 (by decide)).trans (val2_1_main_arg3 V0)
/-- After stage `val2_2` the buffer `main_arg4` holds this term of the launch contents. -/
theorem val2_2_main_arg4 (V0 : Valuation τ sig (Elt F)) : val2_2 V0 (no_index (Proc.devRef .tc main_arg4)) = V0 (Proc.devRef .tc main_arg4) :=
  (val2_2_keep V0 main_arg4 (by decide)).trans (val2_1_main_arg4 V0)
/-- After stage `val2_2` the buffer `main_arg5` holds this term of the launch contents. -/
theorem val2_2_main_arg5 (V0 : Valuation τ sig (Elt F)) : val2_2 V0 (no_index (Proc.devRef .tc main_arg5)) = V0 (Proc.devRef .tc main_arg5) :=
  (val2_2_keep V0 main_arg5 (by decide)).trans (val2_1_main_arg5 V0)
/-- After stage `val2_2` the buffer `main_arg6` holds this term of the launch contents. -/
theorem val2_2_main_arg6 (V0 : Valuation τ sig (Elt F)) : val2_2 V0 (no_index (Proc.devRef .tc main_arg6)) = V0 (Proc.devRef .tc main_arg6) :=
  (val2_2_keep V0 main_arg6 (by decide)).trans (val2_1_main_arg6 V0)
/-- After stage `val2_2` the buffer `main_arg7` holds this term of the launch contents. -/
theorem val2_2_main_arg7 (V0 : Valuation τ sig (Elt F)) : val2_2 V0 (no_index (Proc.devRef .tc main_arg7)) = V0 (Proc.devRef .tc main_arg7) :=
  (val2_2_keep V0 main_arg7 (by decide)).trans (val2_1_main_arg7 V0)
/-- After stage `val2_2` the buffer `main_arg8` holds this term of the launch contents. -/
theorem val2_2_main_arg8 (V0 : Valuation τ sig (Elt F)) : val2_2 V0 (no_index (Proc.devRef .tc main_arg8)) = V0 (Proc.devRef .tc main_arg8) :=
  (val2_2_keep V0 main_arg8 (by decide)).trans (val2_1_main_arg8 V0)
/-- After stage `val2_2` the buffer `main_arg9` holds this term of the launch contents. -/
theorem val2_2_main_arg9 (V0 : Valuation τ sig (Elt F)) : val2_2 V0 (no_index (Proc.devRef .tc main_arg9)) = V0 (Proc.devRef .tc main_arg9) :=
  (val2_2_keep V0 main_arg9 (by decide)).trans (val2_1_main_arg9 V0)
/-- After stage `val2_2` the buffer `main_arg10` holds this term of the launch contents. -/
theorem val2_2_main_arg10 (V0 : Valuation τ sig (Elt F)) : val2_2 V0 (no_index (Proc.devRef .tc main_arg10)) = V0 (Proc.devRef .tc main_arg10) :=
  (val2_2_keep V0 main_arg10 (by decide)).trans (val2_1_main_arg10 V0)
/-- After stage `val2_2` the buffer `main_arg11` holds this term of the launch contents. -/
theorem val2_2_main_arg11 (V0 : Valuation τ sig (Elt F)) : val2_2 V0 (no_index (Proc.devRef .tc main_arg11)) = V0 (Proc.devRef .tc main_arg11) :=
  (val2_2_keep V0 main_arg11 (by decide)).trans (val2_1_main_arg11 V0)
/-- After stage `val2_2` the buffer `main_arg12` holds this term of the launch contents. -/
theorem val2_2_main_arg12 (V0 : Valuation τ sig (Elt F)) : val2_2 V0 (no_index (Proc.devRef .tc main_arg12)) = V0 (Proc.devRef .tc main_arg12) :=
  (val2_2_keep V0 main_arg12 (by decide)).trans (val2_1_main_arg12 V0)
/-- After stage `val2_2` the buffer `main_arg13` holds this term of the launch contents. -/
theorem val2_2_main_arg13 (V0 : Valuation τ sig (Elt F)) : val2_2 V0 (no_index (Proc.devRef .tc main_arg13)) = V0 (Proc.devRef .tc main_arg13) :=
  (val2_2_keep V0 main_arg13 (by decide)).trans (val2_1_main_arg13 V0)
/-- After stage `val2_2` the buffer `main_arg14` holds this term of the launch contents. -/
theorem val2_2_main_arg14 (V0 : Valuation τ sig (Elt F)) : val2_2 V0 (no_index (Proc.devRef .tc main_arg14)) = V0 (Proc.devRef .tc main_arg14) :=
  (val2_2_keep V0 main_arg14 (by decide)).trans (val2_1_main_arg14 V0)
/-- After stage `val2_2` the buffer `main_arg15` holds this term of the launch contents. -/
theorem val2_2_main_arg15 (V0 : Valuation τ sig (Elt F)) : val2_2 V0 (no_index (Proc.devRef .tc main_arg15)) = V0 (Proc.devRef .tc main_arg15) :=
  (val2_2_keep V0 main_arg15 (by decide)).trans (val2_1_main_arg15 V0)
/-- After stage `val2_2` the buffer `main_arg16` holds this term of the launch contents. -/
theorem val2_2_main_arg16 (V0 : Valuation τ sig (Elt F)) : val2_2 V0 (no_index (Proc.devRef .tc main_arg16)) = V0 (Proc.devRef .tc main_arg16) :=
  (val2_2_keep V0 main_arg16 (by decide)).trans (val2_1_main_arg16 V0)
/-- After stage `val2_2` the buffer `main_arg17` holds this term of the launch contents. -/
theorem val2_2_main_arg17 (V0 : Valuation τ sig (Elt F)) : val2_2 V0 (no_index (Proc.devRef .tc main_arg17)) = V0 (Proc.devRef .tc main_arg17) :=
  (val2_2_keep V0 main_arg17 (by decide)).trans (val2_1_main_arg17 V0)
set_option maxRecDepth 8192 in
set_option maxHeartbeats 2000000 in
/-- After stage `val2_2` the buffer `main_v146` holds this term of the launch contents. -/
theorem val2_2_main_v146 (V0 : Valuation τ sig (Elt F)) : val2_2 V0 (no_index (Proc.devRef .tc main_v146)) = Host.negf (Host.divf (Host.reduceAdd (addf (mulf (res_main_v130 V0) (maximumf (Host.log (res_main_v73 V0)) (broadcastInDim S8x270000 ![] bcast_S_S8x270000 (constant S_ .f32 0xC2C80000#32)))) (mulf (subf (broadcastInDim S8x270000 ![] bcast_S_S8x270000 (constant S_ .f32 0x3F800000#32)) (res_main_v130 V0)) (maximumf (Host.log (subf (broadcastInDim S8x270000 ![] bcast_S_S8x270000 (constant S_ .f32 0x3F800000#32)) (res_main_v73 V0))) (broadcastInDim S8x270000 ![] bcast_S_S8x270000 (constant S_ .f32 0xC2C80000#32))))) (constant S_ .f32 0x00000000#32) reducesTo_S8x270000_S_d0_1 h_S_) (constant S_ .f32 0x4A03D600#32)) := by
  unfold val2_2
  simp only [ops_part2_1, TRef.binary, TRef.nullary, TRef.unary, TRef.toBuf, TRef.ofBuf, cast_eq]
  after_results_simp
  simp only [val2_1_main_v73, val2_1_main_v130, val2_1_main_v132, val2_1_main_v131] <;> rfl
set_option maxRecDepth 8192 in
set_option maxHeartbeats 2000000 in
/-- After stage `val2_2` the buffer `main_call9_v5` holds this term of the launch contents. -/
theorem val2_2_main_call9_v5 (V0 : Valuation τ sig (Elt F)) : val2_2 V0 (no_index (Proc.devRef .tc main_call9_v5)) = res_main_call9_v5 V0 := by
  unfold val2_2
  simp only [ops_part2_1, TRef.binary, TRef.nullary, TRef.unary, TRef.toBuf, TRef.ofBuf, cast_eq]
  after_results_simp
  simp only [val2_1_main_v125] <;> rfl
set_option maxRecDepth 8192 in
set_option maxHeartbeats 2000000 in
/-- After stage `val2_2` the buffer `main_call9_v7` holds this term of the launch contents. -/
theorem val2_2_main_call9_v7 (V0 : Valuation τ sig (Elt F)) : val2_2 V0 (no_index (Proc.devRef .tc main_call9_v7)) = Host.reduceAdd (Host.exp (res_main_call9_v5 V0)) (constant S_ .f32 0x00000000#32) reducesTo_S72000x4_S72000_d1 h_S_ := by
  unfold val2_2
  simp only [ops_part2_1, TRef.binary, TRef.nullary, TRef.unary, TRef.toBuf, TRef.ofBuf, cast_eq]
  after_results_simp
  simp only [val2_1_main_v125] <;> rfl

/-- The device's buffer contents after @main's first 269 operations. -/
def val2_3 (V0 : Valuation τ sig (Elt F)) : Valuation τ sig (Elt F) := after ops_part2_2 (val2_2 V0)
/-- The buffers that window `ops_part2_2`'s operations write. -/
abbrev ops_part2_2_W : List (Ref sig .tc) := [main_call9_v8, main_call9_v9, main_call9_v10, main_v147, main_v148, main_v149, main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v150, main_cst_20, main_v151]
set_option maxRecDepth 8192 in
/-- The buffers this stretch of operations writes, one per operation. -/
theorem ops_part2_2_writes : (ops_part2_2 : List (HloOp τ sig (Elt F))).Forall fun op => op.writes ⊆ (ops_part2_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_2` does not write keeps its contents through it. -/
theorem val2_3_keep (V0 : Valuation τ sig (Elt F)) (r : Ref sig .tc) (h : r ∉ ops_part2_2_W) :
    val2_3 V0 (Proc.devRef .tc r) = val2_2 V0 (Proc.devRef .tc r) :=
  after_of_writes_sub ops_part2_2 _ ops_part2_2_writes h
/-- After stage `val2_3` the buffer `main_arg0` holds this term of the launch contents. -/
theorem val2_3_main_arg0 (V0 : Valuation τ sig (Elt F)) : val2_3 V0 (no_index (Proc.devRef .tc main_arg0)) = V0 (Proc.devRef .tc main_arg0) :=
  (val2_3_keep V0 main_arg0 (by decide)).trans (val2_2_main_arg0 V0)
/-- After stage `val2_3` the buffer `main_arg1` holds this term of the launch contents. -/
theorem val2_3_main_arg1 (V0 : Valuation τ sig (Elt F)) : val2_3 V0 (no_index (Proc.devRef .tc main_arg1)) = V0 (Proc.devRef .tc main_arg1) :=
  (val2_3_keep V0 main_arg1 (by decide)).trans (val2_2_main_arg1 V0)
/-- After stage `val2_3` the buffer `main_arg2` holds this term of the launch contents. -/
theorem val2_3_main_arg2 (V0 : Valuation τ sig (Elt F)) : val2_3 V0 (no_index (Proc.devRef .tc main_arg2)) = V0 (Proc.devRef .tc main_arg2) :=
  (val2_3_keep V0 main_arg2 (by decide)).trans (val2_2_main_arg2 V0)
/-- After stage `val2_3` the buffer `main_arg3` holds this term of the launch contents. -/
theorem val2_3_main_arg3 (V0 : Valuation τ sig (Elt F)) : val2_3 V0 (no_index (Proc.devRef .tc main_arg3)) = V0 (Proc.devRef .tc main_arg3) :=
  (val2_3_keep V0 main_arg3 (by decide)).trans (val2_2_main_arg3 V0)
/-- After stage `val2_3` the buffer `main_arg4` holds this term of the launch contents. -/
theorem val2_3_main_arg4 (V0 : Valuation τ sig (Elt F)) : val2_3 V0 (no_index (Proc.devRef .tc main_arg4)) = V0 (Proc.devRef .tc main_arg4) :=
  (val2_3_keep V0 main_arg4 (by decide)).trans (val2_2_main_arg4 V0)
/-- After stage `val2_3` the buffer `main_arg5` holds this term of the launch contents. -/
theorem val2_3_main_arg5 (V0 : Valuation τ sig (Elt F)) : val2_3 V0 (no_index (Proc.devRef .tc main_arg5)) = V0 (Proc.devRef .tc main_arg5) :=
  (val2_3_keep V0 main_arg5 (by decide)).trans (val2_2_main_arg5 V0)
/-- After stage `val2_3` the buffer `main_arg6` holds this term of the launch contents. -/
theorem val2_3_main_arg6 (V0 : Valuation τ sig (Elt F)) : val2_3 V0 (no_index (Proc.devRef .tc main_arg6)) = V0 (Proc.devRef .tc main_arg6) :=
  (val2_3_keep V0 main_arg6 (by decide)).trans (val2_2_main_arg6 V0)
/-- After stage `val2_3` the buffer `main_arg7` holds this term of the launch contents. -/
theorem val2_3_main_arg7 (V0 : Valuation τ sig (Elt F)) : val2_3 V0 (no_index (Proc.devRef .tc main_arg7)) = V0 (Proc.devRef .tc main_arg7) :=
  (val2_3_keep V0 main_arg7 (by decide)).trans (val2_2_main_arg7 V0)
/-- After stage `val2_3` the buffer `main_arg8` holds this term of the launch contents. -/
theorem val2_3_main_arg8 (V0 : Valuation τ sig (Elt F)) : val2_3 V0 (no_index (Proc.devRef .tc main_arg8)) = V0 (Proc.devRef .tc main_arg8) :=
  (val2_3_keep V0 main_arg8 (by decide)).trans (val2_2_main_arg8 V0)
/-- After stage `val2_3` the buffer `main_arg9` holds this term of the launch contents. -/
theorem val2_3_main_arg9 (V0 : Valuation τ sig (Elt F)) : val2_3 V0 (no_index (Proc.devRef .tc main_arg9)) = V0 (Proc.devRef .tc main_arg9) :=
  (val2_3_keep V0 main_arg9 (by decide)).trans (val2_2_main_arg9 V0)
/-- After stage `val2_3` the buffer `main_arg10` holds this term of the launch contents. -/
theorem val2_3_main_arg10 (V0 : Valuation τ sig (Elt F)) : val2_3 V0 (no_index (Proc.devRef .tc main_arg10)) = V0 (Proc.devRef .tc main_arg10) :=
  (val2_3_keep V0 main_arg10 (by decide)).trans (val2_2_main_arg10 V0)
/-- After stage `val2_3` the buffer `main_arg11` holds this term of the launch contents. -/
theorem val2_3_main_arg11 (V0 : Valuation τ sig (Elt F)) : val2_3 V0 (no_index (Proc.devRef .tc main_arg11)) = V0 (Proc.devRef .tc main_arg11) :=
  (val2_3_keep V0 main_arg11 (by decide)).trans (val2_2_main_arg11 V0)
/-- After stage `val2_3` the buffer `main_arg12` holds this term of the launch contents. -/
theorem val2_3_main_arg12 (V0 : Valuation τ sig (Elt F)) : val2_3 V0 (no_index (Proc.devRef .tc main_arg12)) = V0 (Proc.devRef .tc main_arg12) :=
  (val2_3_keep V0 main_arg12 (by decide)).trans (val2_2_main_arg12 V0)
/-- After stage `val2_3` the buffer `main_arg13` holds this term of the launch contents. -/
theorem val2_3_main_arg13 (V0 : Valuation τ sig (Elt F)) : val2_3 V0 (no_index (Proc.devRef .tc main_arg13)) = V0 (Proc.devRef .tc main_arg13) :=
  (val2_3_keep V0 main_arg13 (by decide)).trans (val2_2_main_arg13 V0)
/-- After stage `val2_3` the buffer `main_arg14` holds this term of the launch contents. -/
theorem val2_3_main_arg14 (V0 : Valuation τ sig (Elt F)) : val2_3 V0 (no_index (Proc.devRef .tc main_arg14)) = V0 (Proc.devRef .tc main_arg14) :=
  (val2_3_keep V0 main_arg14 (by decide)).trans (val2_2_main_arg14 V0)
/-- After stage `val2_3` the buffer `main_arg15` holds this term of the launch contents. -/
theorem val2_3_main_arg15 (V0 : Valuation τ sig (Elt F)) : val2_3 V0 (no_index (Proc.devRef .tc main_arg15)) = V0 (Proc.devRef .tc main_arg15) :=
  (val2_3_keep V0 main_arg15 (by decide)).trans (val2_2_main_arg15 V0)
/-- After stage `val2_3` the buffer `main_arg16` holds this term of the launch contents. -/
theorem val2_3_main_arg16 (V0 : Valuation τ sig (Elt F)) : val2_3 V0 (no_index (Proc.devRef .tc main_arg16)) = V0 (Proc.devRef .tc main_arg16) :=
  (val2_3_keep V0 main_arg16 (by decide)).trans (val2_2_main_arg16 V0)
/-- After stage `val2_3` the buffer `main_arg17` holds this term of the launch contents. -/
theorem val2_3_main_arg17 (V0 : Valuation τ sig (Elt F)) : val2_3 V0 (no_index (Proc.devRef .tc main_arg17)) = V0 (Proc.devRef .tc main_arg17) :=
  (val2_3_keep V0 main_arg17 (by decide)).trans (val2_2_main_arg17 V0)
/-- After stage `val2_3` the buffer `main_v146` holds this term of the launch contents. -/
theorem val2_3_main_v146 (V0 : Valuation τ sig (Elt F)) : val2_3 V0 (no_index (Proc.devRef .tc main_v146)) = Host.negf (Host.divf (Host.reduceAdd (addf (mulf (res_main_v130 V0) (maximumf (Host.log (res_main_v73 V0)) (broadcastInDim S8x270000 ![] bcast_S_S8x270000 (constant S_ .f32 0xC2C80000#32)))) (mulf (subf (broadcastInDim S8x270000 ![] bcast_S_S8x270000 (constant S_ .f32 0x3F800000#32)) (res_main_v130 V0)) (maximumf (Host.log (subf (broadcastInDim S8x270000 ![] bcast_S_S8x270000 (constant S_ .f32 0x3F800000#32)) (res_main_v73 V0))) (broadcastInDim S8x270000 ![] bcast_S_S8x270000 (constant S_ .f32 0xC2C80000#32))))) (constant S_ .f32 0x00000000#32) reducesTo_S8x270000_S_d0_1 h_S_) (constant S_ .f32 0x4A03D600#32)) :=
  (val2_3_keep V0 main_v146 (by decide)).trans (val2_2_main_v146 V0)
set_option maxRecDepth 8192 in
set_option maxHeartbeats 2000000 in
/-- After stage `val2_3` the buffer `main_v151` holds this term of the launch contents. -/
theorem val2_3_main_v151 (V0 : Valuation τ sig (Elt F)) : val2_3 V0 (no_index (Proc.devRef .tc main_v151)) = Host.reduceAdd (select (Host.reduce IntOp.andi (andi (cmpi .sge (res_main_call10_v5 V0) (broadcastInDim S72000x1x1 ![] bcast_S_S72000x1x1 (constantI S_ 32 0#32))) (cmpi .sle (res_main_call10_v5 V0) (broadcastInDim S72000x1x1 ![0, 1, 2] bcast_S1x1x1_S72000x1x1_0_1_2 (broadcastInDim S1x1x1 ![2] bcast_S1_S1x1x1_2 (constantI S1 32 3#32))))) (constantI S_ 1 1#1) reducesTo_S72000x1x1_S72000x1_d2 h_S_) (Host.gather gather_S72000x4_S72000x1x1_S72000x1_n_1_0_0_1_2_11 (subf (res_main_call9_v5 V0) (broadcastInDim S72000x4 ![0, 1] bcast_S72000x1_S72000x4_0_1 (Host.log (broadcastInDim S72000x1 ![0] bcast_S72000_S72000x1_0 (Host.reduceAdd (Host.exp (res_main_call9_v5 V0)) (constant S_ .f32 0x00000000#32) reducesTo_S72000x4_S72000_d1 h_S_))))) (res_main_call10_v5 V0)) (broadcastInDim S72000x1 ![] bcast_S_S72000x1 (constant S_ .f32 0x7FC00000#32))) (constant S_ .f32 0x00000000#32) reducesTo_S72000x1_S_d0_1 h_S_ := by
  unfold val2_3
  simp only [ops_part2_2, TRef.binary, TRef.nullary, TRef.reshape, TRef.ternary, TRef.unary, TRef.toBuf, TRef.ofBuf, cast_eq]
  after_results_simp
  simp only [val2_2_main_arg1, val2_2_main_call9_v7, val2_2_main_call9_v5] <;> rfl

/-- The device's buffer contents after @main's first 3 windows. -/
def val3 (V0 : Valuation τ sig (Elt F)) : Valuation τ sig (Elt F) := after ops_part2_3 (val2_3 V0)
/-- The buffers that window `ops_part2_3`'s operations write. -/
abbrev ops_part2_3_W : List (Ref sig .tc) := [main_cst_21, main_v152, main_v153, main_v154, main_v155]
set_option maxRecDepth 8192 in
/-- The buffers this stretch of operations writes, one per operation. -/
theorem ops_part2_3_writes : (ops_part2_3 : List (HloOp τ sig (Elt F))).Forall fun op => op.writes ⊆ (ops_part2_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part2_3` does not write keeps its contents through it. -/
theorem val3_keep (V0 : Valuation τ sig (Elt F)) (r : Ref sig .tc) (h : r ∉ ops_part2_3_W) :
    val3 V0 (Proc.devRef .tc r) = val2_3 V0 (Proc.devRef .tc r) :=
  after_of_writes_sub ops_part2_3 _ ops_part2_3_writes h
/-- After stage `val3` the buffer `main_arg0` holds this term of the launch contents. -/
theorem val3_main_arg0 (V0 : Valuation τ sig (Elt F)) : val3 V0 (no_index (Proc.devRef .tc main_arg0)) = V0 (Proc.devRef .tc main_arg0) :=
  (val3_keep V0 main_arg0 (by decide)).trans (val2_3_main_arg0 V0)
/-- After stage `val3` the buffer `main_arg1` holds this term of the launch contents. -/
theorem val3_main_arg1 (V0 : Valuation τ sig (Elt F)) : val3 V0 (no_index (Proc.devRef .tc main_arg1)) = V0 (Proc.devRef .tc main_arg1) :=
  (val3_keep V0 main_arg1 (by decide)).trans (val2_3_main_arg1 V0)
/-- After stage `val3` the buffer `main_arg2` holds this term of the launch contents. -/
theorem val3_main_arg2 (V0 : Valuation τ sig (Elt F)) : val3 V0 (no_index (Proc.devRef .tc main_arg2)) = V0 (Proc.devRef .tc main_arg2) :=
  (val3_keep V0 main_arg2 (by decide)).trans (val2_3_main_arg2 V0)
/-- After stage `val3` the buffer `main_arg3` holds this term of the launch contents. -/
theorem val3_main_arg3 (V0 : Valuation τ sig (Elt F)) : val3 V0 (no_index (Proc.devRef .tc main_arg3)) = V0 (Proc.devRef .tc main_arg3) :=
  (val3_keep V0 main_arg3 (by decide)).trans (val2_3_main_arg3 V0)
/-- After stage `val3` the buffer `main_arg4` holds this term of the launch contents. -/
theorem val3_main_arg4 (V0 : Valuation τ sig (Elt F)) : val3 V0 (no_index (Proc.devRef .tc main_arg4)) = V0 (Proc.devRef .tc main_arg4) :=
  (val3_keep V0 main_arg4 (by decide)).trans (val2_3_main_arg4 V0)
/-- After stage `val3` the buffer `main_arg5` holds this term of the launch contents. -/
theorem val3_main_arg5 (V0 : Valuation τ sig (Elt F)) : val3 V0 (no_index (Proc.devRef .tc main_arg5)) = V0 (Proc.devRef .tc main_arg5) :=
  (val3_keep V0 main_arg5 (by decide)).trans (val2_3_main_arg5 V0)
/-- After stage `val3` the buffer `main_arg6` holds this term of the launch contents. -/
theorem val3_main_arg6 (V0 : Valuation τ sig (Elt F)) : val3 V0 (no_index (Proc.devRef .tc main_arg6)) = V0 (Proc.devRef .tc main_arg6) :=
  (val3_keep V0 main_arg6 (by decide)).trans (val2_3_main_arg6 V0)
/-- After stage `val3` the buffer `main_arg7` holds this term of the launch contents. -/
theorem val3_main_arg7 (V0 : Valuation τ sig (Elt F)) : val3 V0 (no_index (Proc.devRef .tc main_arg7)) = V0 (Proc.devRef .tc main_arg7) :=
  (val3_keep V0 main_arg7 (by decide)).trans (val2_3_main_arg7 V0)
/-- After stage `val3` the buffer `main_arg8` holds this term of the launch contents. -/
theorem val3_main_arg8 (V0 : Valuation τ sig (Elt F)) : val3 V0 (no_index (Proc.devRef .tc main_arg8)) = V0 (Proc.devRef .tc main_arg8) :=
  (val3_keep V0 main_arg8 (by decide)).trans (val2_3_main_arg8 V0)
/-- After stage `val3` the buffer `main_arg9` holds this term of the launch contents. -/
theorem val3_main_arg9 (V0 : Valuation τ sig (Elt F)) : val3 V0 (no_index (Proc.devRef .tc main_arg9)) = V0 (Proc.devRef .tc main_arg9) :=
  (val3_keep V0 main_arg9 (by decide)).trans (val2_3_main_arg9 V0)
/-- After stage `val3` the buffer `main_arg10` holds this term of the launch contents. -/
theorem val3_main_arg10 (V0 : Valuation τ sig (Elt F)) : val3 V0 (no_index (Proc.devRef .tc main_arg10)) = V0 (Proc.devRef .tc main_arg10) :=
  (val3_keep V0 main_arg10 (by decide)).trans (val2_3_main_arg10 V0)
/-- After stage `val3` the buffer `main_arg11` holds this term of the launch contents. -/
theorem val3_main_arg11 (V0 : Valuation τ sig (Elt F)) : val3 V0 (no_index (Proc.devRef .tc main_arg11)) = V0 (Proc.devRef .tc main_arg11) :=
  (val3_keep V0 main_arg11 (by decide)).trans (val2_3_main_arg11 V0)
/-- After stage `val3` the buffer `main_arg12` holds this term of the launch contents. -/
theorem val3_main_arg12 (V0 : Valuation τ sig (Elt F)) : val3 V0 (no_index (Proc.devRef .tc main_arg12)) = V0 (Proc.devRef .tc main_arg12) :=
  (val3_keep V0 main_arg12 (by decide)).trans (val2_3_main_arg12 V0)
/-- After stage `val3` the buffer `main_arg13` holds this term of the launch contents. -/
theorem val3_main_arg13 (V0 : Valuation τ sig (Elt F)) : val3 V0 (no_index (Proc.devRef .tc main_arg13)) = V0 (Proc.devRef .tc main_arg13) :=
  (val3_keep V0 main_arg13 (by decide)).trans (val2_3_main_arg13 V0)
/-- After stage `val3` the buffer `main_arg14` holds this term of the launch contents. -/
theorem val3_main_arg14 (V0 : Valuation τ sig (Elt F)) : val3 V0 (no_index (Proc.devRef .tc main_arg14)) = V0 (Proc.devRef .tc main_arg14) :=
  (val3_keep V0 main_arg14 (by decide)).trans (val2_3_main_arg14 V0)
/-- After stage `val3` the buffer `main_arg15` holds this term of the launch contents. -/
theorem val3_main_arg15 (V0 : Valuation τ sig (Elt F)) : val3 V0 (no_index (Proc.devRef .tc main_arg15)) = V0 (Proc.devRef .tc main_arg15) :=
  (val3_keep V0 main_arg15 (by decide)).trans (val2_3_main_arg15 V0)
/-- After stage `val3` the buffer `main_arg16` holds this term of the launch contents. -/
theorem val3_main_arg16 (V0 : Valuation τ sig (Elt F)) : val3 V0 (no_index (Proc.devRef .tc main_arg16)) = V0 (Proc.devRef .tc main_arg16) :=
  (val3_keep V0 main_arg16 (by decide)).trans (val2_3_main_arg16 V0)
/-- After stage `val3` the buffer `main_arg17` holds this term of the launch contents. -/
theorem val3_main_arg17 (V0 : Valuation τ sig (Elt F)) : val3 V0 (no_index (Proc.devRef .tc main_arg17)) = V0 (Proc.devRef .tc main_arg17) :=
  (val3_keep V0 main_arg17 (by decide)).trans (val2_3_main_arg17 V0)
set_option maxRecDepth 8192 in
/-- After stage `val3` the buffer `main_v154` holds this term of the launch contents. -/
theorem val3_main_v154 (V0 : Valuation τ sig (Elt F)) : val3 V0 (no_index (Proc.devRef .tc main_v154)) = shapeCast _ (Host.negf (Host.divf (Host.reduceAdd (addf (mulf (res_main_v130 V0) (maximumf (Host.log (res_main_v73 V0)) (broadcastInDim S8x270000 ![] bcast_S_S8x270000 (constant S_ .f32 0xC2C80000#32)))) (mulf (subf (broadcastInDim S8x270000 ![] bcast_S_S8x270000 (constant S_ .f32 0x3F800000#32)) (res_main_v130 V0)) (maximumf (Host.log (subf (broadcastInDim S8x270000 ![] bcast_S_S8x270000 (constant S_ .f32 0x3F800000#32)) (res_main_v73 V0))) (broadcastInDim S8x270000 ![] bcast_S_S8x270000 (constant S_ .f32 0xC2C80000#32))))) (constant S_ .f32 0x00000000#32) reducesTo_S8x270000_S_d0_1 h_S_) (constant S_ .f32 0x4A03D600#32))) shapeCasts_S_S1x1 := by
  unfold val3
  simp only [ops_part2_3]
  after_results_simp
  simp only [val2_3_main_v146] <;> rfl
set_option maxRecDepth 8192 in
/-- After stage `val3` the buffer `main_v155` holds this term of the launch contents. -/
theorem val3_main_v155 (V0 : Valuation τ sig (Elt F)) : val3 V0 (no_index (Proc.devRef .tc main_v155)) = shapeCast _ (Host.negf (Host.divf (Host.reduceAdd (select (Host.reduce IntOp.andi (andi (cmpi .sge (res_main_call10_v5 V0) (broadcastInDim S72000x1x1 ![] bcast_S_S72000x1x1 (constantI S_ 32 0#32))) (cmpi .sle (res_main_call10_v5 V0) (broadcastInDim S72000x1x1 ![0, 1, 2] bcast_S1x1x1_S72000x1x1_0_1_2 (broadcastInDim S1x1x1 ![2] bcast_S1_S1x1x1_2 (constantI S1 32 3#32))))) (constantI S_ 1 1#1) reducesTo_S72000x1x1_S72000x1_d2 h_S_) (Host.gather gather_S72000x4_S72000x1x1_S72000x1_n_1_0_0_1_2_11 (subf (res_main_call9_v5 V0) (broadcastInDim S72000x4 ![0, 1] bcast_S72000x1_S72000x4_0_1 (Host.log (broadcastInDim S72000x1 ![0] bcast_S72000_S72000x1_0 (Host.reduceAdd (Host.exp (res_main_call9_v5 V0)) (constant S_ .f32 0x00000000#32) reducesTo_S72000x4_S72000_d1 h_S_))))) (res_main_call10_v5 V0)) (broadcastInDim S72000x1 ![] bcast_S_S72000x1 (constant S_ .f32 0x7FC00000#32))) (constant S_ .f32 0x00000000#32) reducesTo_S72000x1_S_d0_1 h_S_) (constant S_ .f32 0x478CA000#32))) shapeCasts_S_S1x1 := by
  unfold val3
  simp only [ops_part2_3]
  after_results_simp
  simp only [val2_3_main_v151] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := []
set_option maxRecDepth 8192 in
/-- The buffers this stretch of operations writes, one per operation. -/
theorem ops_part3_writes : (ops_part3 : List (HloOp τ sig (Elt F))).Forall fun op => op.writes ⊆ (ops_part3_W.map (Proc.devRef (τ := τ) .tc)).toFinset := by
  simp only [List.Forall]
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
/-- After stage `val4` the buffer `main_arg0` holds this term of the launch contents. -/
theorem val4_main_arg0 (V0 : Valuation τ sig (Elt F)) : val4 V0 (no_index (Proc.devRef .tc main_arg0)) = V0 (Proc.devRef .tc main_arg0) :=
  (val4_keep V0 main_arg0 (by decide)).trans (val3_main_arg0 V0)
/-- After stage `val4` the buffer `main_arg1` holds this term of the launch contents. -/
theorem val4_main_arg1 (V0 : Valuation τ sig (Elt F)) : val4 V0 (no_index (Proc.devRef .tc main_arg1)) = V0 (Proc.devRef .tc main_arg1) :=
  (val4_keep V0 main_arg1 (by decide)).trans (val3_main_arg1 V0)
/-- After stage `val4` the buffer `main_arg2` holds this term of the launch contents. -/
theorem val4_main_arg2 (V0 : Valuation τ sig (Elt F)) : val4 V0 (no_index (Proc.devRef .tc main_arg2)) = V0 (Proc.devRef .tc main_arg2) :=
  (val4_keep V0 main_arg2 (by decide)).trans (val3_main_arg2 V0)
/-- After stage `val4` the buffer `main_arg3` holds this term of the launch contents. -/
theorem val4_main_arg3 (V0 : Valuation τ sig (Elt F)) : val4 V0 (no_index (Proc.devRef .tc main_arg3)) = V0 (Proc.devRef .tc main_arg3) :=
  (val4_keep V0 main_arg3 (by decide)).trans (val3_main_arg3 V0)
/-- After stage `val4` the buffer `main_arg4` holds this term of the launch contents. -/
theorem val4_main_arg4 (V0 : Valuation τ sig (Elt F)) : val4 V0 (no_index (Proc.devRef .tc main_arg4)) = V0 (Proc.devRef .tc main_arg4) :=
  (val4_keep V0 main_arg4 (by decide)).trans (val3_main_arg4 V0)
/-- After stage `val4` the buffer `main_arg5` holds this term of the launch contents. -/
theorem val4_main_arg5 (V0 : Valuation τ sig (Elt F)) : val4 V0 (no_index (Proc.devRef .tc main_arg5)) = V0 (Proc.devRef .tc main_arg5) :=
  (val4_keep V0 main_arg5 (by decide)).trans (val3_main_arg5 V0)
/-- After stage `val4` the buffer `main_arg6` holds this term of the launch contents. -/
theorem val4_main_arg6 (V0 : Valuation τ sig (Elt F)) : val4 V0 (no_index (Proc.devRef .tc main_arg6)) = V0 (Proc.devRef .tc main_arg6) :=
  (val4_keep V0 main_arg6 (by decide)).trans (val3_main_arg6 V0)
/-- After stage `val4` the buffer `main_arg7` holds this term of the launch contents. -/
theorem val4_main_arg7 (V0 : Valuation τ sig (Elt F)) : val4 V0 (no_index (Proc.devRef .tc main_arg7)) = V0 (Proc.devRef .tc main_arg7) :=
  (val4_keep V0 main_arg7 (by decide)).trans (val3_main_arg7 V0)
/-- After stage `val4` the buffer `main_arg8` holds this term of the launch contents. -/
theorem val4_main_arg8 (V0 : Valuation τ sig (Elt F)) : val4 V0 (no_index (Proc.devRef .tc main_arg8)) = V0 (Proc.devRef .tc main_arg8) :=
  (val4_keep V0 main_arg8 (by decide)).trans (val3_main_arg8 V0)
/-- After stage `val4` the buffer `main_arg9` holds this term of the launch contents. -/
theorem val4_main_arg9 (V0 : Valuation τ sig (Elt F)) : val4 V0 (no_index (Proc.devRef .tc main_arg9)) = V0 (Proc.devRef .tc main_arg9) :=
  (val4_keep V0 main_arg9 (by decide)).trans (val3_main_arg9 V0)
/-- After stage `val4` the buffer `main_arg10` holds this term of the launch contents. -/
theorem val4_main_arg10 (V0 : Valuation τ sig (Elt F)) : val4 V0 (no_index (Proc.devRef .tc main_arg10)) = V0 (Proc.devRef .tc main_arg10) :=
  (val4_keep V0 main_arg10 (by decide)).trans (val3_main_arg10 V0)
/-- After stage `val4` the buffer `main_arg11` holds this term of the launch contents. -/
theorem val4_main_arg11 (V0 : Valuation τ sig (Elt F)) : val4 V0 (no_index (Proc.devRef .tc main_arg11)) = V0 (Proc.devRef .tc main_arg11) :=
  (val4_keep V0 main_arg11 (by decide)).trans (val3_main_arg11 V0)
/-- After stage `val4` the buffer `main_arg12` holds this term of the launch contents. -/
theorem val4_main_arg12 (V0 : Valuation τ sig (Elt F)) : val4 V0 (no_index (Proc.devRef .tc main_arg12)) = V0 (Proc.devRef .tc main_arg12) :=
  (val4_keep V0 main_arg12 (by decide)).trans (val3_main_arg12 V0)
/-- After stage `val4` the buffer `main_arg13` holds this term of the launch contents. -/
theorem val4_main_arg13 (V0 : Valuation τ sig (Elt F)) : val4 V0 (no_index (Proc.devRef .tc main_arg13)) = V0 (Proc.devRef .tc main_arg13) :=
  (val4_keep V0 main_arg13 (by decide)).trans (val3_main_arg13 V0)
/-- After stage `val4` the buffer `main_arg14` holds this term of the launch contents. -/
theorem val4_main_arg14 (V0 : Valuation τ sig (Elt F)) : val4 V0 (no_index (Proc.devRef .tc main_arg14)) = V0 (Proc.devRef .tc main_arg14) :=
  (val4_keep V0 main_arg14 (by decide)).trans (val3_main_arg14 V0)
/-- After stage `val4` the buffer `main_arg15` holds this term of the launch contents. -/
theorem val4_main_arg15 (V0 : Valuation τ sig (Elt F)) : val4 V0 (no_index (Proc.devRef .tc main_arg15)) = V0 (Proc.devRef .tc main_arg15) :=
  (val4_keep V0 main_arg15 (by decide)).trans (val3_main_arg15 V0)
/-- After stage `val4` the buffer `main_arg16` holds this term of the launch contents. -/
theorem val4_main_arg16 (V0 : Valuation τ sig (Elt F)) : val4 V0 (no_index (Proc.devRef .tc main_arg16)) = V0 (Proc.devRef .tc main_arg16) :=
  (val4_keep V0 main_arg16 (by decide)).trans (val3_main_arg16 V0)
/-- After stage `val4` the buffer `main_arg17` holds this term of the launch contents. -/
theorem val4_main_arg17 (V0 : Valuation τ sig (Elt F)) : val4 V0 (no_index (Proc.devRef .tc main_arg17)) = V0 (Proc.devRef .tc main_arg17) :=
  (val4_keep V0 main_arg17 (by decide)).trans (val3_main_arg17 V0)
/-- After stage `val4` the buffer `main_v154` holds this term of the launch contents. -/
theorem val4_main_v154 (V0 : Valuation τ sig (Elt F)) : val4 V0 (no_index (Proc.devRef .tc main_v154)) = shapeCast _ (Host.negf (Host.divf (Host.reduceAdd (addf (mulf (res_main_v130 V0) (maximumf (Host.log (res_main_v73 V0)) (broadcastInDim S8x270000 ![] bcast_S_S8x270000 (constant S_ .f32 0xC2C80000#32)))) (mulf (subf (broadcastInDim S8x270000 ![] bcast_S_S8x270000 (constant S_ .f32 0x3F800000#32)) (res_main_v130 V0)) (maximumf (Host.log (subf (broadcastInDim S8x270000 ![] bcast_S_S8x270000 (constant S_ .f32 0x3F800000#32)) (res_main_v73 V0))) (broadcastInDim S8x270000 ![] bcast_S_S8x270000 (constant S_ .f32 0xC2C80000#32))))) (constant S_ .f32 0x00000000#32) reducesTo_S8x270000_S_d0_1 h_S_) (constant S_ .f32 0x4A03D600#32))) shapeCasts_S_S1x1 :=
  (val4_keep V0 main_v154 (by decide)).trans (val3_main_v154 V0)
/-- After stage `val4` the buffer `main_v155` holds this term of the launch contents. -/
theorem val4_main_v155 (V0 : Valuation τ sig (Elt F)) : val4 V0 (no_index (Proc.devRef .tc main_v155)) = shapeCast _ (Host.negf (Host.divf (Host.reduceAdd (select (Host.reduce IntOp.andi (andi (cmpi .sge (res_main_call10_v5 V0) (broadcastInDim S72000x1x1 ![] bcast_S_S72000x1x1 (constantI S_ 32 0#32))) (cmpi .sle (res_main_call10_v5 V0) (broadcastInDim S72000x1x1 ![0, 1, 2] bcast_S1x1x1_S72000x1x1_0_1_2 (broadcastInDim S1x1x1 ![2] bcast_S1_S1x1x1_2 (constantI S1 32 3#32))))) (constantI S_ 1 1#1) reducesTo_S72000x1x1_S72000x1_d2 h_S_) (Host.gather gather_S72000x4_S72000x1x1_S72000x1_n_1_0_0_1_2_11 (subf (res_main_call9_v5 V0) (broadcastInDim S72000x4 ![0, 1] bcast_S72000x1_S72000x4_0_1 (Host.log (broadcastInDim S72000x1 ![0] bcast_S72000_S72000x1_0 (Host.reduceAdd (Host.exp (res_main_call9_v5 V0)) (constant S_ .f32 0x00000000#32) reducesTo_S72000x4_S72000_d1 h_S_))))) (res_main_call10_v5 V0)) (broadcastInDim S72000x1 ![] bcast_S_S72000x1 (constant S_ .f32 0x7FC00000#32))) (constant S_ .f32 0x00000000#32) reducesTo_S72000x1_S_d0_1 h_S_) (constant S_ .f32 0x478CA000#32))) shapeCasts_S_S1x1 :=
  (val4_keep V0 main_v155 (by decide)).trans (val3_main_v155 V0)

/-- The valuation after the stage `after_ops` of the run. -/
theorem after_ops (V0 : Valuation τ sig (Elt F)) : after ops V0 = val4 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v154) = shapeCast _ (Host.negf (Host.divf (Host.reduceAdd (addf (mulf (res_main_v130 (launchContents m c)) (maximumf (Host.log (res_main_v73 (launchContents m c))) (broadcastInDim S8x270000 ![] bcast_S_S8x270000 (constant S_ .f32 0xC2C80000#32)))) (mulf (subf (broadcastInDim S8x270000 ![] bcast_S_S8x270000 (constant S_ .f32 0x3F800000#32)) (res_main_v130 (launchContents m c))) (maximumf (Host.log (subf (broadcastInDim S8x270000 ![] bcast_S_S8x270000 (constant S_ .f32 0x3F800000#32)) (res_main_v73 (launchContents m c)))) (broadcastInDim S8x270000 ![] bcast_S_S8x270000 (constant S_ .f32 0xC2C80000#32))))) (constant S_ .f32 0x00000000#32) reducesTo_S8x270000_S_d0_1 h_S_) (constant S_ .f32 0x4A03D600#32))) shapeCasts_S_S1x1
      ∧ r.2.mem ((c.tc : Thread nD τ).loc main_v155) = shapeCast _ (Host.negf (Host.divf (Host.reduceAdd (select (Host.reduce IntOp.andi (andi (cmpi .sge (res_main_call10_v5 (launchContents m c)) (broadcastInDim S72000x1x1 ![] bcast_S_S72000x1x1 (constantI S_ 32 0#32))) (cmpi .sle (res_main_call10_v5 (launchContents m c)) (broadcastInDim S72000x1x1 ![0, 1, 2] bcast_S1x1x1_S72000x1x1_0_1_2 (broadcastInDim S1x1x1 ![2] bcast_S1_S1x1x1_2 (constantI S1 32 3#32))))) (constantI S_ 1 1#1) reducesTo_S72000x1x1_S72000x1_d2 h_S_) (Host.gather gather_S72000x4_S72000x1x1_S72000x1_n_1_0_0_1_2_11 (subf (res_main_call9_v5 (launchContents m c)) (broadcastInDim S72000x4 ![0, 1] bcast_S72000x1_S72000x4_0_1 (Host.log (broadcastInDim S72000x1 ![0] bcast_S72000_S72000x1_0 (Host.reduceAdd (Host.exp (res_main_call9_v5 (launchContents m c))) (constant S_ .f32 0x00000000#32) reducesTo_S72000x4_S72000_d1 h_S_))))) (res_main_call10_v5 (launchContents m c))) (broadcastInDim S72000x1 ![] bcast_S_S72000x1 (constant S_ .f32 0x7FC00000#32))) (constant S_ .f32 0x00000000#32) reducesTo_S72000x1_S_d0_1 h_S_) (constant S_ .f32 0x478CA000#32))) shapeCasts_S_S1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v154).trans ((congrFun (after_ops (launchContents m c)) (Proc.devRef .tc main_v154)).trans (val4_main_v154 (launchContents m c))),
      (h c main_v155).trans ((congrFun (after_ops (launchContents m c)) (Proc.devRef .tc main_v155)).trans (val4_main_v155 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c))),
      (h c main_arg3).trans ((congrFun (after_ops (launchContents m c)) (Proc.devRef .tc main_arg3)).trans (val4_main_arg3 (launchContents m c))),
      (h c main_arg4).trans ((congrFun (after_ops (launchContents m c)) (Proc.devRef .tc main_arg4)).trans (val4_main_arg4 (launchContents m c))),
      (h c main_arg5).trans ((congrFun (after_ops (launchContents m c)) (Proc.devRef .tc main_arg5)).trans (val4_main_arg5 (launchContents m c))),
      (h c main_arg6).trans ((congrFun (after_ops (launchContents m c)) (Proc.devRef .tc main_arg6)).trans (val4_main_arg6 (launchContents m c))),
      (h c main_arg7).trans ((congrFun (after_ops (launchContents m c)) (Proc.devRef .tc main_arg7)).trans (val4_main_arg7 (launchContents m c))),
      (h c main_arg8).trans ((congrFun (after_ops (launchContents m c)) (Proc.devRef .tc main_arg8)).trans (val4_main_arg8 (launchContents m c))),
      (h c main_arg9).trans ((congrFun (after_ops (launchContents m c)) (Proc.devRef .tc main_arg9)).trans (val4_main_arg9 (launchContents m c))),
      (h c main_arg10).trans ((congrFun (after_ops (launchContents m c)) (Proc.devRef .tc main_arg10)).trans (val4_main_arg10 (launchContents m c))),
      (h c main_arg11).trans ((congrFun (after_ops (launchContents m c)) (Proc.devRef .tc main_arg11)).trans (val4_main_arg11 (launchContents m c))),
      (h c main_arg12).trans ((congrFun (after_ops (launchContents m c)) (Proc.devRef .tc main_arg12)).trans (val4_main_arg12 (launchContents m c))),
      (h c main_arg13).trans ((congrFun (after_ops (launchContents m c)) (Proc.devRef .tc main_arg13)).trans (val4_main_arg13 (launchContents m c))),
      (h c main_arg14).trans ((congrFun (after_ops (launchContents m c)) (Proc.devRef .tc main_arg14)).trans (val4_main_arg14 (launchContents m c))),
      (h c main_arg15).trans ((congrFun (after_ops (launchContents m c)) (Proc.devRef .tc main_arg15)).trans (val4_main_arg15 (launchContents m c))),
      (h c main_arg16).trans ((congrFun (after_ops (launchContents m c)) (Proc.devRef .tc main_arg16)).trans (val4_main_arg16 (launchContents m c))),
      (h c main_arg17).trans ((congrFun (after_ops (launchContents m c)) (Proc.devRef .tc main_arg17)).trans (val4_main_arg17 (launchContents m c)))⟩)
    (run_seq scopedRefs_eq scopedSems_eq defs main (fun _ => ops) main_eq (fun _ => ops_sub) m ρ fun _ => ops_fresh)

end Cert.ReferenceIdeal.Value

end
-- ==== Proof.KTile.lean ====
/- One tile of the kernel's columns, written once over its width `W` and its first column `o`. -/
module

public import proofs.«01_k».proof.Proof.Gen.KernelIdeal.Skeleton
public import Idealize.ShloMosaic.Lib.MatmulPlain

@[expose] public section

noncomputable section

namespace Cert.Proof.Tile

open Idealize.ShloMosaic

variable {F : FTy → Type} [FloatOps F]

/-- A matrix shape. -/
abbrev Mat (a b : ℕ) : Shape := ⟨2, ![a, b]⟩
/-- A vector shape. -/
abbrev Row (a : ℕ) : Shape := ⟨1, ![a]⟩
/-- A rank-three shape. -/
abbrev Cub (a b c : ℕ) : Shape := ⟨3, ![a, b, c]⟩

/-- The shape relations a tile of width `W` at column `o` needs. -/
structure Geo (W o : ℕ) : Prop where
  slM : (Mat 30 9000).Slices ![0, o] (Mat 30 W)
  slG : (Mat 1 9000).Slices ![0, o] (Mat 1 W)
  slD : (Mat 10 9000).Slices ![0, o] (Mat 10 W)
  slA : ∀ p : Fin 30, (Mat 10 30).Slices ![0, p.val] (Mat 10 1)
  sc10 : (Mat 10 1).ShapeCasts (Mat 10 1)
  sc15 : (Mat 15 1).ShapeCasts (Mat 15 1)
  sc1 : (Mat 1 1).ShapeCasts (Mat 1 1)
  bcC : (Mat 10 1).Broadcasts (Mat 10 W)
  cat30 : Shape.Concatenates (List.replicate 30 (Mat 10 W)) (Mat 10 (30 * W)) 1
  bc10 : (Mat 10 1).Broadcasts (Mat 10 (30 * W))
  bc1 : (Mat 1 1).Broadcasts (Mat 1 (30 * W))
  slY : ∀ p : Fin 30, (Mat 1 (30 * W)).Slices ![0, p.val * W] (Mat 1 W)
  catY : Shape.Concatenates (List.replicate 30 (Mat 1 W)) (Mat 30 W) 0
  bcG : (Mat 1 W).Broadcasts (Mat 30 W)
  scY : (Mat 30 W).ShapeCasts (Cub 1 30 W)
  redY : (Cub 1 30 W).Reduces [1, 2] (Row 1)
  sc3 : (Row 1).ShapeCasts (Cub 1 1 1)
  inp : ∀ a, (![0, 0, 0] : Fin 3 → Nat) a < (Cub 1 1 1).size a
  cat4 : Shape.Concatenates (List.replicate 4 (Mat 30 W)) (Mat 30 (4 * W)) 1
  bc15 : (Mat 15 1).Broadcasts (Mat 15 (4 * W))
  bc1' : (Mat 1 1).Broadcasts (Mat 1 (4 * W))
  slZ : ∀ s : Fin 4, (Mat 1 (4 * W)).Slices ![0, s.val * W] (Mat 1 W)
  catZ : Shape.Concatenates (List.replicate 4 (Mat 1 W)) (Mat 4 W) 0
  redZ : (Mat 4 W).Reduces [0] (Row W)
  scZ : (Row W).ShapeCasts (Mat 1 W)
  bcZ : (Mat 1 W).Broadcasts (Mat 4 W)
  iotaZ : (Mat 4 W).Iotas .tc 32 [0]
  scR : (Mat 4 W).ShapeCasts (Cub 1 4 W)
  redR : (Cub 1 4 W).Reduces [1, 2] (Row 1)

/-- The facts hold of the three wide tiles and of the last, narrower one. -/
theorem geo0 : Geo 2304 0 := by constructor <;> decide +kernel
/-- The same of the second tile. -/
theorem geo1 : Geo 2304 2304 := by constructor <;> decide +kernel
/-- The same of the third tile. -/
theorem geo2 : Geo 2304 4608 := by constructor <;> decide +kernel
/-- The same of the last tile. -/
theorem geo3 : Geo 2088 6912 := by constructor <;> decide +kernel

variable {W o : ℕ} (g : Geo W o)

/-- A list of equal shapes, named by a function of the piece. -/
theorem map_fst_ofFn {α : Type} {n : ℕ} {s : Shape} {t : Shape} {a : Fin t.rank} (f : Fin n → (s.Idx → α))
    (h : Shape.Concatenates (List.replicate n s) t a) :
    Shape.Concatenates ((List.ofFn fun p => (⟨s, f p⟩ : (s : Shape) × (s.Idx → α))).map (·.1)) t a := by
  have e : (List.ofFn fun p => (⟨s, f p⟩ : (s : Shape) × (s.Idx → α))).map (·.1) = List.replicate n s := by
    rw [List.map_ofFn]; exact List.ofFn_const n s
  rw [e]; exact h

/-- `n` pieces of one shape, side by side. -/
def joined {α : Type} {n : ℕ} {s : Shape} (t : Shape) (a : Fin t.rank) (f : Fin n → (s.Idx → α))
    (h : Shape.Concatenates (List.replicate n s) t a) : t.Idx → α :=
  concatenate t a (List.ofFn fun p => ⟨s, f p⟩) (map_fst_ofFn f h)

/-- A linear layer: `A · X` plus the bias column `b`. -/
def layer {n k N : ℕ} (A : FVec F (Mat n k) .f32) (b : FVec F (Mat n 1) .f32) (X : FVec F (Mat k N) .f32)
    (sc : (Mat n 1).ShapeCasts (Mat n 1)) (bc : (Mat n 1).Broadcasts (Mat n N)) : FVec F (Mat n N) .f32 :=
  addf (matmul (DotDims.plain n k N) none A X (constant (Mat n N) .f32 0x00000000#32))
    (broadcastTo (Mat n N) (shapeCast (Mat n 1) b sc) bc)

/-- The larger of an entry and zero. -/
def relu {s : Shape} (x : FVec F s .f32) : FVec F s .f32 := maximumf x (broadcast s (Scalar.ofBits .f32 0x00000000#32))

/-- The first layer's values before the relu, the thirty rows side by side: the part of the row plus the part of the column. -/
def pre (apt : FVec F (Mat 10 30) .f32) (dq : FVec F (Mat 10 9000) .f32) : FVec F (Mat 10 (30 * W)) .f32 :=
  addf
    (joined (Mat 10 (30 * W)) 1 (fun p : Fin 30 => broadcastTo (Mat 10 W)
      (shapeCast (Mat 10 1) (extractStridedSlice (Mat 10 1) ![0, p.val] apt (g.slA p)) g.sc10) g.bcC) g.cat30)
    (joined (Mat 10 (30 * W)) 1 (fun _ : Fin 30 => extractStridedSlice (Mat 10 W) ![0, o] dq g.slD) g.cat30)

/-- The tile's outputs of the first network, the thirty rows side by side. -/
def flat (apt : FVec F (Mat 10 30) .f32) (dq : FVec F (Mat 10 9000) .f32) (x5 : FVec F (Mat 10 10) .f32)
    (x6 : FVec F (Mat 10 1) .f32) (x7 : FVec F (Mat 10 10) .f32) (x8 : FVec F (Mat 10 1) .f32)
    (x9 : FVec F (Mat 1 10) .f32) (x10 : FVec F (Mat 1 1) .f32) : FVec F (Mat 1 (30 * W)) .f32 :=
  logistic (layer x9 x10 (relu (layer x7 x8 (relu (layer x5 x6 (relu (pre g apt dq)) g.sc10 g.bc10)) g.sc10 g.bc10)) g.sc1 g.bc1)

/-- The same outputs as a matrix, one row below the other. -/
def outs (y : FVec F (Mat 1 (30 * W)) .f32) : FVec F (Mat 30 W) .f32 :=
  joined (Mat 30 W) 0 (fun p : Fin 30 => extractStridedSlice (Mat 1 W) ![0, p.val * W] y (g.slY p)) g.catY

/-- The one number the entries of a matrix add up to, as a 1×1 matrix. -/
def total {a : ℕ} (x : FVec F (Mat a W) .f32) (sc : (Mat a W).ShapeCasts (Cub 1 a W)) (red : (Cub 1 a W).Reduces [1, 2] (Row 1))
    (sc3 : (Row 1).ShapeCasts (Cub 1 1 1)) (inp : ∀ b, (![0, 0, 0] : Fin 3 → Nat) b < (Cub 1 1 1).size b) : FVec F (Mat 1 1) .f32 :=
  broadcast (Mat 1 1) (extractAt ![0, 0, 0] (shapeCast (Cub 1 1 1) (multiReduction .add [1, 2] (Row 1)
    (shapeCast (Cub 1 a W) x sc) 0x00000000#32 red (.inl rfl) rfl) sc3) inp)

/-- What the tile adds to the first sum. -/
def cor (m : IVec (Mat 30 9000) 32) (gt : IVec (Mat 1 9000) 32) (y : FVec F (Mat 30 W) .f32) : FVec F (Mat 1 1) .f32 :=
  total (select (cmpi .eq (extractStridedSlice (Mat 30 W) ![0, o] m g.slM)
        (broadcastTo (Mat 30 W) (extractStridedSlice (Mat 1 W) ![0, o] gt g.slG) g.bcG))
      (maximumf (log y) (broadcast (Mat 30 W) (Scalar.ofBits .f32 0xC2C80000#32)))
      (maximumf (log (subf (broadcast (Mat 30 W) (Scalar.ofBits .f32 0x3F800000#32)) y)) (broadcast (Mat 30 W) (Scalar.ofBits .f32 0xC2C80000#32))))
    g.scY g.redY g.sc3 g.inp

/-- The second network's input for class `s`. -/
def cls (m : IVec (Mat 30 9000) 32) (y : FVec F (Mat 30 W) .f32) (s : BitVec 32) : FVec F (Mat 30 W) .f32 :=
  select (cmpi .eq (extractStridedSlice (Mat 30 W) ![0, o] m g.slM) (broadcast (Mat 30 W) s)) y
    (divf (subf (broadcast (Mat 30 W) (Scalar.ofBits .f32 0x3F800000#32)) y) (broadcast (Mat 30 W) (Scalar.ofBits .f32 0x40400000#32)))

/-- The second network's scores, the four classes side by side. -/
def marks (m : IVec (Mat 30 9000) 32) (y : FVec F (Mat 30 W) .f32) (x11 : FVec F (Mat 15 30) .f32)
    (x12 : FVec F (Mat 15 1) .f32) (x13 : FVec F (Mat 15 15) .f32) (x14 : FVec F (Mat 15 1) .f32)
    (x15 : FVec F (Mat 15 15) .f32) (x16 : FVec F (Mat 15 1) .f32) (x17 : FVec F (Mat 1 15) .f32)
    (x18 : FVec F (Mat 1 1) .f32) : FVec F (Mat 1 (4 * W)) .f32 :=
  layer x17 x18 (tanh (layer x15 x16 (tanh (layer x13 x14 (tanh (layer x11 x12
    (joined (Mat 30 (4 * W)) 1 (fun s : Fin 4 => cls g m y (BitVec.ofNat 32 s.val)) g.cat4)
    g.sc15 g.bc15)) g.sc15 g.bc15)) g.sc15 g.bc15)) g.sc1 g.bc1'

/-- The column-wise largest entry, under every entry of its column. -/
def colMax (z : FVec F (Mat 4 W) .f32) : FVec F (Mat 4 W) .f32 :=
  broadcastTo (Mat 4 W) (shapeCast (Mat 1 W) (multiReduction .maximumf [0] (Row W) z 0xFF800000#32 g.redZ (.inl rfl) rfl) g.scZ) g.bcZ

/-- The column-wise sums, as a row. -/
def colSum (z : FVec F (Mat 4 W) .f32) : FVec F (Mat 1 W) .f32 :=
  shapeCast (Mat 1 W) (multiReduction .add [0] (Row W) z 0x00000000#32 g.redZ (.inl rfl) rfl) g.scZ

/-- Scores to the exponentials of their differences from the column's largest. -/
def expo (z : FVec F (Mat 4 W) .f32) : FVec F (Mat 4 W) .f32 := exp (subf z (colMax g z))

/-- The scores as a matrix, one class below the other. -/
def table (v : FVec F (Mat 1 (4 * W)) .f32) : FVec F (Mat 4 W) .f32 :=
  joined (Mat 4 W) 0 (fun s : Fin 4 => extractStridedSlice (Mat 1 W) ![0, s.val * W] v (g.slZ s)) g.catZ

/-- The probabilities. -/
def probs (z : FVec F (Mat 4 W) .f32) : FVec F (Mat 4 W) .f32 :=
  divf (expo g z) (broadcastTo (Mat 4 W) (colSum g (expo g z)) g.bcZ)

/-- The logarithms of the probabilities' own softmax. -/
def logs (q : FVec F (Mat 4 W) .f32) : FVec F (Mat 4 W) .f32 :=
  subf (subf q (colMax g q)) (broadcastTo (Mat 4 W) (log (colSum g (expo g q))) g.bcZ)

/-- What the tile adds to the second sum. -/
def ref (gt : IVec (Mat 1 9000) 32) (v : FVec F (Mat 1 (4 * W)) .f32) : FVec F (Mat 1 1) .f32 :=
  total (select (cmpi .eq (iota .tc (Mat 4 W) 32 [0] g.iotaZ)
        (broadcastTo (Mat 4 W) (extractStridedSlice (Mat 1 W) ![0, o] gt g.slG) g.bcZ))
      (logs g (probs g (table g v))) (broadcast (Mat 4 W) (Scalar.ofBits .f32 0x00000000#32)))
    g.scR g.redR g.sc3 g.inp

end Cert.Proof.Tile

end
-- ==== Proof.Spec.lean ====
module
public import Idealize.ShloMosaic.Lib.Pointwise
@[expose] public section
noncomputable section

/-! The problem's mathematics, over plain functions of plain indices: what both programs are shown to compute. -/

namespace Cert.Proof.Spec
open Idealize.ShloMosaic

/-- The indicator of a proposition, as an extended real. -/
def ind (p : Prop) [Decidable p] : EReal := if p then 1 else 0

/-- One output of a linear layer. -/
def lin {n k : ℕ} (A : Fin n → Fin k → EReal) (b : Fin n → EReal) (v : Fin k → EReal) (i : Fin n) : EReal :=
  (∑ j, A i j * v j) + b i

/-- The weights of the two networks. -/
structure Wts where
  a0 : Fin 10 → Fin 4 → EReal
  d0 : Fin 10 → Fin 4 → EReal
  b0 : Fin 10 → EReal
  w1 : Fin 10 → Fin 10 → EReal
  b1 : Fin 10 → EReal
  w2 : Fin 10 → Fin 10 → EReal
  b2 : Fin 10 → EReal
  w3 : Fin 1 → Fin 10 → EReal
  b3 : Fin 1 → EReal
  r0 : Fin 15 → Fin 30 → EReal
  c0 : Fin 15 → EReal
  r1 : Fin 15 → Fin 15 → EReal
  c1 : Fin 15 → EReal
  r2 : Fin 15 → Fin 15 → EReal
  c2 : Fin 15 → EReal
  r3 : Fin 1 → Fin 15 → EReal
  c3 : Fin 1 → EReal

/-- The first network after its first layer's sums. -/
def net1 (w : Wts) (u : Fin 10 → EReal) : EReal :=
  Ideal.logistic (lin w.w3 w.b3 (fun i => max (lin w.w2 w.b2 (fun i => max (lin w.w1 w.b1 (fun i => max (u i) 0) i) 0) i) 0) 0)

/-- The second network. -/
def net2 (w : Wts) (u : Fin 30 → EReal) : EReal :=
  lin w.r3 w.c3 (fun i => Ideal.tanh (lin w.r2 w.c2 (fun i => Ideal.tanh (lin w.r1 w.c1 (fun i => Ideal.tanh (lin w.r0 w.c0 u i)) i)) i)) 0

/-- What the second network is given of an entry, for the class `s`. -/
def share (x s : BitVec 32) (y : EReal) : EReal :=
  if x = s then y else Ideal.div (1 - y) (Ideal.ofBits .f32 0x40400000#32)

/-- The largest of four scores. -/
def top (z : Fin 4 → EReal) : EReal := Finset.univ.fold max (Ideal.ofBits .f32 0xFF800000#32) z

/-- The softmax of four scores. -/
def soft (z : Fin 4 → EReal) (s : Fin 4) : EReal := Ideal.div (Ideal.exp (z s - top z)) (∑ t, Ideal.exp (z t - top z))

/-- The logarithm of the softmax. -/
def lsoft (z : Fin 4 → EReal) (s : Fin 4) : EReal := z s - top z - Ideal.log (∑ t, Ideal.exp (z t - top z))

/-- The clipped logarithm. -/
def clog (y : EReal) : EReal := max (Ideal.log y) (Ideal.ofBits .f32 0xC2C80000#32)

/-- An entry's part of the first loss. -/
def part1 (x g : BitVec 32) (y : EReal) : EReal := if x = g then clog y else clog (1 - y)

/-- A column's part of the second loss: its four scores, at the class `g`. -/
def part2 (g : BitVec 32) (z : Fin 4 → EReal) : EReal :=
  ∑ s : Fin 4, if BitVec.ofNat 32 s.val = g then lsoft (soft z) s else 0

end Cert.Proof.Spec

end
-- ==== Proof.KRead.lean ====
module
public import proofs.«01_k».proof.Proof.KTile
public import proofs.«01_k».proof.Proof.Spec
public import Idealize.ShloMosaic.Lib.Pointwise
public import Idealize.ShloMosaic.Lib.Pipeline.Value
public import Idealize.ShloMosaic.Lib.MatmulPlain
@[expose] public section
noncomputable section

/-! A tile's values, read at an index. -/

namespace Cert.Proof.Tile
open Idealize.ShloMosaic Cert.KernelIdeal Cert.KernelIdeal.Gen Cert.Proof.Spec

variable {W o : ℕ} (g : Geo W o)

/-- Column `r` of piece `p`, when `n` pieces of width `W` lie side by side. -/
def col {n W : ℕ} (p : Fin n) (r : Fin W) : Fin (n * W) :=
  ⟨p.val * W + r.val, by
    have h1 := p.isLt; have h2 := r.isLt
    calc p.val * W + r.val < p.val * W + W := by omega
      _ = (p.val + 1) * W := by ring
      _ ≤ n * W := Nat.mul_le_mul_right _ h1⟩

/-- The global column a tile's column `r` stands for. -/
def glob {W o : ℕ} (g : Geo W o) (r : Fin W) : Fin 9000 :=
  ⟨o + r.val, by
    have h := g.slD.2 1
    have e : o + W ≤ 9000 := h
    have := r.isLt; omega⟩

/-- Pieces side by side, read in piece `p`. -/
theorem joined_col {α : Type} {n a W : ℕ} (f : Fin n → ((Mat a W).Idx → α))
    (h : Shape.Concatenates (List.replicate n (Mat a W)) (Mat a (n * W)) 1) (i : Fin a) (p : Fin n) (r : Fin W) :
    joined (Mat a (n * W)) 1 f h (ix2 i (col p r)) = f p (ix2 i r) := by
  have hW : 0 < W := Nat.lt_of_le_of_lt (Nat.zero_le _) r.isLt
  refine concatenate_ofFn_apply (t := Mat a (n * W)) (s₁ := Mat a W) 1 f _ rfl W rfl (ix2 i (col p r)) p ?_ (ix2 i r) ?_ ?_
  · show (p.val * W + r.val) / W = p.val
    rw [Nat.mul_comm, Nat.mul_add_div hW, Nat.div_eq_of_lt r.isLt, Nat.add_zero]
  · show r.val = (p.val * W + r.val) % W
    rw [Nat.mul_comm, Nat.mul_add_mod, Nat.mod_eq_of_lt r.isLt]
  · intro b hb
    match b with
    | ⟨0, _⟩ => rfl
    | ⟨1, _⟩ => exact absurd rfl hb

/-- Rows one below the other, read in row `p`. -/
theorem joined_row {α : Type} {n W : ℕ} (f : Fin n → ((Mat 1 W).Idx → α))
    (h : Shape.Concatenates (List.replicate n (Mat 1 W)) (Mat n W) 0) (p : Fin n) (r : Fin W) :
    joined (Mat n W) 0 f h (ix2 p r) = f p (ix2 0 r) := by
  refine concatenate_ofFn_apply (t := Mat n W) (s₁ := Mat 1 W) 0 f _ rfl 1 rfl (ix2 p r) p ?_ (ix2 0 r) ?_ ?_
  · show p.val / 1 = p.val
    exact Nat.div_one _
  · show 0 = p.val % 1
    omega
  · intro b hb
    match b with
    | ⟨0, _⟩ => exact absurd rfl hb
    | ⟨1, _⟩ => rfl

/-- A row under every row. -/
theorem under_apply {α : Type} {n : ℕ} (x : (Mat 1 W).Idx → α) (bc : (Mat 1 W).Broadcasts (Mat n W)) (s : Fin n) (r : Fin W) :
    broadcastTo (Mat n W) x bc (ix2 s r) = x (ix2 0 r) := by
  rw [Pointwise.broadcastTo_apply]
  congr 1
  rw [Shape.Idx.norm_def]
  funext a
  apply Fin.ext
  match a with
  | ⟨0, _⟩ => rfl
  | ⟨1, _⟩ =>
    show (if h : W = 1 then (⟨0, _⟩ : Fin W) else ⟨r.val, _⟩).val = r.val
    split
    · have := r.isLt; show 0 = r.val; omega
    · rfl

/-- A column beside every column. -/
theorem beside_apply {α : Type} {n N : ℕ} (x : (Mat n 1).Idx → α) (bc : (Mat n 1).Broadcasts (Mat n N)) (i : Fin n) (j : Fin N) :
    broadcastTo (Mat n N) x bc (ix2 i j) = x (ix2 i 0) := by
  rw [Pointwise.broadcastTo_apply]
  congr 1
  rw [Shape.Idx.norm_def]
  funext a
  apply Fin.ext
  match a with
  | ⟨0, _⟩ =>
    show (if h : n = 1 then (⟨0, _⟩ : Fin n) else ⟨i.val, _⟩).val = i.val
    split
    · have := i.isLt; show 0 = i.val; omega
    · rfl
  | ⟨1, _⟩ => rfl

/-- A list as a one-row matrix. -/
theorem row_apply {α : Type} (v : (Row W).Idx → α) (sc : (Row W).ShapeCasts (Mat 1 W)) (r : Fin W) :
    shapeCast (Mat 1 W) v sc (ix2 0 r) = v (ix1 r) := by
  rw [shapeCast_addUnit_apply]
  congr 1
  funext a; match a with | ⟨0, _⟩ => rfl

/-- Piece `p` of a long row. -/
theorem strip_apply {α : Type} {n : ℕ} {p : Fin n} (y : (Mat 1 (n * W)).Idx → α) (sl : (Mat 1 (n * W)).Slices ![0, p.val * W] (Mat 1 W)) (r : Fin W) :
    extractStridedSlice (Mat 1 W) ![0, p.val * W] y sl (ix2 0 r) = y (ix2 0 (col p r)) := by
  rw [Pointwise.extractStridedSlice_apply, Shape.Idx.norm_def]
  congr 1
  funext a
  apply Fin.ext
  match a with
  | ⟨0, _⟩ => rfl
  | ⟨1, _⟩ => rfl

/-- A matrix as one slab. -/
theorem slab_apply {α : Type} {a : ℕ} (x : (Mat a W).Idx → α) (sc : (Mat a W).ShapeCasts (Cub 1 a W)) (p : Fin a) (r : Fin W) :
    shapeCast (Cub 1 a W) x sc (ix3 0 p r) = x (ix2 p r) := by
  rw [shapeCast_addUnit_apply]
  congr 1
  funext b; match b with | ⟨0, _⟩ => rfl | ⟨1, _⟩ => rfl

/-- Choosing by an equality of words is choosing by the equality. -/
theorem select_eq {α : Type} {w : ℕ} (x y : BitVec w) (a b : α) : Scalar.select (IntOp.cmpi .eq x y) a b = if x = y then a else b := by
  unfold Scalar.select IntOp.cmpi
  by_cases h : x = y
  · simp [h]
  · have e : (x == y) = false := by simpa using h
    simp [h, e]

/-- A matrix and a column read as functions of their indices. -/
def fn {a b : ℕ} (x : FVec Ideal (Mat a b) .f32) (i : Fin a) (j : Fin b) : EReal := x (ix2 i j)
def fc {a : ℕ} (x : FVec Ideal (Mat a 1) .f32) (i : Fin a) : EReal := x (ix2 i 0)

/-- A layer of the kernel, read at an index, is the linear layer of that column. -/
theorem layer_apply {n k N : ℕ} (A : FVec Ideal (Mat n k) .f32) (b : FVec Ideal (Mat n 1) .f32) (X : FVec Ideal (Mat k N) .f32)
    (sc : (Mat n 1).ShapeCasts (Mat n 1)) (bc : (Mat n 1).Broadcasts (Mat n N)) (i : Fin n) (j : Fin N) :
    layer A b X sc bc (ix2 i j) = lin (fn A) (fc b) (fun l => X (ix2 l j)) i := by
  unfold layer lin fn fc
  rw [addf_apply, shapeCast_id, beside_apply]
  have h := Ideal.matmul_plain_apply none A X (constant (Mat n N) .f32 0x00000000#32) i j
  simp only [← ix2_eq_valueIdx] at h
  rw [show matmul (DotDims.plain n k N) none A X (constant (Mat n N) .f32 0x00000000#32) (ix2 i j) = _ from h]
  pointwise

/-- The kernel's rectifier is the larger of the entry and zero. -/
theorem relu_apply {s : Shape} (x : FVec Ideal s .f32) (i : s.Idx) : relu x i = max (x i) 0 := by
  pointwise [relu]

/-- The kernel's total of a tile is the sum over its rows and columns. -/
theorem total_apply {a : ℕ} (x : FVec Ideal (Mat a W) .f32) (sc : (Mat a W).ShapeCasts (Cub 1 a W)) (red : (Cub 1 a W).Reduces [1, 2] (Row 1))
    (sc3 : (Row 1).ShapeCasts (Cub 1 1 1)) (inp : ∀ b, (![0, 0, 0] : Fin 3 → Nat) b < (Cub 1 1 1).size b) (i : (Mat 1 1).Idx) :
    total x sc red sc3 inp i = ∑ p, ∑ r, x (ix2 p r) := by
  pointwise [total]
  refine Finset.sum_congr rfl fun p _ => Finset.sum_congr rfl fun r _ => ?_
  exact slab_apply x sc p r

/-- The first layer's sums at an entry: the row's part plus the column's part. -/
theorem pre_apply (apt : FVec Ideal (Mat 10 30) .f32) (dq : FVec Ideal (Mat 10 9000) .f32) (k : Fin 10) (p : Fin 30) (r : Fin W) :
    pre g apt dq (ix2 k (col p r)) = apt (ix2 k p) + dq (ix2 k (glob g r)) := by
  unfold pre
  rw [addf_apply, joined_col, joined_col]
  pointwise
  rfl

section nets
variable (w : Wts) (apt : FVec Ideal (Mat 10 30) .f32) (dq : FVec Ideal (Mat 10 9000) .f32) (x5 : FVec Ideal (Mat 10 10) .f32)
    (x6 : FVec Ideal (Mat 10 1) .f32) (x7 : FVec Ideal (Mat 10 10) .f32) (x8 : FVec Ideal (Mat 10 1) .f32)
    (x9 : FVec Ideal (Mat 1 10) .f32) (x10 : FVec Ideal (Mat 1 1) .f32)

/-- A tile of the first network's outputs, read at an entry. -/
theorem outs_apply (h5 : w.w1 = fn x5) (h6 : w.b1 = fc x6) (h7 : w.w2 = fn x7) (h8 : w.b2 = fc x8) (h9 : w.w3 = fn x9) (h10 : w.b3 = fc x10)
    (p : Fin 30) (r : Fin W) :
    outs g (flat g apt dq x5 x6 x7 x8 x9 x10) (ix2 p r) = net1 w fun k => apt (ix2 k p) + dq (ix2 k (glob g r)) := by
  have e : extractStridedSlice (Mat 1 W) ![0, p.val * W] (flat g apt dq x5 x6 x7 x8 x9 x10) (g.slY p) (ix2 0 r)
      = flat g apt dq x5 x6 x7 x8 x9 x10 (ix2 0 (col p r)) := strip_apply _ (g.slY p) r
  rw [outs, joined_row, e, flat, logistic_apply, layer_apply]
  simp only [relu_apply, layer_apply, pre_apply, net1, h5, h6, h7, h8, h9, h10]
  rfl

/-- What the second network is given of an entry for one class. -/
theorem cls_apply (m : IVec (Mat 30 9000) 32) (y : FVec Ideal (Mat 30 W) .f32) (s : BitVec 32) (p : Fin 30) (r : Fin W) :
    cls g m y s (ix2 p r) = share (m (ix2 p (glob g r))) s (y (ix2 p r)) := by
  pointwise [cls]
  rw [share, select_eq]
  rfl

/-- The second network's output for a class and a column of the tile. -/
theorem marks_apply (m : IVec (Mat 30 9000) 32) (y : FVec Ideal (Mat 30 W) .f32) (x11 : FVec Ideal (Mat 15 30) .f32)
    (x12 : FVec Ideal (Mat 15 1) .f32) (x13 : FVec Ideal (Mat 15 15) .f32) (x14 : FVec Ideal (Mat 15 1) .f32)
    (x15 : FVec Ideal (Mat 15 15) .f32) (x16 : FVec Ideal (Mat 15 1) .f32) (x17 : FVec Ideal (Mat 1 15) .f32)
    (x18 : FVec Ideal (Mat 1 1) .f32) (h11 : w.r0 = fn x11) (h12 : w.c0 = fc x12) (h13 : w.r1 = fn x13) (h14 : w.c1 = fc x14)
    (h15 : w.r2 = fn x15) (h16 : w.c2 = fc x16) (h17 : w.r3 = fn x17) (h18 : w.c3 = fc x18) (s : Fin 4) (r : Fin W) :
    table g (marks g m y x11 x12 x13 x14 x15 x16 x17 x18) (ix2 s r)
      = net2 w fun p => share (m (ix2 p (glob g r))) (BitVec.ofNat 32 s.val) (y (ix2 p r)) := by
  have e : ∀ v : FVec Ideal (Mat 1 (4 * W)) .f32, extractStridedSlice (Mat 1 W) ![0, s.val * W] v (g.slZ s) (ix2 0 r) = v (ix2 0 (col s r)) :=
    fun v => strip_apply v (g.slZ s) r
  rw [table, joined_row, e, marks, layer_apply]
  simp only [tanh_apply, layer_apply, joined_col, cls_apply, net2, h11, h12, h13, h14, h15, h16, h17, h18]
  rfl

/-- The largest of a column's four scores. -/
theorem colMax_apply (z : FVec Ideal (Mat 4 W) .f32) (s : Fin 4) (r : Fin W) : colMax g z (ix2 s r) = top fun t => z (ix2 t r) := by
  rw [colMax, under_apply, row_apply]
  pointwise
  rfl

/-- The sum of a column's four scores. -/
theorem colSum_apply (z : FVec Ideal (Mat 4 W) .f32) (r : Fin W) : colSum g z (ix2 0 r) = ∑ t, z (ix2 t r) := by
  rw [colSum, row_apply]
  pointwise

/-- The exponential of a score less the largest one. -/
theorem expo_apply (z : FVec Ideal (Mat 4 W) .f32) (s : Fin 4) (r : Fin W) :
    expo g z (ix2 s r) = Ideal.exp (z (ix2 s r) - top fun t => z (ix2 t r)) := by
  pointwise [expo]
  rw [colMax_apply]

/-- The kernel's softmax of a column's scores. -/
theorem probs_apply (z : FVec Ideal (Mat 4 W) .f32) (s : Fin 4) (r : Fin W) :
    probs g z (ix2 s r) = soft (fun t => z (ix2 t r)) s := by
  rw [probs, divf_apply, under_apply, colSum_apply]
  simp only [expo_apply]
  rfl

/-- The kernel's logarithm of the softmax of a column's scores. -/
theorem logs_apply (z : FVec Ideal (Mat 4 W) .f32) (s : Fin 4) (r : Fin W) :
    logs g z (ix2 s r) = lsoft (fun t => z (ix2 t r)) s := by
  rw [logs, subf_apply, subf_apply, under_apply, log_apply, colSum_apply, colMax_apply]
  simp only [expo_apply]
  rfl

/-- A tile's part of the first loss. -/
theorem cor_apply (m : IVec (Mat 30 9000) 32) (gt : IVec (Mat 1 9000) 32) (y : FVec Ideal (Mat 30 W) .f32) (i : (Mat 1 1).Idx) :
    cor g m gt y i = ∑ p, ∑ r, part1 (m (ix2 p (glob g r))) (gt (ix2 0 (glob g r))) (y (ix2 p r)) := by
  rw [cor, total_apply]
  refine Finset.sum_congr rfl fun p _ => Finset.sum_congr rfl fun r _ => ?_
  rw [ValueIdx.select_apply, cmpi_apply, under_apply, select_eq]
  pointwise
  rfl

/-- A tile's part of the second loss. -/
theorem ref_apply (gt : IVec (Mat 1 9000) 32) (v : FVec Ideal (Mat 1 (4 * W)) .f32) (i : (Mat 1 1).Idx) :
    ref g gt v i = ∑ r, part2 (gt (ix2 0 (glob g r))) (fun s => table g v (ix2 s r)) := by
  rw [ref, total_apply, Finset.sum_comm]
  refine Finset.sum_congr rfl fun r _ => Finset.sum_congr rfl fun s _ => ?_
  rw [ValueIdx.select_apply, cmpi_apply, under_apply, logs_apply, select_eq]
  simp only [probs_apply]
  pointwise
  rfl
end nets

end Cert.Proof.Tile

end
-- ==== Proof.KTiles.lean ====
module
public import proofs.«01_k».proof.Proof.KTile
@[expose] public section
set_option maxRecDepth 20000
noncomputable section

/-! The kernel's four tiles, each the one text of `KTile` at its own width and place. -/

namespace Cert.Proof.Tile
open Idealize.ShloMosaic Cert.KernelIdeal Cert.KernelIdeal.Gen

variable {F : FTy → Type} [FloatOps F]

/-- Tile 0: the first network.  -/
theorem flat0 (r0 : FVec F S1x30 .f32) (r1 : FVec F S1x30 .f32) (r2 : FVec F S1x30 .f32) (r3 : FVec F S1x30 .f32) (x2 : Vec F S10x4 .f32) (dk : FVec F S3x9000 .f32) (dc : FVec F S1x9000 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) :
    k0_pay80 (k0_pay49 dk dc x3 x4) (k0_pay50 r0 r1 r2 r3 x2) (k0_pay51 r0 r1 r2 r3 x2) (k0_pay52 r0 r1 r2 r3 x2) (k0_pay53 r0 r1 r2 r3 x2) (k0_pay54 r0 r1 r2 r3 x2) (k0_pay55 r0 r1 r2 r3 x2) (k0_pay56 r0 r1 r2 r3 x2) (k0_pay57 r0 r1 r2 r3 x2) (k0_pay58 r0 r1 r2 r3 x2) (k0_pay59 r0 r1 r2 r3 x2) (k0_pay60 (k0_pay43 r0 r1 r2 r3 x2)) (k0_pay61 (k0_pay43 r0 r1 r2 r3 x2)) (k0_pay62 (k0_pay43 r0 r1 r2 r3 x2)) (k0_pay63 (k0_pay43 r0 r1 r2 r3 x2)) (k0_pay64 (k0_pay43 r0 r1 r2 r3 x2)) (k0_pay65 (k0_pay43 r0 r1 r2 r3 x2)) (k0_pay66 (k0_pay43 r0 r1 r2 r3 x2)) (k0_pay67 (k0_pay43 r0 r1 r2 r3 x2)) (k0_pay68 (k0_pay43 r0 r1 r2 r3 x2)) (k0_pay69 (k0_pay43 r0 r1 r2 r3 x2)) (k0_pay70 (k0_pay43 r0 r1 r2 r3 x2)) (k0_pay71 (k0_pay43 r0 r1 r2 r3 x2)) (k0_pay72 (k0_pay43 r0 r1 r2 r3 x2)) (k0_pay73 (k0_pay43 r0 r1 r2 r3 x2)) (k0_pay74 (k0_pay43 r0 r1 r2 r3 x2)) (k0_pay75 (k0_pay43 r0 r1 r2 r3 x2)) (k0_pay76 (k0_pay43 r0 r1 r2 r3 x2)) (k0_pay77 (k0_pay43 r0 r1 r2 r3 x2)) (k0_pay78 (k0_pay43 r0 r1 r2 r3 x2)) (k0_pay79 (k0_pay43 r0 r1 r2 r3 x2)) x5 x6 x7 x8 x9 x10 = flat geo0 (k0_pay43 r0 r1 r2 r3 x2) (k0_pay44 dk dc x3 x4) x5 x6 x7 x8 x9 x10 := rfl

/-- Tile 1: the first network.  -/
theorem flat1 (apt : FVec F S10x30 .f32) (dq : FVec F S10x9000 .f32) (x5 : Vec F S10x10 .f32) (x6 : Vec F S10x1 .f32) (x7 : Vec F S10x10 .f32) (x8 : Vec F S10x1 .f32) (x9 : Vec F S1x10 .f32) (x10 : Vec F S1x1 .f32) :
    k0_pay137 apt (k0_pay106 dq) (k0_pay107 apt) (k0_pay108 apt) (k0_pay109 apt) (k0_pay110 apt) (k0_pay111 apt) (k0_pay112 apt) (k0_pay113 apt) (k0_pay114 apt) (k0_pay116 (k0_pay115 apt)) (k0_pay117 apt) (k0_pay118 apt) (k0_pay119 apt) (k0_pay120 apt) (k0_pay121 apt) (k0_pay122 apt) (k0_pay123 apt) (k0_pay124 apt) (k0_pay125 apt) (k0_pay126 apt) (k0_pay127 apt) (k0_pay128 apt) (k0_pay129 apt) (k0_pay130 apt) (k0_pay131 apt) (k0_pay132 apt) (k0_pay133 apt) (k0_pay134 apt) (k0_pay135 apt) (k0_pay136 apt) x5 x6 x7 x8 x9 x10 = flat geo1 apt dq x5 x6 x7 x8 x9 x10 := rfl

/-- Tile 2: the first network.  -/
theorem flat2 (apt : FVec F S10x30 .f32) (dq : FVec F S10x9000 .f32) (x5 : Vec F S10x10 .f32) (x6 : Vec F S10x1 .f32) (x7 : Vec F S10x10 .f32) (x8 : Vec F S10x1 .f32) (x9 : Vec F S1x10 .f32) (x10 : Vec F S1x1 .f32) :
    k0_pay189 apt (k0_pay159 dq) (k0_pay160 apt) (k0_pay161 apt) (k0_pay162 apt) (k0_pay163 apt) (k0_pay164 apt) (k0_pay165 apt) (k0_pay166 apt) (k0_pay168 (k0_pay167 apt)) (k0_pay169 apt) (k0_pay170 apt) (k0_pay171 apt) (k0_pay172 apt) (k0_pay173 apt) (k0_pay174 apt) (k0_pay175 apt) (k0_pay176 apt) (k0_pay177 apt) (k0_pay178 apt) (k0_pay179 apt) (k0_pay180 apt) (k0_pay181 apt) (k0_pay182 apt) (k0_pay183 apt) (k0_pay184 apt) (k0_pay185 apt) (k0_pay186 apt) (k0_pay187 apt) (k0_pay188 apt) x5 x6 x7 x8 x9 x10 = flat geo2 apt dq x5 x6 x7 x8 x9 x10 := rfl

/-- Tile 3: the first network.  -/
theorem flat3 (apt : FVec F S10x30 .f32) (dq : FVec F S10x9000 .f32) (x5 : Vec F S10x10 .f32) (x6 : Vec F S10x1 .f32) (x7 : Vec F S10x10 .f32) (x8 : Vec F S10x1 .f32) (x9 : Vec F S1x10 .f32) (x10 : Vec F S1x1 .f32) :
    k0_pay236 apt (k0_pay209 dq) (k0_pay210 apt) (k0_pay211 apt) (k0_pay212 apt) (k0_pay213 apt) (k0_pay214 apt) (k0_pay215 apt) (k0_pay216 apt) (k0_pay217 apt) (k0_pay218 apt) (k0_pay219 apt) (k0_pay220 apt) (k0_pay221 apt) (k0_pay222 apt) (k0_pay223 apt) (k0_pay224 apt) (k0_pay225 apt) (k0_pay226 apt) (k0_pay227 apt) (k0_pay228 apt) (k0_pay229 apt) (k0_pay230 apt) (k0_pay231 apt) (k0_pay232 apt) (k0_pay233 apt) (k0_pay234 apt) (k0_pay235 apt) x5 x6 x7 x8 x9 x10 = flat geo3 apt dq x5 x6 x7 x8 x9 x10 := rfl

/-- Tile 0: what it adds to the first sum. -/
theorem cor0 (acc : FVec F S1x1 .f32) (M : IVec S30x9000 32) (G : IVec S1x9000 32) (y : FVec F S1x69120 .f32) :
    k0_pay96 acc (k0_pay47 M) (k0_pay48 G) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304) (extractStridedSlice S1x2304 ![0, 23040] y slices_S1x69120_o0_23040_S1x2304) (extractStridedSlice S1x2304 ![0, 25344] y slices_S1x69120_o0_25344_S1x2304) (extractStridedSlice S1x2304 ![0, 27648] y slices_S1x69120_o0_27648_S1x2304) (extractStridedSlice S1x2304 ![0, 29952] y slices_S1x69120_o0_29952_S1x2304) = addf acc (cor geo0 M G (outs geo0 y)) := rfl

/-- Tile 1: what it adds to the first sum. -/
theorem cor1 (acc : FVec F S1x1 .f32) (M : IVec S30x9000 32) (G : IVec S1x9000 32) (y : FVec F S1x69120 .f32) :
    k0_pay149 acc (k0_pay104 M) (k0_pay105 G) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304) = addf acc (cor geo1 M G (outs geo1 y)) := rfl

/-- Tile 2: what it adds to the first sum. -/
theorem cor2 (acc : FVec F S1x1 .f32) (M : IVec S30x9000 32) (G : IVec S1x9000 32) (y : FVec F S1x69120 .f32) :
    k0_pay197 acc (k0_pay157 M) (k0_pay158 G) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) = addf acc (cor geo2 M G (outs geo2 y)) := rfl

/-- Tile 3: what it adds to the first sum. -/
theorem cor3 (acc : FVec F S1x1 .f32) (M : IVec S30x9000 32) (G : IVec S1x9000 32) (y : FVec F S1x62640 .f32) :
    k0_pay240 acc (k0_pay207 M) (k0_pay208 G) y (extractStridedSlice S1x2088 ![0, 0] y slices_S1x62640_o0_0_S1x2088) (extractStridedSlice S1x2088 ![0, 2088] y slices_S1x62640_o0_2088_S1x2088) = addf acc (cor geo3 M G (outs geo3 y)) := rfl

/-- Tile 0: what it adds to the second sum. -/
theorem ref0 (acc : FVec F S1x1 .f32) (M : IVec S30x9000 32) (G : IVec S1x9000 32) (y : FVec F S1x69120 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) :
    k0_pay103 acc (k0_pay48 G) (k0_pay102 (k0_pay98 (k0_pay47 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304) (extractStridedSlice S1x2304 ![0, 23040] y slices_S1x69120_o0_23040_S1x2304) (extractStridedSlice S1x2304 ![0, 25344] y slices_S1x69120_o0_25344_S1x2304) (extractStridedSlice S1x2304 ![0, 27648] y slices_S1x69120_o0_27648_S1x2304) (extractStridedSlice S1x2304 ![0, 29952] y slices_S1x69120_o0_29952_S1x2304)) (k0_pay99 (k0_pay47 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304) (extractStridedSlice S1x2304 ![0, 23040] y slices_S1x69120_o0_23040_S1x2304) (extractStridedSlice S1x2304 ![0, 25344] y slices_S1x69120_o0_25344_S1x2304) (extractStridedSlice S1x2304 ![0, 27648] y slices_S1x69120_o0_27648_S1x2304) (extractStridedSlice S1x2304 ![0, 29952] y slices_S1x69120_o0_29952_S1x2304)) (k0_pay100 (k0_pay47 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304) (extractStridedSlice S1x2304 ![0, 23040] y slices_S1x69120_o0_23040_S1x2304) (extractStridedSlice S1x2304 ![0, 25344] y slices_S1x69120_o0_25344_S1x2304) (extractStridedSlice S1x2304 ![0, 27648] y slices_S1x69120_o0_27648_S1x2304) (extractStridedSlice S1x2304 ![0, 29952] y slices_S1x69120_o0_29952_S1x2304)) (k0_pay101 (k0_pay47 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304) (extractStridedSlice S1x2304 ![0, 23040] y slices_S1x69120_o0_23040_S1x2304) (extractStridedSlice S1x2304 ![0, 25344] y slices_S1x69120_o0_25344_S1x2304) (extractStridedSlice S1x2304 ![0, 27648] y slices_S1x69120_o0_27648_S1x2304) (extractStridedSlice S1x2304 ![0, 29952] y slices_S1x69120_o0_29952_S1x2304)) x11 x12 x13 x14 x15 x16 x17 x18) = addf acc (ref geo0 G (marks geo0 M (outs geo0 y) x11 x12 x13 x14 x15 x16 x17 x18)) := rfl

/-- Tile 1: what it adds to the second sum. -/
theorem ref1 (acc : FVec F S1x1 .f32) (M : IVec S30x9000 32) (G : IVec S1x9000 32) (y : FVec F S1x69120 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) :
    k0_pay156 acc (k0_pay105 G) (k0_pay154 (k0_pay104 M) (k0_pay148 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay150 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay151 (k0_pay104 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay152 (k0_pay104 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay153 (k0_pay104 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) x11 x12 x13 x14 x15 x16 x17 x18) (k0_pay155 (k0_pay104 M) (k0_pay148 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay150 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay151 (k0_pay104 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay152 (k0_pay104 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) (k0_pay153 (k0_pay104 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304) (extractStridedSlice S1x2304 ![0, 13824] y slices_S1x69120_o0_13824_S1x2304) (extractStridedSlice S1x2304 ![0, 16128] y slices_S1x69120_o0_16128_S1x2304) (extractStridedSlice S1x2304 ![0, 18432] y slices_S1x69120_o0_18432_S1x2304) (extractStridedSlice S1x2304 ![0, 20736] y slices_S1x69120_o0_20736_S1x2304)) x11 x12 x13 x14 x15 x16 x17 x18) = addf acc (ref geo1 G (marks geo1 M (outs geo1 y) x11 x12 x13 x14 x15 x16 x17 x18)) := rfl

/-- Tile 2: what it adds to the second sum. -/
theorem ref2 (acc : FVec F S1x1 .f32) (M : IVec S30x9000 32) (G : IVec S1x9000 32) (y : FVec F S1x69120 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) :
    k0_pay206 acc (k0_pay158 G) (k0_pay202 (k0_pay157 M) (k0_pay196 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay198 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay199 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay200 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) x11 x12 x13 x14 x15 x16 x17 x18) (k0_pay203 (k0_pay157 M) (k0_pay196 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay198 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay199 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay200 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) x11 x12 x13 x14 x15 x16 x17 x18) (k0_pay204 (k0_pay157 M) (k0_pay196 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay198 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay199 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay200 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) x11 x12 x13 x14 x15 x16 x17 x18) (k0_pay205 (k0_pay157 M) (k0_pay196 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay198 y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay199 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) (k0_pay200 (k0_pay157 M) y (extractStridedSlice S1x2304 ![0, 0] y slices_S1x69120_o0_0_S1x2304) (extractStridedSlice S1x2304 ![0, 2304] y slices_S1x69120_o0_2304_S1x2304) (extractStridedSlice S1x2304 ![0, 4608] y slices_S1x69120_o0_4608_S1x2304) (extractStridedSlice S1x2304 ![0, 6912] y slices_S1x69120_o0_6912_S1x2304) (extractStridedSlice S1x2304 ![0, 9216] y slices_S1x69120_o0_9216_S1x2304) (extractStridedSlice S1x2304 ![0, 11520] y slices_S1x69120_o0_11520_S1x2304)) x11 x12 x13 x14 x15 x16 x17 x18) = addf acc (ref geo2 G (marks geo2 M (outs geo2 y) x11 x12 x13 x14 x15 x16 x17 x18)) := rfl

/-- Tile 3: what it adds to the second sum. -/
theorem ref3 (acc : FVec F S1x1 .f32) (M : IVec S30x9000 32) (G : IVec S1x9000 32) (y : FVec F S1x62640 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) (z : FVec F S1x1 .f32) :
    k0_pay245 acc (k0_pay208 G) (k0_pay243 (k0_pay207 M) (k0_pay239 y (extractStridedSlice S1x2088 ![0, 0] y slices_S1x62640_o0_0_S1x2088) (extractStridedSlice S1x2088 ![0, 2088] y slices_S1x62640_o0_2088_S1x2088)) (k0_pay241 y (extractStridedSlice S1x2088 ![0, 0] y slices_S1x62640_o0_0_S1x2088) (extractStridedSlice S1x2088 ![0, 2088] y slices_S1x62640_o0_2088_S1x2088)) (k0_pay242 (k0_pay207 M) y (extractStridedSlice S1x2088 ![0, 0] y slices_S1x62640_o0_0_S1x2088) (extractStridedSlice S1x2088 ![0, 2088] y slices_S1x62640_o0_2088_S1x2088)) x11 x12 x13 x14 x15 x16 x17 x18) z = addf (shapeCast S1x1 z shapeCasts_S1x1_S1x1) (addf acc (ref geo3 G (marks geo3 M (outs geo3 y) x11 x12 x13 x14 x15 x16 x17 x18))) := rfl

end Cert.Proof.Tile
end
-- ==== Proof.KPrep.lean ====
module
public import proofs.«01_k».proof.Proof.KTiles
@[expose] public section
set_option maxRecDepth 20000
noncomputable section

/-! What one grid point computes of its blocks, with names for the steps. -/

namespace Cert.Proof.Tile
open Idealize.ShloMosaic Idealize.ShloMosaic.TcCoe Idealize.SL.Sem Cert.KernelIdeal Cert.KernelIdeal.Gen

variable {F : FTy → Type} [FloatOps F]

/-- The windows as 30×9000 and 1×9000. -/
abbrev mK (x0 : Vec F S1x30x9000 .i32) : IVec S30x9000 32 := k0_pay5 x0
abbrev gK (x1 : Vec F S1x1x9000 .i32) : IVec S1x9000 32 := k0_pay6 x1
/-- Whether an entry is its column's most frequent value, as 0 or 1. -/
def mcK (x0 : Vec F S1x30x9000 .i32) := k0_pay14 (k0_pay5 x0) (k0_pay10 x0) (k0_pay11 x0) (k0_pay12 x0) (k0_pay13 (F := F))
/-- How often a row, and how often a column, agrees. -/
def aK (x0 : Vec F S1x30x9000 .i32) := k0_pay15 (k0_pay5 x0) (k0_pay10 x0) (k0_pay11 x0) (k0_pay12 x0) (k0_pay13 (F := F))
def dK (x0 : Vec F S1x30x9000 .i32) := k0_pay16 (k0_pay5 x0) (k0_pay7 (F := F)) (k0_pay10 x0) (k0_pay11 x0) (k0_pay12 x0) (k0_pay13 (F := F))
/-- The three thirds' column means, and the column means, for the first network. -/
def dkK (x0 : Vec F S1x30x9000 .i32) := k0_pay41 (mcK x0) (k0_pay38 (aK x0)) (k0_pay39 (aK x0)) (k0_pay40 (aK x0))
def dcK (x0 : Vec F S1x30x9000 .i32) := k0_pay42 (dK x0)
/-- The columns' counts of every value (one row per value), and what the two thresholds are found from. -/
def ihK (x0 : Vec F S1x30x9000 .i32) := k0_pay17 (k0_pay5 x0) (k0_pay7 (F := F)) (k0_pay10 x0) (k0_pay11 x0) (k0_pay12 x0) (k0_pay13 (F := F))
def v1K (x0 : Vec F S1x30x9000 .i32) := k0_pay19 (ihK x0) (k0_pay18 (F := F))
def n54K (x0 : Vec F S1x30x9000 .i32) := k0_pay21 (dK x0) (ihK x0) (k0_pay18 (F := F))
def n57K (x0 : Vec F S1x30x9000 .i32) := k0_pay23 (dK x0) (ihK x0) (k0_pay18 (F := F))
def n59K (x0 : Vec F S1x30x9000 .i32) := k0_pay25 (dK x0) (ihK x0) (k0_pay18 (F := F))
def n60K (x0 : Vec F S1x30x9000 .i32) := k0_pay27 (n57K x0) (n59K x0)
def n62K (x0 : Vec F S1x30x9000 .i32) := k0_pay29 (v1K x0)
def n67K (x0 : Vec F S1x30x9000 .i32) := k0_pay20 (ihK x0)
def n69K (x0 : Vec F S1x30x9000 .i32) := k0_pay22 (dK x0) (ihK x0)
def n72K (x0 : Vec F S1x30x9000 .i32) := k0_pay24 (dK x0) (ihK x0)
def n73K (x0 : Vec F S1x30x9000 .i32) := k0_pay28 (n72K x0) (n59K x0)
def n74K (x0 : Vec F S1x30x9000 .i32) := k0_pay33 (mcK x0) (dK x0) (v1K x0) (n67K x0) (n54K x0) (n69K x0) (n60K x0) (n73K x0) (n62K x0)
def n79K (x0 : Vec F S1x30x9000 .i32) := k0_pay31 (dK x0) (n67K x0) (n69K x0) (n73K x0)
/-- The three thirds' row sums, and the row means. -/
def r1K (x0 : Vec F S1x30x9000 .i32) := k0_pay32 (mcK x0) (dK x0) (v1K x0) (n54K x0) (n60K x0) (n62K x0)
def r2K (x0 : Vec F S1x30x9000 .i32) := k0_pay35 (n74K x0) k0_pay34
def r3K (x0 : Vec F S1x30x9000 .i32) := k0_pay36 (mcK x0) (n79K x0)
def r0K (x0 : Vec F S1x30x9000 .i32) := k0_pay37 (aK x0)
/-- The first network's first layer, its part from the row and its part from the column. -/
def aptK (x0 : Vec F S1x30x9000 .i32) (x2 : Vec F S10x4 .f32) := k0_pay43 (r1K x0) (r2K x0) (r3K x0) (r0K x0) x2
def dqK (x0 : Vec F S1x30x9000 .i32) (x3 : Vec F S10x4 .f32) (x4 : Vec F S10x1 .f32) := k0_pay44 (dkK x0) (dcK x0) x3 x4

/-- All four tiles of the first sum, in the kernel's order. -/
def corAll (M : IVec S30x9000 32) (G : IVec S1x9000 32) (apt : FVec F S10x30 .f32) (dq : FVec F S10x9000 .f32) (x5 : Vec F S10x10 .f32) (x6 : Vec F S10x1 .f32) (x7 : Vec F S10x10 .f32) (x8 : Vec F S10x1 .f32) (x9 : Vec F S1x10 .f32) (x10 : Vec F S1x1 .f32) : FVec F S1x1 .f32 :=
  addf (addf (addf (addf k0_pay45 (cor geo0 M G (outs geo0 (flat geo0 apt dq x5 x6 x7 x8 x9 x10)))) (cor geo1 M G (outs geo1 (flat geo1 apt dq x5 x6 x7 x8 x9 x10))))
    (cor geo2 M G (outs geo2 (flat geo2 apt dq x5 x6 x7 x8 x9 x10)))) (cor geo3 M G (outs geo3 (flat geo3 apt dq x5 x6 x7 x8 x9 x10)))

/-- All four tiles of the second sum, in the kernel's order. -/
def refAll (M : IVec S30x9000 32) (G : IVec S1x9000 32) (apt : FVec F S10x30 .f32) (dq : FVec F S10x9000 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) : FVec F S1x1 .f32 :=
  addf (addf (addf (addf k0_pay46 (ref geo0 G (marks geo0 M (outs geo0 (flat geo0 apt dq x5 x6 x7 x8 x9 x10)) x11 x12 x13 x14 x15 x16 x17 x18))) (ref geo1 G (marks geo1 M (outs geo1 (flat geo1 apt dq x5 x6 x7 x8 x9 x10)) x11 x12 x13 x14 x15 x16 x17 x18)))
    (ref geo2 G (marks geo2 M (outs geo2 (flat geo2 apt dq x5 x6 x7 x8 x9 x10)) x11 x12 x13 x14 x15 x16 x17 x18))) (ref geo3 G (marks geo3 M (outs geo3 (flat geo3 apt dq x5 x6 x7 x8 x9 x10)) x11 x12 x13 x14 x15 x16 x17 x18))

/-- What a grid point adds to the first sum, and to the second. -/
def addCor (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (z : Vec F S1x1 .f32) : FVec F S1x1 .f32 :=
  k0_pay244 (corAll (mK x0) (gK x1) (aptK x0 x2) (dqK x0 x3 x4) x5 x6 x7 x8 x9 x10) z
def addRef (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) (z : Vec F S1x1 .f32) : FVec F S1x1 .f32 :=
  addf (shapeCast S1x1 z shapeCasts_S1x1_S1x1) (refAll (mK x0) (gK x1) (aptK x0 x2) (dqK x0 x3 x4) x5 x6 x7 x8 x9 x10 x11 x12 x13 x14 x15 x16 x17 x18)

end Cert.Proof.Tile

end
-- ==== Proof.Count.lean ====
module
public import proofs.«01_k».proof.Proof.Spec
public import Idealize.ShloMosaic.Lib.PlanTiles.StableSort
@[expose] public section
noncomputable section

/-! Counting: ranks, the stable sort's order, the two thresholds and the most frequent value, over natural numbers. -/

namespace Cert.Proof.Spec
open Idealize.ShloMosaic

/-- Whether position `i` comes before `j` in a stable sort by `v`. -/
def before {n : ℕ} (v : Fin n → ℕ) (i j : Fin n) : Prop := v i < v j ∨ (v i = v j ∧ i < j)

instance {n : ℕ} (v : Fin n → ℕ) (i j : Fin n) : Decidable (before v i j) := by unfold before; infer_instance

/-- How many positions come before `i`. -/
def rank {n : ℕ} (v : Fin n → ℕ) (i : Fin n) : ℕ := (Finset.univ.filter fun j => before v j i).card

/-- Coming before is transitive. -/
theorem before_trans {n : ℕ} {v : Fin n → ℕ} {i j k : Fin n} (h : before v i j) (h' : before v j k) : before v i k := by
  unfold before at *
  rcases h with h | ⟨h, g⟩ <;> rcases h' with h' | ⟨h', g'⟩
  · exact Or.inl (by omega)
  · exact Or.inl (by omega)
  · exact Or.inl (by omega)
  · exact Or.inr ⟨by omega, lt_trans g g'⟩

/-- No position comes before itself. -/
theorem not_before_self {n : ℕ} (v : Fin n → ℕ) (i : Fin n) : ¬ before v i i := by unfold before; simp

/-- Ranks are in the sort's order. -/
theorem rank_lt_of_before {n : ℕ} {v : Fin n → ℕ} {i j : Fin n} (h : before v i j) : rank v i < rank v j := by
  unfold rank
  refine Finset.card_lt_card ⟨fun x hx => ?_, fun hs => ?_⟩
  · simp only [Finset.mem_filter, Finset.mem_univ, true_and] at hx ⊢
    exact before_trans hx h
  · have := hs (by simpa using h : i ∈ _)
    simp only [Finset.mem_filter, Finset.mem_univ, true_and] at this
    exact not_before_self v i this

/-- A rank is smaller than the number of positions. -/
theorem rank_lt {n : ℕ} (v : Fin n → ℕ) (i : Fin n) : rank v i < n := by
  have h := Finset.card_lt_univ_of_notMem (s := Finset.univ.filter fun j => before v j i) (x := i) (by simpa using not_before_self v i)
  simpa [rank] using h

/-- Different positions have different ranks. -/
theorem rank_inj {n : ℕ} {v : Fin n → ℕ} {i j : Fin n} (h : rank v i = rank v j) : i = j := by
  by_contra hne
  have : before v i j ∨ before v j i := by
    unfold before
    rcases lt_trichotomy (v i) (v j) with g | g | g
    · exact Or.inl (Or.inl g)
    · rcases lt_or_gt_of_ne hne with k | k
      · exact Or.inl (Or.inr ⟨g, k⟩)
      · exact Or.inr (Or.inr ⟨g.symm, k⟩)
    · exact Or.inr (Or.inl g)
  rcases this with g | g
  · exact absurd h (Nat.ne_of_lt (rank_lt_of_before g))
  · exact absurd h.symm (Nat.ne_of_lt (rank_lt_of_before g))

/-- The position a stable sort puts at `r` is the one of rank `r`. -/
theorem rank_sortedFrom {n : ℕ} (v : Fin n → ℕ) (r : Fin n) : rank v (sortedFrom (fun k k' => decide (v k < v k')) r) = r.val := by
  obtain ⟨K, hK⟩ : ∃ K, ∀ i, v i ≤ K := ⟨∑ i, v i, fun i => Finset.single_le_sum (fun _ _ => Nat.zero_le _) (Finset.mem_univ i)⟩
  have hfun : (fun k k' => decide (v k < v k')) = fun x y : Fin n => decide ((fun i => K - v i) y < (fun i => K - v i) x) := by
    funext x y
    have h1 := hK x
    have h2 := hK y
    exact decide_eq_decide.mpr (by dsimp only; omega)
  have hp : (sortPositions n (fun k k' => decide (v k < v k'))).Pairwise (before v) := by
    rw [hfun]
    refine (PlanTiles.pairwise_stableSort_lex (fun i => K - v i) (fun a b : Fin n => a < b) _ (List.pairwise_lt_finRange n)).imp ?_
    intro a b h
    have h1 := hK a
    have h2 := hK b
    rcases h with h | ⟨h, g⟩
    · exact Or.inl (by dsimp only at h; omega)
    · exact Or.inr ⟨by dsimp only at h; omega, g⟩
  have hm : StrictMono fun r : Fin n => (⟨rank v (sortedFrom (fun k k' => decide (v k < v k')) r), rank_lt v _⟩ : Fin n) := by
    intro a b hab
    exact rank_lt_of_before (List.pairwise_iff_get.mp hp _ _ hab)
  have := le_antisymm (hm.apply_le (x := r)) (hm.le_apply (x := r))
  exact congrArg Fin.val this

/-- A sum over a run of sorted positions is a sum over the positions with such a rank. -/
theorem sum_run {n : ℕ} (v : Fin n → ℕ) (f : Fin n → EReal) (w k : ℕ) (hw : 0 < w) (hk : w * k + w ≤ n) :
    (∑ c : Fin w, f (sortedFrom (fun k k' => decide (v k < v k')) ⟨w * k + c.val, by omega⟩))
      = ∑ q, if rank v q / w = k then f q else 0 := by
  rw [← Finset.sum_filter]
  refine Finset.sum_bij' (t := Finset.univ.filter fun q => rank v q / w = k) (g := f) (fun c _ => sortedFrom (fun k k' => decide (v k < v k')) ⟨w * k + c.val, by omega⟩)
    (fun q _ => ⟨rank v q % w, Nat.mod_lt _ hw⟩) (fun c _ => ?_) (fun _ _ => Finset.mem_univ _) (fun c _ => Fin.ext ?_) (fun q hq => rank_inj (v := v) ?_) (fun _ _ => rfl)
  · rw [Finset.mem_filter, rank_sortedFrom]
    refine ⟨Finset.mem_univ _, ?_⟩
    show (w * k + c.val) / w = k
    rw [Nat.mul_add_div hw, Nat.div_eq_of_lt c.isLt, Nat.add_zero]
  · show rank v (sortedFrom _ _) % w = c.val
    rw [rank_sortedFrom]
    show (w * k + c.val) % w = c.val
    rw [Nat.mul_add_mod, Nat.mod_eq_of_lt c.isLt]
  · rw [rank_sortedFrom]
    have h := (Finset.mem_filter.mp hq).2
    have := Nat.div_add_mod (rank v q) w
    show w * k + rank v q % w = rank v q
    rw [← h]; exact this

/-- The threshold found by counting values agrees with the rank. -/
theorem threshold {n : ℕ} (d : Fin n → ℕ) (N B v : ℕ) (hN : ∀ q, d q ≤ N)
    (hv : v = ((Finset.range (N + 1)).filter fun x => (Finset.univ.filter fun q => d q ≤ x).card ≤ B).card) (q : Fin n) :
    (v < d q ∨ (d q = v ∧ B ≤ (Finset.univ.filter fun j => d j < v).card + (Finset.univ.filter fun j => j < q ∧ d j = v).card)) ↔ B ≤ rank d q := by
  have hmono : ∀ x y, x ≤ y → (Finset.univ.filter fun q => d q ≤ x).card ≤ (Finset.univ.filter fun q => d q ≤ y).card := by
    intro x y hxy
    refine Finset.card_le_card fun j hj => ?_
    simp only [Finset.mem_filter, Finset.mem_univ, true_and] at hj ⊢
    omega
  have hset : ∀ x, x ≤ N → ((Finset.univ.filter fun q => d q ≤ x).card ≤ B ↔ x < v) := by
    intro x hx
    constructor
    · intro h
      have : Finset.range (x + 1) ⊆ ((Finset.range (N + 1)).filter fun x => (Finset.univ.filter fun q => d q ≤ x).card ≤ B) := by
        intro y hy
        have hy' := Finset.mem_range.mp hy
        exact Finset.mem_filter.mpr ⟨Finset.mem_range.mpr (by omega), le_trans (hmono y x (by omega)) h⟩
      have := Finset.card_le_card this
      rw [Finset.card_range] at this
      omega
    · intro h
      by_contra hc
      have : ((Finset.range (N + 1)).filter fun x => (Finset.univ.filter fun q => d q ≤ x).card ≤ B) ⊆ Finset.range x := by
        intro y hy
        obtain ⟨h1, h2⟩ := Finset.mem_filter.mp hy
        refine Finset.mem_range.mpr ?_
        by_contra hyx
        exact hc (le_trans (hmono x y (by omega)) h2)
      have := Finset.card_le_card this
      rw [Finset.card_range] at this
      omega
  have hq := hN q
  rcases lt_trichotomy (d q) v with h | h | h
  · have h1 := (hset (d q) hq).mpr h
    have h2 : rank d q < (Finset.univ.filter fun j => d j ≤ d q).card := by
      refine Finset.card_lt_card ⟨fun j hj => ?_, fun hs => ?_⟩
      · simp only [Finset.mem_filter, Finset.mem_univ, true_and] at hj ⊢
        rcases hj with hj | ⟨hj, -⟩ <;> omega
      · have := hs (by simp : q ∈ _)
        simp only [Finset.mem_filter, Finset.mem_univ, true_and] at this
        exact not_before_self d q this
    omega
  · have h1 : rank d q = (Finset.univ.filter fun j => d j < v).card + (Finset.univ.filter fun j => j < q ∧ d j = v).card := by
      rw [← Finset.card_union_of_disjoint]
      · unfold rank
        congr 1
        ext j
        simp only [Finset.mem_filter, Finset.mem_univ, true_and, before, Finset.mem_union, h]
        tauto
      · refine Finset.disjoint_left.mpr fun j hj hj' => ?_
        simp only [Finset.mem_filter, Finset.mem_univ, true_and] at hj hj'
        omega
    omega
  · have h1 : ¬ (Finset.univ.filter fun j => d j ≤ v).card ≤ B := fun hc => absurd ((hset v (by omega)).mp hc) (lt_irrefl _)
    have h2 : (Finset.univ.filter fun j => d j ≤ v).card ≤ rank d q := by
      refine Finset.card_le_card fun j hj => ?_
      simp only [Finset.mem_filter, Finset.mem_univ, true_and] at hj ⊢
      exact Or.inl (by omega)
    omega

/-- The first class with the largest count. -/
def pick (c : Fin 4 → ℕ) : ℕ :=
  if c 1 ≤ c 0 ∧ c 2 ≤ c 0 ∧ c 3 ≤ c 0 then 0 else if c 2 ≤ c 1 ∧ c 3 ≤ c 1 then 1 else if c 3 ≤ c 2 then 2 else 3

/-- It is read off the largest of four keys. -/
theorem pick_key (c : Fin 4 → ℕ) : pick c = 3 - max (max (max (c 0 * 4 + 3) (c 1 * 4 + 2)) (c 2 * 4 + 1)) (c 3 * 4 + 0) % 4 := by
  unfold pick
  split_ifs <;> omega

/-- One step of a prefix sum by doubling. -/
theorem scan_step {n : ℕ} (p : Fin n → Prop) [DecidablePred p] (s : ℕ) (q : Fin n) :
    (Finset.univ.filter fun j : Fin n => p j ∧ j.val ≤ q.val ∧ q.val < j.val + (s + s)).card
      = (Finset.univ.filter fun j : Fin n => p j ∧ j.val ≤ q.val ∧ q.val < j.val + s).card
        + if h : s ≤ q.val then (Finset.univ.filter fun j : Fin n => p j ∧ j.val ≤ q.val - s ∧ q.val - s < j.val + s).card else 0 := by
  split_ifs with h
  · rw [← Finset.card_union_of_disjoint]
    · congr 1
      ext j
      simp only [Finset.mem_filter, Finset.mem_univ, true_and, Finset.mem_union]
      constructor
      · rintro ⟨a, b, c⟩
        by_cases g : q.val < j.val + s
        · exact Or.inl ⟨a, b, g⟩
        · exact Or.inr ⟨a, by omega, by omega⟩
      · rintro (⟨a, b, c⟩ | ⟨a, b, c⟩)
        · exact ⟨a, b, by omega⟩
        · exact ⟨a, by omega, by omega⟩
    · refine Finset.disjoint_left.mpr fun j hj hj' => ?_
      simp only [Finset.mem_filter, Finset.mem_univ, true_and] at hj hj'
      omega
  · rw [Nat.add_zero]
    congr 1
    ext j
    simp only [Finset.mem_filter, Finset.mem_univ, true_and]
    constructor
    · rintro ⟨a, b, c⟩; exact ⟨a, b, by omega⟩
    · rintro ⟨a, b, c⟩; exact ⟨a, b, by omega⟩

/-- How often class `s` occurs in column `q`. -/
def cnt (m : Fin 30 → Fin 9000 → BitVec 32) (q : Fin 9000) (s : Fin 4) : ℕ := (Finset.univ.filter fun p => m p q = BitVec.ofNat 32 s.val).card

/-- A column's most frequent class. -/
def mode (m : Fin 30 → Fin 9000 → BitVec 32) (q : Fin 9000) : BitVec 32 := BitVec.ofNat 32 (pick (cnt m q))

/-- How often a row, and a column, agrees with the most frequent classes. -/
def rowN (m : Fin 30 → Fin 9000 → BitVec 32) (p : Fin 30) : ℕ := (Finset.univ.filter fun q => m p q = mode m q).card
def colN (m : Fin 30 → Fin 9000 → BitVec 32) (q : Fin 9000) : ℕ := (Finset.univ.filter fun p => m p q = mode m q).card

/-- The same in the `k`-th third of the sorted columns, and of the sorted rows. -/
def rowK (m : Fin 30 → Fin 9000 → BitVec 32) (k : ℕ) (p : Fin 30) : ℕ :=
  (Finset.univ.filter fun q => rank (colN m) q / 3000 = k ∧ m p q = mode m q).card
def colK (m : Fin 30 → Fin 9000 → BitVec 32) (k : ℕ) (q : Fin 9000) : ℕ :=
  (Finset.univ.filter fun p => rank (rowN m) p / 10 = k ∧ m p q = mode m q).card

/-- The features of a row, and of a column. -/
def fa (m : Fin 30 → Fin 9000 → BitVec 32) (p : Fin 30) : Fin 4 → EReal :=
  ![Ideal.div (rowN m p : ℕ) (Ideal.ofBits .f32 0x460CA000#32), Ideal.div (rowK m 0 p : ℕ) (Ideal.ofBits .f32 0x453B8000#32),
    Ideal.div (rowK m 1 p : ℕ) (Ideal.ofBits .f32 0x453B8000#32), Ideal.div (rowK m 2 p : ℕ) (Ideal.ofBits .f32 0x453B8000#32)]
def fd (m : Fin 30 → Fin 9000 → BitVec 32) (q : Fin 9000) : Fin 4 → EReal :=
  ![Ideal.div (colN m q : ℕ) (Ideal.ofBits .f32 0x41F00000#32), Ideal.div (colK m 0 q : ℕ) (Ideal.ofBits .f32 0x41200000#32),
    Ideal.div (colK m 1 q : ℕ) (Ideal.ofBits .f32 0x41200000#32), Ideal.div (colK m 2 q : ℕ) (Ideal.ofBits .f32 0x41200000#32)]

/-- The first network at an entry. -/
def agree (w : Wts) (m : Fin 30 → Fin 9000 → BitVec 32) (p : Fin 30) (q : Fin 9000) : EReal :=
  net1 w fun i => (∑ k, w.a0 i k * fa m p k) + ((∑ k, w.d0 i k * fd m q k) + w.b0 i)

/-- A batch's parts of the two losses. -/
def loss1 (w : Wts) (m : Fin 30 → Fin 9000 → BitVec 32) (g : Fin 9000 → BitVec 32) : EReal := ∑ p, ∑ q, part1 (m p q) (g q) (agree w m p q)
def loss2 (w : Wts) (m : Fin 30 → Fin 9000 → BitVec 32) (g : Fin 9000 → BitVec 32) : EReal :=
  ∑ q, part2 (g q) fun s => net2 w fun p => share (m p q) (BitVec.ofNat 32 s.val) (agree w m p q)

end Cert.Proof.Spec

end
-- ==== Proof.Num.lean ====
module
public import proofs.«01_k».proof.Proof.Spec
@[expose] public section
noncomputable section

/-! Natural numbers among the extended reals: the literals, differences, comparisons, division, truncation. -/

namespace Cert.Proof.Num
open Idealize.ShloMosaic

/-- The word of the constant 3 stands for 3. -/
theorem n3 : Ideal.ofBits .f32 0x40400000#32 = ((3 : ℕ) : EReal) := by
  rw [← EReal.coe_natCast]; simp [Ideal.ofBits, Ideal.ieee, -EReal.coe_mul]; norm_num
/-- The word of the constant 2 stands for 2. -/
theorem n2 : Ideal.ofBits .f32 0x40000000#32 = ((2 : ℕ) : EReal) := by
  rw [← EReal.coe_natCast]; simp [Ideal.ofBits, Ideal.ieee, -EReal.coe_mul]; try norm_num
/-- The word of the constant 4 stands for 4. -/
theorem n4 : Ideal.ofBits .f32 0x40800000#32 = ((4 : ℕ) : EReal) := by
  rw [← EReal.coe_natCast]; simp [Ideal.ofBits, Ideal.ieee, -EReal.coe_mul]; norm_num
/-- The word of the constant 10 stands for 10. -/
theorem n10 : Ideal.ofBits .f32 0x41200000#32 = ((10 : ℕ) : EReal) := by
  rw [← EReal.coe_natCast]; simp [Ideal.ofBits, Ideal.ieee, -EReal.coe_mul]; norm_num
/-- The word of the constant 20 stands for 20. -/
theorem n20 : Ideal.ofBits .f32 0x41A00000#32 = ((20 : ℕ) : EReal) := by
  rw [← EReal.coe_natCast]; simp [Ideal.ofBits, Ideal.ieee, -EReal.coe_mul]; norm_num
/-- The word of the constant 30 stands for 30. -/
theorem n30 : Ideal.ofBits .f32 0x41F00000#32 = ((30 : ℕ) : EReal) := by
  rw [← EReal.coe_natCast]; simp [Ideal.ofBits, Ideal.ieee, -EReal.coe_mul]; norm_num
/-- The word of the constant 3000 stands for 3000. -/
theorem n3000 : Ideal.ofBits .f32 0x453B8000#32 = ((3000 : ℕ) : EReal) := by
  rw [← EReal.coe_natCast]; simp [Ideal.ofBits, Ideal.ieee, -EReal.coe_mul]; norm_num
/-- The word of the constant 6000 stands for 6000. -/
theorem n6000 : Ideal.ofBits .f32 0x45BB8000#32 = ((6000 : ℕ) : EReal) := by
  rw [← EReal.coe_natCast]; simp [Ideal.ofBits, Ideal.ieee, -EReal.coe_mul]; norm_num
/-- The word of the constant 9000 stands for 9000. -/
theorem n9000 : Ideal.ofBits .f32 0x460CA000#32 = ((9000 : ℕ) : EReal) := by
  rw [← EReal.coe_natCast]; simp [Ideal.ofBits, Ideal.ieee, -EReal.coe_mul]; norm_num

/-- Naturals are ordered among the extended reals as among themselves. -/
theorem le_iff {a b : ℕ} : ((a : EReal) ≤ (b : EReal)) ↔ a ≤ b := EReal.natCast_le_iff
/-- The same for the strict order. -/
theorem lt_iff {a b : ℕ} : ((a : EReal) < (b : EReal)) ↔ a < b := EReal.natCast_lt_iff
/-- Naturals are equal as extended reals just if they are equal. -/
theorem eq_iff {a b : ℕ} : ((a : EReal) = (b : EReal)) ↔ a = b := EReal.natCast_eq_iff

/-- A difference of natural numbers, the second not larger. -/
theorem sub_nat {a b : ℕ} (h : b ≤ a) : (a : EReal) - (b : EReal) = ((a - b : ℕ) : EReal) := by
  rw [← EReal.coe_natCast, ← EReal.coe_natCast, ← EReal.coe_natCast, ← EReal.coe_sub, Nat.cast_sub h]

/-- Dividing by a positive number keeps the order. -/
theorem div_lt {a b c : ℕ} (hc : 0 < c) : Ideal.div (a : EReal) (c : EReal) < Ideal.div (b : EReal) (c : EReal) ↔ a < b := by
  have h0 : (c : EReal) ≠ 0 := by rw [show (0 : EReal) = ((0 : ℕ) : EReal) by norm_cast]; exact fun h => by rw [eq_iff] at h; omega
  unfold Ideal.div
  rw [if_neg h0, if_neg h0]
  rw [← EReal.coe_natCast, ← EReal.coe_natCast, ← EReal.coe_natCast, ← EReal.coe_inv, ← EReal.coe_mul, ← EReal.coe_mul, EReal.coe_lt_coe_iff]
  have hc' : (0 : ℝ) < (c : ℝ)⁻¹ := by positivity
  rw [mul_lt_mul_iff_left₀ hc', Nat.cast_lt]

/-- Truncating a natural number below `2 ^ 31`. -/
theorem fptosi_nat {a : ℕ} (h : a < 2147483648) : (FloatOps.fptosi (F := Ideal) (φ := .f32) 32 (a : EReal)) = BitVec.ofNat 32 a := by
  show Ideal.fptosi 32 (a : EReal) = BitVec.ofNat 32 a
  rw [← EReal.coe_natCast]
  unfold Ideal.fptosi
  have e : Ideal.toIntClamped (-(2 ^ (32 - 1) : Nat)) ((2 ^ (32 - 1) : Nat) - 1) ((a : ℝ) : EReal) = (a : Int) := by
    show max _ (min _ (if 0 ≤ (a : ℝ) then ⌊(a : ℝ)⌋ else ⌈(a : ℝ)⌉)) = _
    rw [if_pos (Nat.cast_nonneg a), Int.floor_natCast]
    omega
  rw [e, BitVec.ofInt_natCast]

/-- A one-bit word of a proposition, as a number. -/
theorem bit (p : Prop) [Decidable p] : FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p
  · rw [if_pos h, decide_eq_true h]; simp
  · rw [if_neg h, decide_eq_false h]; simp
/-- A decided bit, made a number, is one or zero. -/
theorem ubit (p : Prop) [Decidable p] : FloatOps.uitofp (F := Ideal) .f32 (BitVec.ofBool (decide p)) = if p then (1 : EReal) else 0 := by
  show (((BitVec.ofBool (decide p)).toNat : ℝ) : EReal) = _
  by_cases h : p
  · rw [if_pos h, decide_eq_true h]; simp
  · rw [if_neg h, decide_eq_false h]; simp

/-- A word below `2 ^ 31` as a number. -/
theorem num_nat {a : ℕ} (h : a < 2147483648) : FloatOps.sitofp (F := Ideal) .f32 (BitVec.ofNat 32 a) = (a : EReal) := by
  show (((BitVec.ofNat 32 a).toInt : ℝ) : EReal) = _
  rw [BitVec.toInt_eq_toNat_of_lt (by rw [BitVec.toNat_ofNat, Nat.mod_eq_of_lt (by omega)]; omega), BitVec.toNat_ofNat, Nat.mod_eq_of_lt (by omega)]
  simp

/-- Or of two decided bits. -/
theorem ori_bit (p q : Prop) [Decidable p] [Decidable q] : IntOp.ori (BitVec.ofBool (decide p)) (BitVec.ofBool (decide q)) = BitVec.ofBool (decide (p ∨ q)) := by
  by_cases h : p <;> by_cases g : q <;> simp [h, g] <;> decide
/-- And of two decided bits. -/
theorem andi_bit (p q : Prop) [Decidable p] [Decidable q] : IntOp.andi (BitVec.ofBool (decide p)) (BitVec.ofBool (decide q)) = BitVec.ofBool (decide (p ∧ q)) := by
  by_cases h : p <;> by_cases g : q <;> simp [h, g] <;> decide
/-- A decided bit flipped. -/
theorem not_bit (p : Prop) [Decidable p] : IntOp.xori (BitVec.ofBool (decide p)) 1#1 = BitVec.ofBool (decide (¬ p)) := by
  by_cases h : p <;> simp [h] <;> decide
/-- The comparison for equality as a decided bit. -/
theorem eq_bit {w : ℕ} (x y : BitVec w) : IntOp.cmpi .eq x y = BitVec.ofBool (decide (x = y)) := by
  unfold IntOp.cmpi
  by_cases h : x = y
  · simp [h]
  · have e : (x == y) = false := by simpa using h
    simp [h, e]
/-- The signed comparison of small numbers is their order. -/
theorem slt_bit {a b : ℕ} (ha : a < 2147483648) (hb : b < 2147483648) : IntOp.cmpi .slt (BitVec.ofNat 32 a) (BitVec.ofNat 32 b) = BitVec.ofBool (decide (a < b)) := by
  have h : ∀ c < 2147483648, (BitVec.ofNat 32 c).toInt = (c : Int) := fun c hc => by
    rw [BitVec.toInt_eq_toNat_of_lt (by rw [BitVec.toNat_ofNat, Nat.mod_eq_of_lt (by omega)]; omega), BitVec.toNat_ofNat, Nat.mod_eq_of_lt (by omega)]
  show BitVec.ofBool ((BitVec.ofNat 32 a).slt (BitVec.ofNat 32 b)) = _
  unfold BitVec.slt
  rw [h a ha, h b hb]
  congr 1
  simp
/-- Small numbers are told apart by their words. -/
theorem ofNat_inj {a b : ℕ} (ha : a < 4294967296) (hb : b < 4294967296) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- A sum against the identity picks one term. -/
theorem sum_eye {n : ℕ} (hn : n < 4294967296) (p : Fin n) (f : Fin n → EReal) :
    (∑ x : Fin n, (if BitVec.ofNat 32 x.val = BitVec.ofNat 32 p.val then (1 : EReal) else 0) * f x) = f p := by
  rw [Finset.sum_eq_single p]
  · rw [if_pos rfl, one_mul]
  · intro x _ hx
    rw [if_neg (fun h => hx (Fin.ext ((ofNat_inj (by omega) (by omega)).mp h))), zero_mul]
  · intro h; exact absurd (Finset.mem_univ p) h

/-- A product of indicators. -/
theorem ind_mul (p q : Prop) [Decidable p] [Decidable q] : (if p then (1 : EReal) else 0) * (if q then (1 : EReal) else 0) = if q ∧ p then 1 else 0 := by
  by_cases h : p <;> by_cases g : q <;> simp [h, g]

/-- A sum of indicators is a count. -/
theorem count_ind {ι : Type} [Fintype ι] (p : ι → Prop) [DecidablePred p] : (∑ i, if p i then (1 : EReal) else 0) = ((Finset.univ.filter p).card : ℕ) := by
  rw [Finset.sum_boole]

/-- The same below a bound. -/
theorem count_range {n : ℕ} (p : ℕ → Prop) [DecidablePred p] : (Finset.univ.filter fun i : Fin n => p i.val).card = ((Finset.range n).filter p).card := by
  rw [Finset.card_filter, Finset.card_filter, Finset.sum_range]

/-- The larger of two naturals, as an extended real. -/
theorem max_nat (a b : ℕ) : max (a : EReal) (b : EReal) = ((max a b : ℕ) : EReal) := by
  rcases le_total a b with h | h
  · rw [max_eq_right h, max_eq_right (le_iff.mpr h)]
  · rw [max_eq_left h, max_eq_left (le_iff.mpr h)]

end Cert.Proof.Num

end
-- ==== Proof.KFeat.lean ====
module
public import proofs.«01_k».proof.Proof.KRead
public import proofs.«01_k».proof.Proof.KPrep
public import proofs.«01_k».proof.Proof.Count
public import proofs.«01_k».proof.Proof.Num
@[expose] public section
set_option maxRecDepth 20000
noncomputable section

/-! What one grid point prepares of its block of classes: the most frequent classes, the counts, the ranks and the features. -/

namespace Cert.Proof.Tile
open Idealize.ShloMosaic Idealize.ShloMosaic.TcCoe Idealize.SL.Sem Cert.KernelIdeal Cert.KernelIdeal.Gen Cert.Proof.Spec Cert.Proof.Num

/-- One step of the doubling prefix sum: the array, and itself moved right by `s`. -/
def hop (s W : ℕ) (x : FVec Ideal (Mat 2 9000) .f32) (sl : (Mat 2 9000).Slices ![0, 0] (Mat 2 W))
    (cc : Shape.Concatenates [Mat 2 s, Mat 2 W] (Mat 2 9000) 1) : FVec Ideal (Mat 2 9000) .f32 :=
  addf x (concatenate (Mat 2 9000) 1 [⟨Mat 2 s, broadcast (Mat 2 s) (Scalar.ofBits .f32 0x00000000#32)⟩, ⟨Mat 2 W, extractStridedSlice (Mat 2 W) ![0, 0] x sl⟩] cc)

/-- One step of the running count, read at an index: the entry plus the entry `s` columns to the left, if there is one. -/
theorem hop_apply (s W : ℕ) (x : FVec Ideal (Mat 2 9000) .f32) (sl) (cc) (r : Fin 2) (q : Fin 9000) :
    hop s W x sl cc (ix2 r q) = x (ix2 r q) + if h : s ≤ q.val then x (ix2 r ⟨q.val - s, by omega⟩) else 0 := by
  unfold hop
  pointwise
  by_cases h : q.val < s
  · rw [dif_pos h, dif_neg (by omega)]
  · rw [dif_neg h, dif_pos (by omega), Shape.Idx.norm_def]
    rfl

/-- A prefix sum so far: at `q`, how many of the last `s` positions up to `q` have the property. -/
def Scanned (P : Fin 2 → Fin 9000 → Prop) [∀ r, DecidablePred (P r)] (s : ℕ) (x : FVec Ideal (Mat 2 9000) .f32) : Prop :=
  ∀ r q, x (ix2 r q) = ((Finset.univ.filter fun j : Fin 9000 => P r j ∧ j.val ≤ q.val ∧ q.val < j.val + s).card : ℕ)

/-- A step by the length already counted doubles that length. -/
theorem Scanned.hop {P : Fin 2 → Fin 9000 → Prop} [∀ r, DecidablePred (P r)] {s W : ℕ} {x : FVec Ideal (Mat 2 9000) .f32} {sl} {cc}
    (h : Scanned P s x) {t : ℕ} (ht : t = s + s) : Scanned P t (hop s W x sl cc) := by
  intro r q
  subst ht
  rw [hop_apply, scan_step (P r) s q, Nat.cast_add, h r q]
  congr 1
  by_cases g : s ≤ q.val
  · rw [dif_pos g, dif_pos g, h r]
  · rw [dif_neg g, dif_neg g, Nat.cast_zero]

variable (x0 : Vec Ideal S1x30x9000 .i32)

/-- The block's classes. -/
def cells (p : Fin 30) (q : Fin 9000) : BitVec 32 := mK x0 (ix2 p q)

/-- The kernel's count of class 0 in a column. -/
theorem cnt0 (q : Fin 9000) : k0_pay8 x0 (ix2 0 q) = (cnt (cells x0) q 0 : ℕ) := by
  pointwise [k0_pay8, k0_pay7]
  simp only [eq_bit, bit, count_ind]
  rfl
/-- The kernel's count of class 1 in a column. -/
theorem cnt1 (q : Fin 9000) : k0_pay9 x0 (ix2 0 q) = (cnt (cells x0) q 1 : ℕ) := by
  pointwise [k0_pay9, k0_pay7]
  simp only [eq_bit, bit, count_ind]
  rfl
/-- The kernel's count of class 2 in a column. -/
theorem cnt2 (q : Fin 9000) : k0_pay10 x0 (ix2 0 q) = (cnt (cells x0) q 2 : ℕ) := by
  pointwise [k0_pay10, k0_pay7]
  simp only [eq_bit, bit, count_ind]
  rfl

/-- Every entry is one of four classes. -/
def Classes (m : Fin 30 → Fin 9000 → BitVec 32) : Prop := ∀ p q, (m p q).toNat < 4

/-- The four counts of a column add up to its 30 entries. -/
theorem cnt_total {m : Fin 30 → Fin 9000 → BitVec 32} (hm : Classes m) (q : Fin 9000) : cnt m q 0 + cnt m q 1 + cnt m q 2 + cnt m q 3 = 30 := by
  have h : ∑ s : Fin 4, cnt m q s = 30 := by
    unfold cnt
    have := Finset.card_eq_sum_card_fiberwise (s := (Finset.univ : Finset (Fin 30))) (t := (Finset.univ : Finset (Fin 4)))
      (f := fun p => (⟨(m p q).toNat, hm p q⟩ : Fin 4)) (fun _ _ => Finset.mem_coe.mpr (Finset.mem_univ _))
    rw [Finset.card_univ, Fintype.card_fin] at this
    refine Eq.trans ?_ this.symm
    refine Finset.sum_congr rfl fun s _ => ?_
    congr 1
    ext p
    simp only [Finset.mem_filter, Finset.mem_univ, true_and]
    have hs := s.isLt
    constructor
    · intro h; apply Fin.ext; show (m p q).toNat = s.val
      rw [h, BitVec.toNat_ofNat]; omega
    · intro h
      have := congrArg Fin.val h
      apply BitVec.eq_of_toNat_eq
      rw [BitVec.toNat_ofNat]
      have h2 : (m p q).toNat = s.val := this
      omega
  rw [Fin.sum_univ_four] at h
  exact h

variable (hm : Classes (cells x0))
include hm

/-- The kernel's count of class 3, found as what the other three leave of 30. -/
theorem cnt3 (q : Fin 9000) : k0_pay11 x0 (ix2 0 q) = (cnt (cells x0) q 3 : ℕ) := by
  have h := cnt_total hm q
  pointwise [k0_pay11]
  rw [cnt0, cnt1, cnt2, n30, sub_nat (by omega), sub_nat (by omega), sub_nat (by omega)]
  congr 1
  omega

omit hm in
/-- The class a key stands for, as the kernel works it out. -/
theorem key_class : ∀ k : Fin 128, (let v := IntOp.remsi .vector (BitVec.ofNat 32 k.val) (Scalar.select (Scalar.cmpi .eq 4#32 0#32) 1#32 4#32)
    IntOp.subi 3#32 (Scalar.select (IntOp.andi (IntOp.xori (IntOp.cmpi .slt v 0#32) (Scalar.cmpi .slt (Scalar.select (Scalar.cmpi .eq 4#32 0#32) 1#32 4#32) 0#32)) (IntOp.cmpi .ne v 0#32))
      (IntOp.addi v (Scalar.select (Scalar.cmpi .eq 4#32 0#32) 1#32 4#32)) v)) = BitVec.ofNat 32 (3 - k.val % 4) := by
  decide +kernel

/-- The kernel's mark of an entry: one where it agrees with its column's most frequent class, else zero. -/
theorem mc_apply (p : Fin 30) (q : Fin 9000) : mcK x0 (ix2 p q) = if cells x0 p q = mode (cells x0) q then 1 else 0 := by
  have h := cnt_total hm q
  have hk : FloatOps.fptosi (F := Ideal) (φ := .f32) 32 (max (max (k0_pay12 x0 (ix2 0 q)) (k0_pay10 x0 (ix2 0 q) * k0_pay13 (F := Ideal) (ix2 0 q) + 1))
      (k0_pay11 x0 (ix2 0 q) * Ideal.ofBits FTy.f32 0x40800000#32))
      = BitVec.ofNat 32 (max (max (max (cnt (cells x0) q 0 * 4 + 3) (cnt (cells x0) q 1 * 4 + 2)) (cnt (cells x0) q 2 * 4 + 1)) (cnt (cells x0) q 3 * 4 + 0)) := by
    have e : k0_pay12 x0 (ix2 0 q) = (max (cnt (cells x0) q 0 * 4 + 3) (cnt (cells x0) q 1 * 4 + 2) : ℕ) := by
      pointwise [k0_pay12]
      rw [cnt0, cnt1, n2, n3, n4, ← max_nat]
      push_cast
      rfl
    have e13 : k0_pay13 (F := Ideal) (ix2 0 q) = Ideal.ofBits FTy.f32 0x40800000#32 := by pointwise [k0_pay13]
    rw [e, e13, cnt2, cnt3 x0 hm, n4]
    rw [show ((cnt (cells x0) q 2 : ℕ) : EReal) * ((4 : ℕ) : EReal) + 1 = ((cnt (cells x0) q 2 * 4 + 1 : ℕ) : EReal) by push_cast; rfl,
      show ((cnt (cells x0) q 3 : ℕ) : EReal) * ((4 : ℕ) : EReal) = ((cnt (cells x0) q 3 * 4 + 0 : ℕ) : EReal) by push_cast; simp,
      max_nat, max_nat]
    exact fptosi_nat (by omega)
  have hc := key_class ⟨max (max (max (cnt (cells x0) q 0 * 4 + 3) (cnt (cells x0) q 1 * 4 + 2)) (cnt (cells x0) q 2 * 4 + 1)) (cnt (cells x0) q 3 * 4 + 0), by omega⟩
  unfold mcK
  pointwise [k0_pay14]
  rw [hk]
  dsimp only at hc
  rw [hc, ← pick_key, eq_bit, bit]
  rfl

/-- The kernel's sum over a row is how often the row agrees. -/
theorem a_apply (p : Fin 30) : aK x0 (ix2 p 0) = (rowN (cells x0) p : ℕ) := by
  unfold aK
  pointwise [k0_pay15]
  have e : ∀ x, k0_pay14 (k0_pay5 x0) (k0_pay10 x0) (k0_pay11 x0) (k0_pay12 x0) (k0_pay13 (F := Ideal)) (ix2 p x) = _ := fun x => mc_apply x0 hm p x
  simp only [e, count_ind]
  rfl

/-- The kernel's sum over a column is how often the column agrees. -/
theorem d_apply (q : Fin 9000) : dK x0 (ix2 0 q) = (colN (cells x0) q : ℕ) := by
  unfold dK
  pointwise [k0_pay16, k0_pay7]
  have e : ∀ x, k0_pay14 (k0_pay5 x0) (k0_pay10 x0) (k0_pay11 x0) (k0_pay12 x0) (k0_pay13 (F := Ideal)) (ix2 x q) = _ := fun x => mc_apply x0 hm x q
  simp only [e, count_ind]
  rfl

omit hm in
/-- A column agrees at most 30 times. -/
theorem colN_le (m : Fin 30 → Fin 9000 → BitVec 32) (q : Fin 9000) : colN m q ≤ 30 := by
  have := Finset.card_le_univ (Finset.univ.filter fun p => m p q = mode m q)
  simpa [colN] using this

/-- The number of columns with at most `v` agreements. -/
def upto (m : Fin 30 → Fin 9000 → BitVec 32) (v : ℕ) : ℕ := (Finset.univ.filter fun q => colN m q ≤ v).card

/-- The column value at which the first `B` sorted columns end. -/
def edge (m : Fin 30 → Fin 9000 → BitVec 32) (B : ℕ) : ℕ := ((Finset.range 31).filter fun x => upto m x ≤ B).card

/-- The kernel's cumulative histogram: how many columns agree at most `v` times. -/
theorem ih_apply (v : Fin 31) : ihK x0 (ix2 v 0) = (upto (cells x0) v.val : ℕ) := by
  unfold ihK
  pointwise [k0_pay17]
  have e : ∀ x, k0_pay16 (k0_pay5 x0) (k0_pay7 (F := Ideal)) (k0_pay10 x0) (k0_pay11 x0) (k0_pay12 x0) (k0_pay13 (F := Ideal)) (ix2 0 x) = _ := d_apply x0 hm
  simp only [e, num_nat (show v.val < 2147483648 by omega), le_iff, bit, count_ind]
  rfl

/-- The kernel's value at the first third's border. -/
theorem v1_apply : v1K x0 = (edge (cells x0) 3000 : ℕ) := by
  unfold v1K
  pointwise [k0_pay19, k0_pay18]
  simp only [ih_apply x0 hm, n3000, le_iff, bit, Fin.sum_univ_one, Finset.univ_unique, Finset.sum_singleton, count_ind, count_range (n := 31) fun x => upto (cells x0) x ≤ 3000]
  rfl
/-- The kernel's value at the second third's border. -/
theorem v2_apply : n67K x0 = (edge (cells x0) 6000 : ℕ) := by
  unfold n67K
  pointwise [k0_pay20]
  simp only [ih_apply x0 hm, n6000, le_iff, bit, Fin.sum_univ_one, Finset.univ_unique, Finset.sum_singleton, count_ind, count_range (n := 31) fun x => upto (cells x0) x ≤ 6000]
  rfl

/-- How many columns have fewer agreements than the edge value. -/
def under (m : Fin 30 → Fin 9000 → BitVec 32) (B : ℕ) : ℕ := (Finset.univ.filter fun q => colN m q < edge m B).card

/-- The kernel's number of columns below the first border value. -/
theorem less1_apply : n54K x0 = (under (cells x0) 3000 : ℕ) := by
  unfold n54K
  have e : k0_pay19 (ihK x0) (k0_pay18 (F := Ideal)) = _ := v1_apply x0 hm
  pointwise [k0_pay21]
  rw [e]
  simp only [d_apply x0 hm, lt_iff, bit, count_ind]
  simp [under]
/-- The kernel's number of columns below the second border value. -/
theorem less2_apply : n69K x0 = (under (cells x0) 6000 : ℕ) := by
  unfold n69K
  have e : k0_pay20 (ihK x0) = _ := v2_apply x0 hm
  pointwise [k0_pay22]
  rw [e]
  simp only [d_apply x0 hm, lt_iff, bit, count_ind]
  simp [under]

/-- The kernel's mark of the columns at the first border value. -/
theorem at1_apply (q : Fin 9000) : n57K x0 (ix2 0 q) = if colN (cells x0) q = edge (cells x0) 3000 then 1 else 0 := by
  unfold n57K
  have e : k0_pay19 (ihK x0) (k0_pay18 (F := Ideal)) = _ := v1_apply x0 hm
  pointwise [k0_pay23]
  rw [e]
  simp only [d_apply x0 hm, eq_iff, bit]
/-- The kernel's mark of the columns at the second border value. -/
theorem at2_apply (q : Fin 9000) : n72K x0 (ix2 0 q) = if colN (cells x0) q = edge (cells x0) 6000 then 1 else 0 := by
  unfold n72K
  have e : k0_pay20 (ihK x0) = _ := v2_apply x0 hm
  pointwise [k0_pay24]
  rw [e]
  simp only [d_apply x0 hm, eq_iff, bit]

/-- The two rows of the prefix sum. -/
def Mark (m : Fin 30 → Fin 9000 → BitVec 32) (r : Fin 2) (q : Fin 9000) : Prop := colN m q = edge m (if r.val = 0 then 3000 else 6000)
instance (m : Fin 30 → Fin 9000 → BitVec 32) (r : Fin 2) : DecidablePred (Mark m r) := fun q => by unfold Mark; infer_instance

/-- After all its steps the kernel's running count reaches back over every column. -/
theorem scanned : Scanned (Mark (cells x0)) 16384 (k0_pay26 (n59K x0)) := by
  have h : Scanned (Mark (cells x0)) 1 (concatenate S2x9000 0 [⟨S1x9000, n57K x0⟩, ⟨S1x9000, n72K x0⟩] concatenates_S1x9000_S1x9000_S2x9000_d0) := by
    intro r q
    have hc : (Finset.univ.filter fun j : Fin 9000 => Mark (cells x0) r j ∧ j.val ≤ q.val ∧ q.val < j.val + 1) = if Mark (cells x0) r q then {q} else ∅ := by
      ext j
      have hj : (j.val ≤ q.val ∧ q.val < j.val + 1) ↔ j = q := by rw [Fin.ext_iff]; omega
      rw [Finset.mem_filter, hj]
      by_cases g : Mark (cells x0) r q
      · rw [if_pos g, Finset.mem_singleton]
        exact ⟨fun h => h.2.2, fun h => ⟨Finset.mem_univ _, h ▸ g, h⟩⟩
      · rw [if_neg g]
        exact ⟨fun h => absurd (h.2.2 ▸ h.2.1) g, fun h => absurd h (Finset.notMem_empty _)⟩
    rw [hc, apply_ite Finset.card, Finset.card_singleton, Finset.card_empty, Nat.cast_ite, Nat.cast_one, Nat.cast_zero]
    pointwise
    unfold Mark
    match r with
    | ⟨0, _⟩ => exact at1_apply x0 hm q
    | ⟨1, _⟩ => exact at2_apply x0 hm q
  refine Scanned.hop (s := 8192) ?_ rfl
  refine Scanned.hop (s := 4096) ?_ rfl
  refine Scanned.hop (s := 2048) ?_ rfl
  refine Scanned.hop (s := 1024) ?_ rfl
  refine Scanned.hop (s := 512) ?_ rfl
  refine Scanned.hop (s := 256) ?_ rfl
  refine Scanned.hop (s := 128) ?_ rfl
  refine Scanned.hop (s := 64) ?_ rfl
  refine Scanned.hop (s := 32) ?_ rfl
  refine Scanned.hop (s := 16) ?_ rfl
  refine Scanned.hop (s := 8) ?_ rfl
  refine Scanned.hop (s := 4) ?_ rfl
  refine Scanned.hop (s := 2) ?_ rfl
  exact Scanned.hop (s := 1) h rfl

end Cert.Proof.Tile

end
-- ==== Proof.KRank.lean ====
module
public import proofs.«01_k».proof.Proof.KFeat
@[expose] public section
set_option maxRecDepth 20000
noncomputable section

/-! The ranks and the features a grid point prepares. -/

namespace Cert.Proof.Tile
open Idealize.ShloMosaic Idealize.ShloMosaic.TcCoe Idealize.SL.Sem Cert.KernelIdeal Cert.KernelIdeal.Gen Cert.Proof.Spec Cert.Proof.Num

variable (x0 : Vec Ideal S1x30x9000 .i32) (hm : Classes (cells x0))
include hm

/-- How many columns at the edge value stand before column `q`. -/
def ahead (m : Fin 30 → Fin 9000 → BitVec 32) (B : ℕ) (q : Fin 9000) : ℕ := (Finset.univ.filter fun j => j < q ∧ colN m j = edge m B).card

omit hm in
/-- The inclusive count less the column's own mark. -/
theorem ahead_eq (m : Fin 30 → Fin 9000 → BitVec 32) (r : Fin 2) (q : Fin 9000) :
    (((Finset.univ.filter fun j : Fin 9000 => Mark m r j ∧ j.val ≤ q.val ∧ q.val < j.val + 16384).card : ℕ) : EReal)
      - (if colN m q = edge m (if r.val = 0 then 3000 else 6000) then 1 else 0) = (ahead m (if r.val = 0 then 3000 else 6000) q : ℕ) := by
  have h : (Finset.univ.filter fun j : Fin 9000 => Mark m r j ∧ j.val ≤ q.val ∧ q.val < j.val + 16384).card
      = ahead m (if r.val = 0 then 3000 else 6000) q + if colN m q = edge m (if r.val = 0 then 3000 else 6000) then 1 else 0 := by
    unfold ahead
    by_cases g : colN m q = edge m (if r.val = 0 then 3000 else 6000)
    · rw [if_pos g, ← Finset.card_insert_of_notMem (a := q) (by simp)]
      refine congrArg Finset.card (Finset.ext fun j => ?_)
      simp only [Finset.mem_filter, Finset.mem_univ, true_and, Finset.mem_insert]
      constructor
      · rintro ⟨a, b, c⟩
        rcases Nat.lt_or_eq_of_le b with b | b
        · exact Or.inr ⟨b, a⟩
        · exact Or.inl (Fin.ext b)
      · rintro (rfl | ⟨a, b⟩)
        · exact ⟨g, le_refl _, by omega⟩
        · have h1 : j.val < q.val := a
          exact ⟨b, by omega, by omega⟩
    · rw [if_neg g, Nat.add_zero]
      refine congrArg Finset.card (Finset.ext fun j => ?_)
      simp only [Finset.mem_filter, Finset.mem_univ, true_and]
      constructor
      · rintro ⟨a, b, c⟩
        rcases Nat.lt_or_eq_of_le b with b | b
        · exact ⟨b, a⟩
        · exact absurd ((Fin.ext b : j = q) ▸ a) g
      · rintro ⟨a, b⟩
        have h1 : j.val < q.val := a
        exact ⟨b, by omega, by omega⟩
  rw [h]
  by_cases g : colN m q = edge m (if r.val = 0 then 3000 else 6000)
  · rw [if_pos g, if_pos g, show (1 : EReal) = ((1 : ℕ) : EReal) from Nat.cast_one.symm, sub_nat (by omega), Nat.add_sub_cancel]
  · rw [if_neg g, if_neg g, Nat.add_zero, show (0 : EReal) = ((0 : ℕ) : EReal) from Nat.cast_zero.symm, sub_nat (by omega), Nat.sub_zero]

/-- How many columns at the first border value stand to the left of a column. -/
theorem pos1_apply (q : Fin 9000) : n60K x0 (ix2 0 q) = (ahead (cells x0) 3000 q : ℕ) := by
  unfold n60K
  pointwise [k0_pay27]
  rw [at1_apply x0 hm, scanned x0 hm 0 q]
  exact ahead_eq (cells x0) 0 q
/-- How many columns at the second border value stand to the left of a column. -/
theorem pos2_apply (q : Fin 9000) : n73K x0 (ix2 0 q) = (ahead (cells x0) 6000 q : ℕ) := by
  unfold n73K
  pointwise [k0_pay28]
  rw [at2_apply x0 hm, scanned x0 hm 1 q]
  exact ahead_eq (cells x0) 1 q

omit hm in
/-- The kernel's test of a column against an edge is the test of its rank. -/
theorem past (m : Fin 30 → Fin 9000 → BitVec 32) (B : ℕ) (q : Fin 9000) :
    (edge m B < colN m q ∨ (colN m q = edge m B ∧ B ≤ under m B + ahead m B q)) ↔ B ≤ rank (colN m) q :=
  threshold (colN m) 30 B (edge m B) (colN_le m) rfl q

/-- The two tests. -/
theorem ge1_apply (q : Fin 9000) : k0_pay30 (dK x0) (v1K x0) (n54K x0) (n60K x0) (n62K x0) (ix2 0 q) = BitVec.ofBool (decide (3000 ≤ rank (colN (cells x0)) q)) := by
  have e : n62K x0 (ix2 0 q) = v1K x0 := by unfold n62K; pointwise [k0_pay29]
  pointwise [k0_pay30]
  rw [e, d_apply x0 hm, v1_apply x0 hm, less1_apply x0 hm, pos1_apply x0 hm, n3000, ← Nat.cast_add]
  simp only [lt_iff, le_iff, eq_iff, ori_bit, andi_bit, past]
/-- The kernel's bit that a column lies in the last third of the sorted columns. -/
theorem ge2_apply (q : Fin 9000) : n79K x0 (ix2 0 q) = BitVec.ofBool (decide (6000 ≤ rank (colN (cells x0)) q)) := by
  unfold n79K
  pointwise [k0_pay31]
  rw [d_apply x0 hm, v2_apply x0 hm, less2_apply x0 hm, pos2_apply x0 hm, n6000, ← Nat.cast_add]
  simp only [lt_iff, le_iff, eq_iff, ori_bit, andi_bit, past]

omit hm in
/-- The three thirds, by rank. -/
theorem third (q : Fin 9000) (m : Fin 30 → Fin 9000 → BitVec 32) : (¬ 3000 ≤ rank (colN m) q ↔ rank (colN m) q / 3000 = 0)
    ∧ ((3000 ≤ rank (colN m) q ∧ ¬ 6000 ≤ rank (colN m) q) ↔ rank (colN m) q / 3000 = 1) ∧ (6000 ≤ rank (colN m) q ↔ rank (colN m) q / 3000 = 2) := by
  have := rank_lt (colN m) q
  omega

/-- The kernel's mean over the first third of the sorted columns, for each row. -/
theorem r1_apply (p : Fin 30) : r1K x0 (ix2 0 p) = Ideal.div (rowK (cells x0) 0 p : ℕ) (Ideal.ofBits .f32 0x453B8000#32) := by
  unfold r1K
  pointwise [k0_pay32]
  simp only [eq_bit, bit, sum_eye (show 30 < 4294967296 by omega), ge1_apply x0 hm, mc_apply x0 hm, not_bit, ind_mul, count_ind, (third _ (cells x0)).1]
  rfl
/-- The kernel's mean over the middle third of the sorted columns, for each row. -/
theorem r2_apply (p : Fin 30) : r2K x0 (ix2 0 p) = Ideal.div (rowK (cells x0) 1 p : ℕ) (Ideal.ofBits .f32 0x453B8000#32) := by
  have e : ∀ q, k0_pay31 (dK x0) (n67K x0) (n69K x0) (n73K x0) (ix2 0 q) = _ := ge2_apply x0 hm
  unfold r2K n74K
  pointwise [k0_pay35, k0_pay34, k0_pay33]
  simp only [eq_bit, bit, sum_eye (show 30 < 4294967296 by omega), ge1_apply x0 hm, e, mc_apply x0 hm, not_bit, andi_bit, ind_mul, count_ind, (third _ (cells x0)).2.1]
  rfl
/-- The kernel's mean over the last third of the sorted columns, for each row. -/
theorem r3_apply (p : Fin 30) : r3K x0 (ix2 0 p) = Ideal.div (rowK (cells x0) 2 p : ℕ) (Ideal.ofBits .f32 0x453B8000#32) := by
  unfold r3K
  pointwise [k0_pay36]
  simp only [eq_bit, bit, sum_eye (show 30 < 4294967296 by omega), ge2_apply x0 hm, mc_apply x0 hm, ind_mul, count_ind, (third _ (cells x0)).2.2]
  rfl
/-- How often a row agrees, laid out along the other axis. -/
theorem r0_apply (p : Fin 30) : r0K x0 (ix2 0 p) = (rowN (cells x0) p : ℕ) := by
  unfold r0K
  pointwise [k0_pay37]
  simp only [eq_bit, bit, sum_eye (show 30 < 4294967296 by omega), a_apply x0 hm]

/-- The rows' ranks, by pairwise comparison. -/
theorem rank_apply (p : Fin 30) : k0_pay38 (aK x0) (ix2 p 0) = (rank (rowN (cells x0)) p : ℕ) := by
  have e : ∀ q, k0_pay37 (aK x0) (ix2 0 q) = _ := r0_apply x0 hm
  pointwise [k0_pay38]
  have hs : ∀ x : Fin 30, IntOp.cmpi .slt (BitVec.ofNat 32 x.val) (BitVec.ofNat 32 p.val) = BitVec.ofBool (decide (x < p)) := fun x =>
    slt_bit (by omega) (by omega)
  simp only [e, a_apply x0 hm, hs, lt_iff, eq_iff, andi_bit, bit]
  have hb : ∀ x : Fin 30, ((if rowN (cells x0) x < rowN (cells x0) p then (1 : EReal) else 0) + if rowN (cells x0) x = rowN (cells x0) p ∧ x < p then 1 else 0)
      = if before (rowN (cells x0)) x p then 1 else 0 := by
    intro x
    by_cases h1 : rowN (cells x0) x < rowN (cells x0) p
    · have h2 : ¬ (rowN (cells x0) x = rowN (cells x0) p ∧ x < p) := fun h => by omega
      rw [if_pos h1, if_neg h2, if_pos (show before _ x p from Or.inl h1), add_zero]
    · by_cases h2 : rowN (cells x0) x = rowN (cells x0) p ∧ x < p
      · rw [if_neg h1, if_pos h2, if_pos (show before _ x p from Or.inr h2), zero_add]
      · rw [if_neg h1, if_neg h2, if_neg (show ¬ before _ x p from fun h => h.elim h1 h2), zero_add]
  simp only [hb, count_ind]
  rfl

/-- The kernel's mean over the `k`-th third of the sorted rows, for each column. -/
theorem dk_apply (k : Fin 3) (q : Fin 9000) : dkK x0 (ix2 k q) = Ideal.div (colK (cells x0) k.val q : ℕ) (Ideal.ofBits .f32 0x41200000#32) := by
  have hr : ∀ p : Fin 30, rank (rowN (cells x0)) p < 30 := rank_lt _
  have e39 : ∀ x : Fin 30, k0_pay39 (aK x0) (ix2 x 0) = BitVec.ofBool (decide True) := by
    intro x; pointwise [k0_pay39]; rw [rank_apply x0 hm]; simp
  have e40 : ∀ x : Fin 30, k0_pay40 (aK x0) (ix2 x 0) = BitVec.ofBool (decide (rank (rowN (cells x0)) x < 10)) := by
    intro x; pointwise [k0_pay40]; rw [rank_apply x0 hm, n10]; simp only [lt_iff]
  unfold dkK
  pointwise [k0_pay41]
  refine congrArg (fun v => Ideal.div v _) ?_
  simp only [eq_bit, bit, sum_eye (show 30 < 4294967296 by omega), e39, e40, rank_apply x0 hm, mc_apply x0 hm, n10, n20, n30, le_iff, lt_iff, andi_bit]
  unfold colK
  rw [← count_ind]
  refine Finset.sum_congr rfl fun x _ => ?_
  have hx := hr x
  match k with
  | ⟨0, _⟩ =>
    rw [dif_pos (show 0 < 1 by omega), ind_mul]
    exact if_congr (by rw [and_comm]; exact and_congr_left fun _ => by first | (rw [true_and]; dsimp only; omega) | (dsimp only; omega)) rfl rfl
  | ⟨1, _⟩ =>
    rw [dif_neg (show ¬ 1 < 1 by omega), dif_pos (show 1 - 1 < 1 by omega), ind_mul]
    exact if_congr (by rw [and_comm]; exact and_congr_left fun _ => by first | (rw [true_and]; dsimp only; omega) | (dsimp only; omega)) rfl rfl
  | ⟨2, _⟩ =>
    rw [dif_neg (show ¬ 2 < 1 by omega), dif_neg (show ¬ 2 - 1 < 1 by omega), ind_mul]
    exact if_congr (by rw [and_comm]; exact and_congr_left fun _ => by first | (rw [true_and]; dsimp only; omega) | (dsimp only; omega)) rfl rfl

end Cert.Proof.Tile

end
-- ==== Proof.KSum.lean ====
module
public import proofs.«01_k».proof.Proof.KRank
@[expose] public section
set_option maxRecDepth 20000
noncomputable section

/-! What a grid point adds to the two sums, in the problem's terms. -/

namespace Cert.Proof.Tile
open Idealize.ShloMosaic Idealize.ShloMosaic.TcCoe Idealize.SL.Sem Cert.KernelIdeal Cert.KernelIdeal.Gen Cert.Proof.Spec Cert.Proof.Num

/-- The weights as the kernel's operands hold them. -/
def kwts (x2 : Vec Ideal S10x4 .f32) (x3 : Vec Ideal S10x4 .f32) (x4 : Vec Ideal S10x1 .f32) (x5 : Vec Ideal S10x10 .f32) (x6 : Vec Ideal S10x1 .f32)
    (x7 : Vec Ideal S10x10 .f32) (x8 : Vec Ideal S10x1 .f32) (x9 : Vec Ideal S1x10 .f32) (x10 : Vec Ideal S1x1 .f32) (x11 : Vec Ideal S15x30 .f32)
    (x12 : Vec Ideal S15x1 .f32) (x13 : Vec Ideal S15x15 .f32) (x14 : Vec Ideal S15x1 .f32) (x15 : Vec Ideal S15x15 .f32) (x16 : Vec Ideal S15x1 .f32)
    (x17 : Vec Ideal S1x15 .f32) (x18 : Vec Ideal S1x1 .f32) : Wts where
  a0 := fn x2
  d0 := fn x3
  b0 := fc x4
  w1 := fn x5
  b1 := fc x6
  w2 := fn x7
  b2 := fc x8
  w3 := fn x9
  b3 := fc x10
  r0 := fn x11
  c0 := fc x12
  r1 := fn x13
  c1 := fc x14
  r2 := fn x15
  c2 := fc x16
  r3 := fn x17
  c3 := fc x18

/-- A sum over all columns, tile by tile. -/
theorem tiles {α : Type} [AddCommMonoid α] (f : Fin 9000 → α) :
    (∑ r, f (glob geo0 r)) + (∑ r, f (glob geo1 r)) + (∑ r, f (glob geo2 r)) + (∑ r, f (glob geo3 r)) = ∑ q, f q := by
  have e : ∀ (a b : ℕ) (h : Fin (a + b) → α), ∑ i, h i = (∑ i : Fin a, h (Fin.castAdd b i)) + ∑ i : Fin b, h (Fin.natAdd a i) :=
    fun a b h => Fin.sum_univ_add h
  have h3 : ∑ q, f q = ∑ q : Fin (2304 + (2304 + (2304 + 2088))), f q := rfl
  rw [h3, e, e, e, ← add_assoc, ← add_assoc]
  have c : ∀ {W o : ℕ} (g : Geo W o) (r : Fin W) (q : Fin 9000) (_ : q.val = o + r.val), f (glob g r) = f q := fun g r q h => congrArg f (Fin.ext h.symm)
  refine congrArg₂ _ (congrArg₂ _ (congrArg₂ _ ?_ ?_) ?_) ?_
  · exact Finset.sum_congr rfl fun r _ => c geo0 r _ (by simp)
  · exact Finset.sum_congr rfl fun r _ => c geo1 r _ (by simp)
  · exact Finset.sum_congr rfl fun r _ => c geo2 r _ (by simp; omega)
  · exact Finset.sum_congr rfl fun r _ => c geo3 r _ (by simp; omega)

variable (x0 : Vec Ideal S1x30x9000 .i32) (x1 : Vec Ideal S1x1x9000 .i32) (x2 : Vec Ideal S10x4 .f32) (x3 : Vec Ideal S10x4 .f32) (x4 : Vec Ideal S10x1 .f32) (x5 : Vec Ideal S10x10 .f32) (x6 : Vec Ideal S10x1 .f32)
    (x7 : Vec Ideal S10x10 .f32) (x8 : Vec Ideal S10x1 .f32) (x9 : Vec Ideal S1x10 .f32) (x10 : Vec Ideal S1x1 .f32) (x11 : Vec Ideal S15x30 .f32)
    (x12 : Vec Ideal S15x1 .f32) (x13 : Vec Ideal S15x15 .f32) (x14 : Vec Ideal S15x1 .f32) (x15 : Vec Ideal S15x15 .f32) (x16 : Vec Ideal S15x1 .f32)
    (x17 : Vec Ideal S1x15 .f32) (x18 : Vec Ideal S1x1 .f32) (hm : Classes (cells x0))
include hm

/-- The first layer's share of a row. -/
theorem apt_apply (i : Fin 10) (p : Fin 30) : aptK x0 x2 (ix2 i p) = ∑ k, fn x2 i k * fa (cells x0) p k := by
  have e0 := r0_apply x0 hm
  have e1 := r1_apply x0 hm
  have e2 := r2_apply x0 hm
  have e3 := r3_apply x0 hm
  unfold aptK
  generalize r0K x0 = z0 at e0 ⊢
  generalize r1K x0 = z1 at e1 ⊢
  generalize r2K x0 = z2 at e2 ⊢
  generalize r3K x0 = z3 at e3 ⊢
  pointwise [k0_pay43]
  simp only [fn, fa]
  refine Finset.sum_congr rfl fun k _ => congrArg _ ?_
  fin_cases k
  · exact congrArg (fun v => Ideal.div v _) (e0 p)
  · exact e1 p
  · exact e2 p
  · exact e3 p

/-- The first layer's share of a column. -/
theorem dq_apply (i : Fin 10) (q : Fin 9000) : dqK x0 x3 x4 (ix2 i q) = (∑ k, fn x3 i k * fd (cells x0) q k) + fc x4 i := by
  have e0 := d_apply x0 hm
  have e1 := dk_apply x0 hm
  unfold dqK dcK
  generalize dK x0 = z0 at e0 ⊢
  generalize dkK x0 = z1 at e1 ⊢
  pointwise [k0_pay44, k0_pay42]
  simp only [fn, fd, fc]
  refine congrArg₂ _ ?_ rfl
  rw [Fin.sum_univ_three, Fin.sum_univ_four, ← add_assoc, ← add_assoc, e0 q, e1 0 q, e1 1 q, e1 2 q]
  simp only [Finset.univ_unique, Finset.sum_singleton]
  rfl

/-- A grid point's addition to the first sum. -/
theorem addCor_apply (z : Vec Ideal S1x1 .f32) :
    addCor x0 x1 x2 x3 x4 x5 x6 x7 x8 x9 x10 z (ix2 0 0) = z (ix2 0 0)
      + loss1 (kwts x2 x3 x4 x5 x6 x7 x8 x9 x10 x11 x12 x13 x14 x15 x16 x17 x18) (cells x0) fun q => gK x1 (ix2 0 q) := by
  have o : ∀ {W o : ℕ} (g : Geo W o) (p : Fin 30) (r : Fin W),
      outs g (flat g (aptK x0 x2) (dqK x0 x3 x4) x5 x6 x7 x8 x9 x10) (ix2 p r)
        = agree (kwts x2 x3 x4 x5 x6 x7 x8 x9 x10 x11 x12 x13 x14 x15 x16 x17 x18) (cells x0) p (glob g r) := fun g p r => by
    rw [outs_apply g (kwts x2 x3 x4 x5 x6 x7 x8 x9 x10 x11 x12 x13 x14 x15 x16 x17 x18) _ _ x5 x6 x7 x8 x9 x10 rfl rfl rfl rfl rfl rfl]
    simp only [apt_apply x0 x2 hm, dq_apply x0 x3 x4 hm]
    rfl
  have t : ∀ {W o : ℕ} (g : Geo W o), cor g (mK x0) (gK x1) (outs g (flat g (aptK x0 x2) (dqK x0 x3 x4) x5 x6 x7 x8 x9 x10)) (ix2 0 0)
      = ∑ r, ∑ p, part1 (cells x0 p (glob g r)) (gK x1 (ix2 0 (glob g r)))
        (agree (kwts x2 x3 x4 x5 x6 x7 x8 x9 x10 x11 x12 x13 x14 x15 x16 x17 x18) (cells x0) p (glob g r)) := fun g => by
    rw [cor_apply, Finset.sum_comm]
    simp only [o]
    rfl
  have l : ∀ w, (loss1 w (cells x0) fun q => gK x1 (ix2 0 q)) = ∑ q, ∑ p, part1 (cells x0 p q) (gK x1 (ix2 0 q)) (agree w (cells x0) p q) :=
    fun w => Finset.sum_comm
  have z0 : (k0_pay45 : FVec Ideal S1x1 .f32) (ix2 0 0) = 0 := by pointwise [k0_pay45]
  have a : addCor x0 x1 x2 x3 x4 x5 x6 x7 x8 x9 x10 z
      = addf (shapeCast S1x1 z shapeCasts_S1x1_S1x1) (corAll (mK x0) (gK x1) (aptK x0 x2) (dqK x0 x3 x4) x5 x6 x7 x8 x9 x10) := rfl
  rw [a, addf_apply, shapeCast_id, corAll, addf_apply, addf_apply, addf_apply, addf_apply, z0, t, t, t, t, l, ← tiles]
  change z (ix2 0 0) + ((((0 + _) + _) + _) + _) = _
  rw [zero_add]

/-- A grid point's addition to the second sum. -/
theorem addRef_apply (z : Vec Ideal S1x1 .f32) :
    addRef x0 x1 x2 x3 x4 x5 x6 x7 x8 x9 x10 x11 x12 x13 x14 x15 x16 x17 x18 z (ix2 0 0) = z (ix2 0 0)
      + loss2 (kwts x2 x3 x4 x5 x6 x7 x8 x9 x10 x11 x12 x13 x14 x15 x16 x17 x18) (cells x0) fun q => gK x1 (ix2 0 q) := by
  have o : ∀ {W o : ℕ} (g : Geo W o) (p : Fin 30) (r : Fin W),
      outs g (flat g (aptK x0 x2) (dqK x0 x3 x4) x5 x6 x7 x8 x9 x10) (ix2 p r)
        = agree (kwts x2 x3 x4 x5 x6 x7 x8 x9 x10 x11 x12 x13 x14 x15 x16 x17 x18) (cells x0) p (glob g r) := fun g p r => by
    rw [outs_apply g (kwts x2 x3 x4 x5 x6 x7 x8 x9 x10 x11 x12 x13 x14 x15 x16 x17 x18) _ _ x5 x6 x7 x8 x9 x10 rfl rfl rfl rfl rfl rfl]
    simp only [apt_apply x0 x2 hm, dq_apply x0 x3 x4 hm]
    rfl
  have t : ∀ {W o : ℕ} (g : Geo W o), ref g (gK x1) (marks g (mK x0) (outs g (flat g (aptK x0 x2) (dqK x0 x3 x4) x5 x6 x7 x8 x9 x10)) x11 x12 x13 x14 x15 x16 x17 x18) (ix2 0 0)
      = ∑ r, part2 (gK x1 (ix2 0 (glob g r))) fun s => net2 (kwts x2 x3 x4 x5 x6 x7 x8 x9 x10 x11 x12 x13 x14 x15 x16 x17 x18)
        fun p => share (cells x0 p (glob g r)) (BitVec.ofNat 32 s.val)
          (agree (kwts x2 x3 x4 x5 x6 x7 x8 x9 x10 x11 x12 x13 x14 x15 x16 x17 x18) (cells x0) p (glob g r)) := fun g => by
    rw [ref_apply]
    refine Finset.sum_congr rfl fun r _ => congrArg _ (funext fun s => ?_)
    rw [marks_apply g (kwts x2 x3 x4 x5 x6 x7 x8 x9 x10 x11 x12 x13 x14 x15 x16 x17 x18) _ _ x11 x12 x13 x14 x15 x16 x17 x18 rfl rfl rfl rfl rfl rfl rfl rfl]
    simp only [o]
    rfl
  have z0 : (k0_pay46 : FVec Ideal S1x1 .f32) (ix2 0 0) = 0 := by pointwise [k0_pay46]
  rw [addRef, addf_apply, shapeCast_id, refAll, addf_apply, addf_apply, addf_apply, addf_apply, z0, t, t, t, t, loss2, ← tiles]
  change z (ix2 0 0) + ((((0 + _) + _) + _) + _) = _
  rw [zero_add]

end Cert.Proof.Tile

end
-- ==== Proof.KVal.lean ====
module
public import proofs.«01_k».proof.Proof.KPrep
public import proofs.«01_k».proof.Proof.Gen.KernelIdeal.Frame
public import Idealize.ShloMosaic.Lib.Pipeline.Value
@[expose] public section
set_option maxRecDepth 20000
set_option maxHeartbeats 2000000
noncomputable section

/-! What the kernel's run leaves in its two results: the fold, over the eight grid points, of the two sums of `KTile`'s four tiles. -/

namespace Cert.Proof.Tile
open Idealize.ShloMosaic Idealize.ShloMosaic.TcCoe Idealize.SL.Sem Cert.KernelIdeal Cert.KernelIdeal.Gen
open Idealize.ShloMosaic.Pipeline (Dat)

variable {F : FTy → Type} [FloatOps F]

/-- The zero offsets of a matrix. -/
theorem hz2 : (![0, 0] : Fin 2 → Nat) = fun _ => 0 := funext fun a => by fin_cases a <;> rfl
/-- The zero offsets of a cube. -/
theorem hz3 : (![0, 0, 0] : Fin 3 → Nat) = fun _ => 0 := funext fun a => by fin_cases a <;> rfl

section points
variable (c : Dev nD) (i : grid0.Coords) (arg1 : Memref sig .tc .vmem S1x30x9000 .i32) (harg1 : arg1.IsWhole) (arg2 : Memref sig .tc .vmem S1x1x9000 .i32) (harg2 : arg2.IsWhole) (arg3 : Memref sig .tc .vmem S10x4 .f32) (harg3 : arg3.IsWhole) (arg4 : Memref sig .tc .vmem S10x4 .f32) (harg4 : arg4.IsWhole) (arg5 : Memref sig .tc .vmem S10x1 .f32) (harg5 : arg5.IsWhole) (arg6 : Memref sig .tc .vmem S10x10 .f32) (harg6 : arg6.IsWhole) (arg7 : Memref sig .tc .vmem S10x1 .f32) (harg7 : arg7.IsWhole) (arg8 : Memref sig .tc .vmem S10x10 .f32) (harg8 : arg8.IsWhole) (arg9 : Memref sig .tc .vmem S10x1 .f32) (harg9 : arg9.IsWhole) (arg10 : Memref sig .tc .vmem S1x10 .f32) (harg10 : arg10.IsWhole) (arg11 : Memref sig .tc .vmem S1x1 .f32) (harg11 : arg11.IsWhole) (arg12 : Memref sig .tc .vmem S15x30 .f32) (harg12 : arg12.IsWhole) (arg13 : Memref sig .tc .vmem S15x1 .f32) (harg13 : arg13.IsWhole) (arg14 : Memref sig .tc .vmem S15x15 .f32) (harg14 : arg14.IsWhole) (arg15 : Memref sig .tc .vmem S15x1 .f32) (harg15 : arg15.IsWhole) (arg16 : Memref sig .tc .vmem S15x15 .f32) (harg16 : arg16.IsWhole) (arg17 : Memref sig .tc .vmem S15x1 .f32) (harg17 : arg17.IsWhole) (arg18 : Memref sig .tc .vmem S1x15 .f32) (harg18 : arg18.IsWhole) (arg19 : Memref sig .tc .vmem S1x1 .f32) (harg19 : arg19.IsWhole) (arg20 : Memref sig .tc .vmem S1x1 .f32) (harg20 : arg20.IsWhole) (arg21 : Memref sig .tc .vmem S1x1 .f32) (harg21 : arg21.IsWhole)

/-- What case A leaves in the staging buffer of result 0. -/
theorem left_A_19 (hc0 : cond0_0 i) (hc1 : ¬cond0_1 i)
    (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 = addCor x0 x1 x2 x3 x4 x5 x6 x7 x8 x9 x10 k0_pay3 := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18)]
  unfold kernelRun0_A
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S10x1) hz2, View.ld_unit_zero (S := S10x10) hz2, View.ld_unit_zero (S := S10x4) hz2, View.ld_unit_zero (S := S15x1) hz2, View.ld_unit_zero (S := S15x15) hz2, View.ld_unit_zero (S := S15x30) hz2, View.ld_unit_zero (S := S1x1) hz2, View.ld_unit_zero (S := S1x10) hz2, View.ld_unit_zero (S := S1x15) hz2, View.ld_unit_zero (S := S1x1x9000) hz3, View.ld_unit_zero (S := S1x30x9000) hz3]
  rw [addCor, corAll]
  simp only [k0_pay81, k0_pay82, k0_pay83, k0_pay84, k0_pay85, k0_pay86, k0_pay87, k0_pay88, k0_pay89, k0_pay90, k0_pay91, k0_pay92, k0_pay93, k0_pay94, k0_pay138, k0_pay139, k0_pay140, k0_pay141, k0_pay142, k0_pay143, k0_pay144, k0_pay145, k0_pay146, k0_pay147, k0_pay190, k0_pay191, k0_pay192, k0_pay193, k0_pay194, k0_pay195, k0_pay237, k0_pay238, flat0, flat1, flat2, flat3, cor0, cor1, cor2, cor3]
  rfl

/-- What case B leaves in the staging buffer of result 0. -/
theorem left_B_19 (hc0 : ¬cond0_0 i) (hc1 : ¬cond0_1 i)
    (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) (xo19 : Vec F S1x1 .f32) (xo20 : Vec F S1x1 .f32) :
    out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20 = addCor x0 x1 x2 x3 x4 x5 x6 x7 x8 x9 x10 xo19 := by
  unfold out0_B_19
  rw [View.read_writes_eq_canon _ _ _ (cover0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S10x1) hz2, View.ld_unit_zero (S := S10x10) hz2, View.ld_unit_zero (S := S10x4) hz2, View.ld_unit_zero (S := S15x1) hz2, View.ld_unit_zero (S := S15x15) hz2, View.ld_unit_zero (S := S15x30) hz2, View.ld_unit_zero (S := S1x1) hz2, View.ld_unit_zero (S := S1x10) hz2, View.ld_unit_zero (S := S1x15) hz2, View.ld_unit_zero (S := S1x1x9000) hz3, View.ld_unit_zero (S := S1x30x9000) hz3]
  rw [addCor, corAll]
  simp only [k0_pay81, k0_pay82, k0_pay83, k0_pay84, k0_pay85, k0_pay86, k0_pay87, k0_pay88, k0_pay89, k0_pay90, k0_pay91, k0_pay92, k0_pay93, k0_pay94, k0_pay138, k0_pay139, k0_pay140, k0_pay141, k0_pay142, k0_pay143, k0_pay144, k0_pay145, k0_pay146, k0_pay147, k0_pay190, k0_pay191, k0_pay192, k0_pay193, k0_pay194, k0_pay195, k0_pay237, k0_pay238, flat0, flat1, flat2, flat3, cor0, cor1, cor2, cor3]
  rfl

/-- What case C leaves in the staging buffer of result 0. -/
theorem left_C_19 (hc0 : ¬cond0_0 i) (hc1 : cond0_1 i)
    (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) (xo19 : Vec F S1x1 .f32) (xo20 : Vec F S1x1 .f32) :
    out0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20 = k0_pay1 (addCor x0 x1 x2 x3 x4 x5 x6 x7 x8 x9 x10 xo19) := by
  unfold out0_C_19
  rw [View.read_writes_eq_canon _ _ _ (cover0_C_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20)]
  unfold kernelRun0_C
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S10x1) hz2, View.ld_unit_zero (S := S10x10) hz2, View.ld_unit_zero (S := S10x4) hz2, View.ld_unit_zero (S := S15x1) hz2, View.ld_unit_zero (S := S15x15) hz2, View.ld_unit_zero (S := S15x30) hz2, View.ld_unit_zero (S := S1x1) hz2, View.ld_unit_zero (S := S1x10) hz2, View.ld_unit_zero (S := S1x15) hz2, View.ld_unit_zero (S := S1x1x9000) hz3, View.ld_unit_zero (S := S1x30x9000) hz3]
  rw [addCor, corAll]
  simp only [k0_pay81, k0_pay82, k0_pay83, k0_pay84, k0_pay85, k0_pay86, k0_pay87, k0_pay88, k0_pay89, k0_pay90, k0_pay91, k0_pay92, k0_pay93, k0_pay94, k0_pay138, k0_pay139, k0_pay140, k0_pay141, k0_pay142, k0_pay143, k0_pay144, k0_pay145, k0_pay146, k0_pay147, k0_pay190, k0_pay191, k0_pay192, k0_pay193, k0_pay194, k0_pay195, k0_pay237, k0_pay238, flat0, flat1, flat2, flat3, cor0, cor1, cor2, cor3]
  rfl

/-- What case A leaves in the staging buffer of result 1. -/
theorem left_A_20 (hc0 : cond0_0 i) (hc1 : ¬cond0_1 i)
    (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) :
    out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 = addRef x0 x1 x2 x3 x4 x5 x6 x7 x8 x9 x10 x11 x12 x13 x14 x15 x16 x17 x18 k0_pay4 := by
  unfold out0_A_20
  rw [View.read_writes_eq_canon _ _ _ (cover0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18)]
  unfold kernelRun0_A
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S10x1) hz2, View.ld_unit_zero (S := S10x10) hz2, View.ld_unit_zero (S := S10x4) hz2, View.ld_unit_zero (S := S15x1) hz2, View.ld_unit_zero (S := S15x15) hz2, View.ld_unit_zero (S := S15x30) hz2, View.ld_unit_zero (S := S1x1) hz2, View.ld_unit_zero (S := S1x10) hz2, View.ld_unit_zero (S := S1x15) hz2, View.ld_unit_zero (S := S1x1x9000) hz3, View.ld_unit_zero (S := S1x30x9000) hz3]
  rw [addRef, refAll]
  simp only [k0_pay81, k0_pay82, k0_pay83, k0_pay84, k0_pay85, k0_pay86, k0_pay87, k0_pay88, k0_pay89, k0_pay90, k0_pay91, k0_pay92, k0_pay93, k0_pay94, k0_pay138, k0_pay139, k0_pay140, k0_pay141, k0_pay142, k0_pay143, k0_pay144, k0_pay145, k0_pay146, k0_pay147, k0_pay190, k0_pay191, k0_pay192, k0_pay193, k0_pay194, k0_pay195, k0_pay237, k0_pay238, flat0, flat1, flat2, flat3, ref0, ref1, ref2, ref3]
  rfl

/-- What case B leaves in the staging buffer of result 1. -/
theorem left_B_20 (hc0 : ¬cond0_0 i) (hc1 : ¬cond0_1 i)
    (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) (xo19 : Vec F S1x1 .f32) (xo20 : Vec F S1x1 .f32) :
    out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20 = addRef x0 x1 x2 x3 x4 x5 x6 x7 x8 x9 x10 x11 x12 x13 x14 x15 x16 x17 x18 xo20 := by
  unfold out0_B_20
  rw [View.read_writes_eq_canon _ _ _ (cover0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20)]
  unfold kernelRun0_B
  dsimp only
  try sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S10x1) hz2, View.ld_unit_zero (S := S10x10) hz2, View.ld_unit_zero (S := S10x4) hz2, View.ld_unit_zero (S := S15x1) hz2, View.ld_unit_zero (S := S15x15) hz2, View.ld_unit_zero (S := S15x30) hz2, View.ld_unit_zero (S := S1x1) hz2, View.ld_unit_zero (S := S1x10) hz2, View.ld_unit_zero (S := S1x15) hz2, View.ld_unit_zero (S := S1x1x9000) hz3, View.ld_unit_zero (S := S1x30x9000) hz3]
  rw [addRef, refAll]
  simp only [k0_pay81, k0_pay82, k0_pay83, k0_pay84, k0_pay85, k0_pay86, k0_pay87, k0_pay88, k0_pay89, k0_pay90, k0_pay91, k0_pay92, k0_pay93, k0_pay94, k0_pay138, k0_pay139, k0_pay140, k0_pay141, k0_pay142, k0_pay143, k0_pay144, k0_pay145, k0_pay146, k0_pay147, k0_pay190, k0_pay191, k0_pay192, k0_pay193, k0_pay194, k0_pay195, k0_pay237, k0_pay238, flat0, flat1, flat2, flat3, ref0, ref1, ref2, ref3]
  rfl

/-- What case C leaves in the staging buffer of result 1. -/
theorem left_C_20 (hc0 : ¬cond0_0 i) (hc1 : cond0_1 i)
    (x0 : Vec F S1x30x9000 .i32) (x1 : Vec F S1x1x9000 .i32) (x2 : Vec F S10x4 .f32) (x3 : Vec F S10x4 .f32) (x4 : Vec F S10x1 .f32) (x5 : Vec F S10x10 .f32) (x6 : Vec F S10x1 .f32) (x7 : Vec F S10x10 .f32) (x8 : Vec F S10x1 .f32) (x9 : Vec F S1x10 .f32) (x10 : Vec F S1x1 .f32) (x11 : Vec F S15x30 .f32) (x12 : Vec F S15x1 .f32) (x13 : Vec F S15x15 .f32) (x14 : Vec F S15x1 .f32) (x15 : Vec F S15x15 .f32) (x16 : Vec F S15x1 .f32) (x17 : Vec F S1x15 .f32) (x18 : Vec F S1x1 .f32) (xo19 : Vec F S1x1 .f32) (xo20 : Vec F S1x1 .f32) :
    out0_C_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20 = k0_pay2 (addRef x0 x1 x2 x3 x4 x5 x6 x7 x8 x9 x10 x11 x12 x13 x14 x15 x16 x17 x18 xo20) := by
  unfold out0_C_20
  rw [View.read_writes_eq_canon _ _ _ (cover0_C_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 x15 x16 x17 x18 xo19 xo20)]
  unfold kernelRun0_C
  dsimp only
  try sl_unfold_words
  rw [View.canon_cons_unit_zero (S := S1x1) hz2, View.readCov_unit_zero (S := S1x1) _ hz2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S10x1) hz2, View.ld_unit_zero (S := S10x10) hz2, View.ld_unit_zero (S := S10x4) hz2, View.ld_unit_zero (S := S15x1) hz2, View.ld_unit_zero (S := S15x15) hz2, View.ld_unit_zero (S := S15x30) hz2, View.ld_unit_zero (S := S1x1) hz2, View.ld_unit_zero (S := S1x10) hz2, View.ld_unit_zero (S := S1x15) hz2, View.ld_unit_zero (S := S1x1x9000) hz3, View.ld_unit_zero (S := S1x30x9000) hz3]
  rw [addRef, refAll]
  simp only [k0_pay81, k0_pay82, k0_pay83, k0_pay84, k0_pay85, k0_pay86, k0_pay87, k0_pay88, k0_pay89, k0_pay90, k0_pay91, k0_pay92, k0_pay93, k0_pay94, k0_pay138, k0_pay139, k0_pay140, k0_pay141, k0_pay142, k0_pay143, k0_pay144, k0_pay145, k0_pay146, k0_pay147, k0_pay190, k0_pay191, k0_pay192, k0_pay193, k0_pay194, k0_pay195, k0_pay237, k0_pay238, flat0, flat1, flat2, flat3, ref0, ref1, ref2, ref3]
  rfl

end points

/-- The last grid point. -/
def lastPoint : Fin cfg0.N := ⟨7, lt_of_lt_of_eq (by decide) (show cfg0.N = 8 from N_0).symm⟩

section fold
variable (m : (ℓ : Loc nD τ sig) → Buf (Elt F) ℓ) (ρ : Dev nD → PrngReg)

/-- What grid point `n` adds to result 0's running sum. -/
def moreCor (c : Dev nD) (n : ℕ) (h : n < cfg0.N) (acc : Vec F S1x1 .f32) : Vec F S1x1 .f32 :=
  addCor (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) acc

/-- The same, and at the last point the division and the sign. -/
def stepCor (c : Dev nD) (n : ℕ) (h : n < cfg0.N) (acc : Vec F S1x1 .f32) : Vec F S1x1 .f32 :=
  if n % 8 = 7 then k0_pay1 (moreCor m c n h acc) else moreCor m c n h acc

/-- Result 0's buffer after any point is the fold up to it. -/
theorem heldCor (c : Dev nD) (t : Fin cfg0.N) :
    (outsAt0 m c t.val t.isLt).1 = Pipeline.accAt (fun n h => moreCor m c n h k0_pay3) (stepCor m c) (8 * (t.val / 8)) (t.val % 8)
      (by have h1 := t.isLt; have h2 := Nat.div_add_mod t.val 8; omega) :=
  Pipeline.eq_accAt_of_mod (fun n h => (outsAt0 m c n h).1) 8 (fun n h => moreCor m c n h k0_pay3) (stepCor m c)
    (fun n h hn => by
      have hN := lt_of_lt_of_eq h (show cfg0.N = 8 from N_0)
      rw [outsAt0_A m c ⟨n, h⟩ (by (try dsimp only); omega) (by (try dsimp only); omega)]; dsimp only; exact left_A_19 ..)
    (fun n h hn => by
      have hN := lt_of_lt_of_eq h (show cfg0.N = 8 from N_0)
      by_cases g0 : (n + 1) % 8 = 0
      · exact absurd g0 hn
      by_cases g1 : (n + 1) % 8 = 7
      · rw [outsAt0_C m c ⟨n + 1, h⟩ g0 g1]; dsimp only; unfold stepCor; rw [if_pos g1]; exact left_C_19 ..
      · rw [outsAt0_B m c ⟨n + 1, h⟩ g0 g1]; dsimp only; unfold stepCor; rw [if_neg g1]; exact left_B_19 ..)
    (by decide) t.val t.isLt _

/-- Result 0 after the run: the fold over all eight points. -/
def wholeCor (c : Dev nD) : Vec F S1x1 .f32 :=
  Pipeline.accAt (fun n h => moreCor m c n h k0_pay3) (stepCor m c) 0 7 (by rw [show cfg0.N = 8 from N_0]; decide)

/-- Every point's block of result 0 is the whole of it. -/
theorem blockCor : ∀ t : Fin cfg0.N, (cfg0.win 19).flush t = true → t.val = 7 ∧ win0_19.index t (0 : Fin 2) = 0 ∧ win0_19.index t (1 : Fin 2) = 0 :=
  (by decide +kernel : ∀ t : Fin grid0.N, win0_19.flush t = true → t.val = 7 ∧ win0_19.index t (0 : Fin 2) = 0 ∧ win0_19.index t (1 : Fin 2) = 0)

/-- The last point writes the first result's block back. -/
theorem lastCor : (cfg0.win 19).flush lastPoint = true :=
  (by decide +kernel : win0_19.flush lastPoint = true)

/-- After the run the first result holds the whole fold. -/
theorem arrayCor (c : Dev nD) : (dats m 0 c).arrAt 19 cfg0.N = (fun i => wholeCor m c i : Buf (Elt F) ((c : Thread nD τ).loc main_v11_0)) := by
  refine (dats m 0 c).arrAt_eq_of_cover 19 _ (fun t hf => ?_) (fun i => ?_)
  · show (cfg0.win 19).cut (grid0.coords t) ((dats m 0 c).after 19 t) = _
    rw [after0_19, heldCor]
    obtain ⟨h7, -, -⟩ := blockCor t hf
    have ht : t = lastPoint := Fin.ext h7
    subst ht
    funext y
    have hy : ∀ u v : S1x1.Idx, u = v := fun u v => funext fun a => Fin.ext (by
      match a with
      | ⟨0, _⟩ => have h1 : (u 0).val < 1 := (u 0).isLt; have h2 : (v 0).val < 1 := (v 0).isLt; show (u 0).val = (v 0).val; omega
      | ⟨1, _⟩ => have h1 : (u 1).val < 1 := (u 1).isLt; have h2 : (v 1).val < 1 := (v 1).isLt; show (u 1).val = (v 1).val; omega)
    exact congrArg (wholeCor m c) (hy _ _)
  · refine ⟨lastPoint, lastCor, ?_⟩
    show i ∈ ((View.whole main_v11_0).slice (win0_19.rect lastPoint)).set
    rw [View.set_slice_whole, Rect.mem_set_unit]
    obtain ⟨-, e0, e1⟩ := blockCor _ (lastCor)
    intro a
    match a with
    | ⟨0, _⟩ => have h1 : (i 0).val < 1 := (i 0).isLt; show win0_19.index _ (0 : Fin 2) * 1 ≤ (i 0).val ∧ (i 0).val < win0_19.index _ (0 : Fin 2) * 1 + 1; rw [e0]; omega
    | ⟨1, _⟩ => have h1 : (i 1).val < 1 := (i 1).isLt; show win0_19.index _ (1 : Fin 2) * 1 ≤ (i 1).val ∧ (i 1).val < win0_19.index _ (1 : Fin 2) * 1 + 1; rw [e1]; omega

/-- What grid point `n` adds to result 1's running sum. -/
def moreRef (c : Dev nD) (n : ℕ) (h : n < cfg0.N) (acc : Vec F S1x1 .f32) : Vec F S1x1 .f32 :=
  addRef (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) (iblk m c 7 ⟨n, h⟩) (iblk m c 8 ⟨n, h⟩) (iblk m c 9 ⟨n, h⟩) (iblk m c 10 ⟨n, h⟩) (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) (iblk m c 18 ⟨n, h⟩) acc

/-- The same, and at the last point the division and the sign. -/
def stepRef (c : Dev nD) (n : ℕ) (h : n < cfg0.N) (acc : Vec F S1x1 .f32) : Vec F S1x1 .f32 :=
  if n % 8 = 7 then k0_pay2 (moreRef m c n h acc) else moreRef m c n h acc

/-- Result 1's buffer after any point is the fold up to it. -/
theorem heldRef (c : Dev nD) (t : Fin cfg0.N) :
    (outsAt0 m c t.val t.isLt).2 = Pipeline.accAt (fun n h => moreRef m c n h k0_pay4) (stepRef m c) (8 * (t.val / 8)) (t.val % 8)
      (by have h1 := t.isLt; have h2 := Nat.div_add_mod t.val 8; omega) :=
  Pipeline.eq_accAt_of_mod (fun n h => (outsAt0 m c n h).2) 8 (fun n h => moreRef m c n h k0_pay4) (stepRef m c)
    (fun n h hn => by
      have hN := lt_of_lt_of_eq h (show cfg0.N = 8 from N_0)
      rw [outsAt0_A m c ⟨n, h⟩ (by (try dsimp only); omega) (by (try dsimp only); omega)]; dsimp only; exact left_A_20 ..)
    (fun n h hn => by
      have hN := lt_of_lt_of_eq h (show cfg0.N = 8 from N_0)
      by_cases g0 : (n + 1) % 8 = 0
      · exact absurd g0 hn
      by_cases g1 : (n + 1) % 8 = 7
      · rw [outsAt0_C m c ⟨n + 1, h⟩ g0 g1]; dsimp only; unfold stepRef; rw [if_pos g1]; exact left_C_20 ..
      · rw [outsAt0_B m c ⟨n + 1, h⟩ g0 g1]; dsimp only; unfold stepRef; rw [if_neg g1]; exact left_B_20 ..)
    (by decide) t.val t.isLt _

/-- Result 1 after the run: the fold over all eight points. -/
def wholeRef (c : Dev nD) : Vec F S1x1 .f32 :=
  Pipeline.accAt (fun n h => moreRef m c n h k0_pay4) (stepRef m c) 0 7 (by rw [show cfg0.N = 8 from N_0]; decide)

/-- Every point's block of result 1 is the whole of it. -/
theorem blockRef : ∀ t : Fin cfg0.N, (cfg0.win 20).flush t = true → t.val = 7 ∧ win0_20.index t (0 : Fin 2) = 0 ∧ win0_20.index t (1 : Fin 2) = 0 :=
  (by decide +kernel : ∀ t : Fin grid0.N, win0_20.flush t = true → t.val = 7 ∧ win0_20.index t (0 : Fin 2) = 0 ∧ win0_20.index t (1 : Fin 2) = 0)

/-- The last point writes the second result's block back. -/
theorem lastRef : (cfg0.win 20).flush lastPoint = true :=
  (by decide +kernel : win0_20.flush lastPoint = true)

/-- After the run the second result holds the whole fold. -/
theorem arrayRef (c : Dev nD) : (dats m 0 c).arrAt 20 cfg0.N = (fun i => wholeRef m c i : Buf (Elt F) ((c : Thread nD τ).loc main_v11_1)) := by
  refine (dats m 0 c).arrAt_eq_of_cover 20 _ (fun t hf => ?_) (fun i => ?_)
  · show (cfg0.win 20).cut (grid0.coords t) ((dats m 0 c).after 20 t) = _
    rw [after0_20, heldRef]
    obtain ⟨h7, -, -⟩ := blockRef t hf
    have ht : t = lastPoint := Fin.ext h7
    subst ht
    funext y
    have hy : ∀ u v : S1x1.Idx, u = v := fun u v => funext fun a => Fin.ext (by
      match a with
      | ⟨0, _⟩ => have h1 : (u 0).val < 1 := (u 0).isLt; have h2 : (v 0).val < 1 := (v 0).isLt; show (u 0).val = (v 0).val; omega
      | ⟨1, _⟩ => have h1 : (u 1).val < 1 := (u 1).isLt; have h2 : (v 1).val < 1 := (v 1).isLt; show (u 1).val = (v 1).val; omega)
    exact congrArg (wholeRef m c) (hy _ _)
  · refine ⟨lastPoint, lastRef, ?_⟩
    show i ∈ ((View.whole main_v11_1).slice (win0_20.rect lastPoint)).set
    rw [View.set_slice_whole, Rect.mem_set_unit]
    obtain ⟨-, e0, e1⟩ := blockRef _ (lastRef)
    intro a
    match a with
    | ⟨0, _⟩ => have h1 : (i 0).val < 1 := (i 0).isLt; show win0_20.index _ (0 : Fin 2) * 1 ≤ (i 0).val ∧ (i 0).val < win0_20.index _ (0 : Fin 2) * 1 + 1; rw [e0]; omega
    | ⟨1, _⟩ => have h1 : (i 1).val < 1 := (i 1).isLt; show win0_20.index _ (1 : Fin 2) * 1 ≤ (i 1).val ∧ (i 1).val < win0_20.index _ (1 : Fin 2) * 1 + 1; rw [e1]; omega

/-- The kernel's run: its results are the two folds, its arguments as before. -/
theorem run : θ_run defs (onTc (τ := τ) (main (F := F))) ⟨m, fun _ => 0, ρ⟩ fun r => ∀ c : Dev nD,
      r.2.mem ((c : Thread nD τ).loc main_v11_0) = wholeCor m c
      ∧ r.2.mem ((c : Thread nD τ).loc main_v11_1) = wholeRef m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17) :=
  (θ_run defs _ _).mono (fun r h c => ⟨((h c).1 19).trans (arrayCor m c),
      ((h c).1 20).trans (arrayRef m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).2 main_arg5 (Pipeline.mem_restRefs_of main_arg5 (by decide) (by decide))).trans (V_main_arg5 m c),
      ((h c).1 7).trans (((dats m 0 c).arrAt_in 7 rfl _).trans ((A_eq m c 7).trans (V_main_arg6 m c))),
      ((h c).2 main_arg7 (Pipeline.mem_restRefs_of main_arg7 (by decide) (by decide))).trans (V_main_arg7 m c),
      ((h c).1 9).trans (((dats m 0 c).arrAt_in 9 rfl _).trans ((A_eq m c 9).trans (V_main_arg8 m c))),
      ((h c).2 main_arg9 (Pipeline.mem_restRefs_of main_arg9 (by decide) (by decide))).trans (V_main_arg9 m c),
      ((h c).1 11).trans (((dats m 0 c).arrAt_in 11 rfl _).trans ((A_eq m c 11).trans (V_main_arg10 m c))),
      ((h c).2 main_arg11 (Pipeline.mem_restRefs_of main_arg11 (by decide) (by decide))).trans (V_main_arg11 m c),
      ((h c).1 13).trans (((dats m 0 c).arrAt_in 13 rfl _).trans ((A_eq m c 13).trans (V_main_arg12 m c))),
      ((h c).2 main_arg13 (Pipeline.mem_restRefs_of main_arg13 (by decide) (by decide))).trans (V_main_arg13 m c),
      ((h c).1 15).trans (((dats m 0 c).arrAt_in 15 rfl _).trans ((A_eq m c 15).trans (V_main_arg14 m c))),
      ((h c).2 main_arg15 (Pipeline.mem_restRefs_of main_arg15 (by decide) (by decide))).trans (V_main_arg15 m c),
      ((h c).1 17).trans (((dats m 0 c).arrAt_in 17 rfl _).trans ((A_eq m c 17).trans (V_main_arg16 m c))),
      ((h c).2 main_arg17 (Pipeline.mem_restRefs_of main_arg17 (by decide) (by decide))).trans (V_main_arg17 m c)⟩)
    (run_main m ρ)

end fold

end Cert.Proof.Tile

end
-- ==== Proof.KWin.lean ====
module
public import proofs.«01_k».proof.Proof.KSum
public import proofs.«01_k».proof.Proof.KVal
public import Idealize.ShloMosaic.Lib.Pipeline.ValueKit.Point
@[expose] public section
set_option maxRecDepth 20000
noncomputable section

/-! What the kernel's blocks hold of its arguments. -/

namespace Cert.Proof.Tile
open Idealize.ShloMosaic Idealize.ShloMosaic.TcCoe Idealize.SL.Sem Cert.KernelIdeal Cert.KernelIdeal.Gen Cert.Proof.Spec Cert.Proof.Num

variable (m : (ℓ : Loc nD τ sig) → Buf (Elt Ideal) ℓ) (c : Dev nD)

/-- Where each block stands. -/
theorem idx : ∀ t : Fin grid0.N, win0_0.index t = ![t.val, 0, 0] ∧ win0_1.index t = ![t.val, 0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] := by
  decide +kernel

/-- The batch a grid point handles. -/
def batch (t : Fin cfg0.N) : Fin 8 := ⟨t.val, lt_of_lt_of_eq t.isLt (show cfg0.N = 8 from N_0)⟩

/-- The alleles' block at a grid point is the batch's matrix. -/
theorem win0 (t : Fin cfg0.N) (p : Fin 30) (q : Fin 9000) :
    (iblk m c 0 t : IVec S1x30x9000 32) (ix3 0 p q) = (m ((c.tc : Thread nD τ).loc main_arg0) : IVec S8x30x9000 32) (ix3 (batch t) p q) := by
  blk_ext [iblk, V, idx t, batch]
/-- The known alleles' block at a grid point is the batch's row. -/
theorem win1 (t : Fin cfg0.N) (q : Fin 9000) :
    (iblk m c 1 t : IVec S1x1x9000 32) (ix3 0 0 q) = (m ((c.tc : Thread nD τ).loc main_arg1) : IVec S8x9000 32) (ix2 (batch t) q) := by
  blk_ext! [iblk, V, idx t, batch]
/-- The first layer's weights for a row's features: the first four columns of that argument. -/
theorem win2 (t : Fin cfg0.N) (i : Fin 10) (k : Fin 4) :
    (iblk m c 2 t : FVec Ideal S10x4 .f32) (ix2 i k) = (m ((c.tc : Thread nD τ).loc main_arg2) : FVec Ideal S10x8 .f32) (ix2 i ⟨k.val, by omega⟩) := by
  blk_ext! [iblk, V, idx t, batch]
/-- The first layer's weights for a column's features: the last four columns of that argument. -/
theorem win3 (t : Fin cfg0.N) (i : Fin 10) (k : Fin 4) :
    (iblk m c 3 t : FVec Ideal S10x4 .f32) (ix2 i k) = (m ((c.tc : Thread nD τ).loc main_arg2) : FVec Ideal S10x8 .f32) (ix2 i ⟨4 + k.val, by omega⟩) := by
  blk_ext! [iblk, V, idx t, batch]
/-- The first layer's biases. -/
theorem win4 (t : Fin cfg0.N) (i : Fin 10) :
    (iblk m c 4 t : FVec Ideal S10x1 .f32) (ix2 i 0) = (m ((c.tc : Thread nD τ).loc main_arg3) : FVec Ideal S10 .f32) (ix1 i) := by
  blk_ext! [iblk, V, idx t, batch]
/-- The second layer's weights in the first network. -/
theorem win5 (t : Fin cfg0.N) (i : Fin 10) (k : Fin 10) :
    (iblk m c 5 t : FVec Ideal S10x10 .f32) (ix2 i k) = (m ((c.tc : Thread nD τ).loc main_arg4) : FVec Ideal S10x10 .f32) (ix2 i k) := by
  blk_ext! [iblk, V, idx t, batch]
/-- The second layer's biases in the first network. -/
theorem win6 (t : Fin cfg0.N) (i : Fin 10) :
    (iblk m c 6 t : FVec Ideal S10x1 .f32) (ix2 i 0) = (m ((c.tc : Thread nD τ).loc main_arg5) : FVec Ideal S10 .f32) (ix1 i) := by
  blk_ext! [iblk, V, idx t, batch]
/-- The third layer's weights in the first network. -/
theorem win7 (t : Fin cfg0.N) (i : Fin 10) (k : Fin 10) :
    (iblk m c 7 t : FVec Ideal S10x10 .f32) (ix2 i k) = (m ((c.tc : Thread nD τ).loc main_arg6) : FVec Ideal S10x10 .f32) (ix2 i k) := by
  blk_ext! [iblk, V, idx t, batch]
/-- The third layer's biases in the first network. -/
theorem win8 (t : Fin cfg0.N) (i : Fin 10) :
    (iblk m c 8 t : FVec Ideal S10x1 .f32) (ix2 i 0) = (m ((c.tc : Thread nD τ).loc main_arg7) : FVec Ideal S10 .f32) (ix1 i) := by
  blk_ext! [iblk, V, idx t, batch]
/-- The last layer's weights in the first network. -/
theorem win9 (t : Fin cfg0.N) (i : Fin 1) (k : Fin 10) :
    (iblk m c 9 t : FVec Ideal S1x10 .f32) (ix2 i k) = (m ((c.tc : Thread nD τ).loc main_arg8) : FVec Ideal S1x10 .f32) (ix2 i k) := by
  blk_ext! [iblk, V, idx t, batch]
/-- The last layer's biases in the first network. -/
theorem win10 (t : Fin cfg0.N) (i : Fin 1) :
    (iblk m c 10 t : FVec Ideal S1x1 .f32) (ix2 i 0) = (m ((c.tc : Thread nD τ).loc main_arg9) : FVec Ideal S1 .f32) (ix1 i) := by
  blk_ext! [iblk, V, idx t, batch]
/-- The first layer's weights in the second network. -/
theorem win11 (t : Fin cfg0.N) (i : Fin 15) (k : Fin 30) :
    (iblk m c 11 t : FVec Ideal S15x30 .f32) (ix2 i k) = (m ((c.tc : Thread nD τ).loc main_arg10) : FVec Ideal S15x30 .f32) (ix2 i k) := by
  blk_ext! [iblk, V, idx t, batch]
/-- The first layer's biases in the second network. -/
theorem win12 (t : Fin cfg0.N) (i : Fin 15) :
    (iblk m c 12 t : FVec Ideal S15x1 .f32) (ix2 i 0) = (m ((c.tc : Thread nD τ).loc main_arg11) : FVec Ideal S15 .f32) (ix1 i) := by
  blk_ext! [iblk, V, idx t, batch]
/-- The second layer's weights in the second network. -/
theorem win13 (t : Fin cfg0.N) (i : Fin 15) (k : Fin 15) :
    (iblk m c 13 t : FVec Ideal S15x15 .f32) (ix2 i k) = (m ((c.tc : Thread nD τ).loc main_arg12) : FVec Ideal S15x15 .f32) (ix2 i k) := by
  blk_ext! [iblk, V, idx t, batch]
/-- The second layer's biases in the second network. -/
theorem win14 (t : Fin cfg0.N) (i : Fin 15) :
    (iblk m c 14 t : FVec Ideal S15x1 .f32) (ix2 i 0) = (m ((c.tc : Thread nD τ).loc main_arg13) : FVec Ideal S15 .f32) (ix1 i) := by
  blk_ext! [iblk, V, idx t, batch]
/-- The third layer's weights in the second network. -/
theorem win15 (t : Fin cfg0.N) (i : Fin 15) (k : Fin 15) :
    (iblk m c 15 t : FVec Ideal S15x15 .f32) (ix2 i k) = (m ((c.tc : Thread nD τ).loc main_arg14) : FVec Ideal S15x15 .f32) (ix2 i k) := by
  blk_ext! [iblk, V, idx t, batch]
/-- The third layer's biases in the second network. -/
theorem win16 (t : Fin cfg0.N) (i : Fin 15) :
    (iblk m c 16 t : FVec Ideal S15x1 .f32) (ix2 i 0) = (m ((c.tc : Thread nD τ).loc main_arg15) : FVec Ideal S15 .f32) (ix1 i) := by
  blk_ext! [iblk, V, idx t, batch]
/-- The last layer's weights in the second network. -/
theorem win17 (t : Fin cfg0.N) (i : Fin 1) (k : Fin 15) :
    (iblk m c 17 t : FVec Ideal S1x15 .f32) (ix2 i k) = (m ((c.tc : Thread nD τ).loc main_arg16) : FVec Ideal S1x15 .f32) (ix2 i k) := by
  blk_ext! [iblk, V, idx t, batch]
/-- The last layer's biases in the second network. -/
theorem win18 (t : Fin cfg0.N) (i : Fin 1) :
    (iblk m c 18 t : FVec Ideal S1x1 .f32) (ix2 i 0) = (m ((c.tc : Thread nD τ).loc main_arg17) : FVec Ideal S1 .f32) (ix1 i) := by
  blk_ext! [iblk, V, idx t, batch]

end Cert.Proof.Tile

end
-- ==== Proof.KTot.lean ====
module
public import proofs.«01_k».proof.Proof.KWin
@[expose] public section
set_option maxRecDepth 20000
noncomputable section

/-! The kernel's two totals. -/

namespace Cert.Proof.Tile
open Idealize.ShloMosaic Idealize.ShloMosaic.TcCoe Idealize.SL.Sem Cert.KernelIdeal Cert.KernelIdeal.Gen Cert.Proof.Spec Cert.Proof.Num

variable (m : (ℓ : Loc nD τ sig) → Buf (Elt Ideal) ℓ) (c : Dev nD)

/-- The weights as the arguments hold them. -/
def wtsK : Wts where
  a0 i k := (m ((c.tc : Thread nD τ).loc main_arg2) : FVec Ideal S10x8 .f32) (ix2 i ⟨k.val, by omega⟩)
  d0 i k := (m ((c.tc : Thread nD τ).loc main_arg2) : FVec Ideal S10x8 .f32) (ix2 i ⟨4 + k.val, by omega⟩)
  b0 i := (m ((c.tc : Thread nD τ).loc main_arg3) : FVec Ideal S10 .f32) (ix1 i)
  w1 i k := (m ((c.tc : Thread nD τ).loc main_arg4) : FVec Ideal S10x10 .f32) (ix2 i k)
  b1 i := (m ((c.tc : Thread nD τ).loc main_arg5) : FVec Ideal S10 .f32) (ix1 i)
  w2 i k := (m ((c.tc : Thread nD τ).loc main_arg6) : FVec Ideal S10x10 .f32) (ix2 i k)
  b2 i := (m ((c.tc : Thread nD τ).loc main_arg7) : FVec Ideal S10 .f32) (ix1 i)
  w3 i k := (m ((c.tc : Thread nD τ).loc main_arg8) : FVec Ideal S1x10 .f32) (ix2 i k)
  b3 i := (m ((c.tc : Thread nD τ).loc main_arg9) : FVec Ideal S1 .f32) (ix1 i)
  r0 i k := (m ((c.tc : Thread nD τ).loc main_arg10) : FVec Ideal S15x30 .f32) (ix2 i k)
  c0 i := (m ((c.tc : Thread nD τ).loc main_arg11) : FVec Ideal S15 .f32) (ix1 i)
  r1 i k := (m ((c.tc : Thread nD τ).loc main_arg12) : FVec Ideal S15x15 .f32) (ix2 i k)
  c1 i := (m ((c.tc : Thread nD τ).loc main_arg13) : FVec Ideal S15 .f32) (ix1 i)
  r2 i k := (m ((c.tc : Thread nD τ).loc main_arg14) : FVec Ideal S15x15 .f32) (ix2 i k)
  c2 i := (m ((c.tc : Thread nD τ).loc main_arg15) : FVec Ideal S15 .f32) (ix1 i)
  r3 i k := (m ((c.tc : Thread nD τ).loc main_arg16) : FVec Ideal S1x15 .f32) (ix2 i k)
  c3 i := (m ((c.tc : Thread nD τ).loc main_arg17) : FVec Ideal S1 .f32) (ix1 i)

/-- The alleles and the known alleles of a batch, as the arguments hold them. -/
def cellsK (b : Fin 8) (p : Fin 30) (q : Fin 9000) : BitVec 32 := (m ((c.tc : Thread nD τ).loc main_arg0) : IVec S8x30x9000 32) (ix3 b p q)
def knownK (b : Fin 8) (q : Fin 9000) : BitVec 32 := (m ((c.tc : Thread nD τ).loc main_arg1) : IVec S8x9000 32) (ix2 b q)

/-- The weights a grid point is given are the arguments' weights. -/
theorem wts_eq (t : Fin cfg0.N) : kwts (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = wtsK m c := by
  unfold kwts wtsK
  exact (Wts.mk.injEq ..).mpr ⟨funext fun i => funext fun k => win2 m c t i k, funext fun i => funext fun k => win3 m c t i k, funext fun i => win4 m c t i, funext fun i => funext fun k => win5 m c t i k, funext fun i => win6 m c t i, funext fun i => funext fun k => win7 m c t i k, funext fun i => win8 m c t i, funext fun i => funext fun k => win9 m c t i k, funext fun i => win10 m c t i, funext fun i => funext fun k => win11 m c t i k, funext fun i => win12 m c t i, funext fun i => funext fun k => win13 m c t i k, funext fun i => win14 m c t i, funext fun i => funext fun k => win15 m c t i k, funext fun i => win16 m c t i, funext fun i => funext fun k => win17 m c t i k, funext fun i => win18 m c t i⟩

/-- The alleles a grid point is given are those of its batch. -/
theorem cells_eq (t : Fin cfg0.N) : cells (iblk m c 0 t) = cellsK m c (batch t) := by
  funext p q
  refine Eq.trans ?_ (win0 m c t p q)
  unfold cells
  pointwise [k0_pay5]

/-- The known alleles a grid point is given are those of its batch. -/
theorem known_eq (t : Fin cfg0.N) (q : Fin 9000) : gK (iblk m c 1 t) (ix2 0 q) = knownK m c (batch t) q := by
  refine Eq.trans ?_ (win1 m c t q)
  pointwise [k0_pay6]

/-- A grid point adds its batch's part to the first loss. -/
theorem moreCor_apply (hM : ∀ b, Classes (cellsK m c b)) (n : ℕ) (h : n < cfg0.N) (z : Vec Ideal S1x1 .f32) :
    moreCor m c n h z (ix2 0 0) = z (ix2 0 0) + loss1 (wtsK m c) (cellsK m c (batch ⟨n, h⟩)) (knownK m c (batch ⟨n, h⟩)) := by
  unfold moreCor
  refine (addCor_apply _ _ _ _ _ _ _ _ _ _ _ (iblk m c 11 ⟨n, h⟩) (iblk m c 12 ⟨n, h⟩) (iblk m c 13 ⟨n, h⟩) (iblk m c 14 ⟨n, h⟩) (iblk m c 15 ⟨n, h⟩) (iblk m c 16 ⟨n, h⟩) (iblk m c 17 ⟨n, h⟩) (iblk m c 18 ⟨n, h⟩) (by rw [cells_eq]; exact hM _) z).trans ?_
  rw [wts_eq, cells_eq]
  exact congrArg (fun g => z (ix2 0 0) + loss1 (wtsK m c) (cellsK m c (batch ⟨n, h⟩)) g) (funext fun q => known_eq m c ⟨n, h⟩ q)

/-- A grid point adds its batch's part to the second loss. -/
theorem moreRef_apply (hM : ∀ b, Classes (cellsK m c b)) (n : ℕ) (h : n < cfg0.N) (z : Vec Ideal S1x1 .f32) :
    moreRef m c n h z (ix2 0 0) = z (ix2 0 0) + loss2 (wtsK m c) (cellsK m c (batch ⟨n, h⟩)) (knownK m c (batch ⟨n, h⟩)) := by
  unfold moreRef
  refine (addRef_apply _ _ _ _ _ _ _ _ _ _ _ _ _ _ _ _ _ _ _ (by rw [cells_eq]; exact hM _) z).trans ?_
  rw [wts_eq, cells_eq]
  exact congrArg (fun g => z (ix2 0 0) + loss2 (wtsK m c) (cellsK m c (batch ⟨n, h⟩)) g) (funext fun q => known_eq m c ⟨n, h⟩ q)

/-- A running sum over eight points, finished at the last. -/
theorem summed (more : (n : ℕ) → n < cfg0.N → Vec Ideal S1x1 .f32 → Vec Ideal S1x1 .f32) (z0 : Vec Ideal S1x1 .f32) (fin : Vec Ideal S1x1 .f32 → Vec Ideal S1x1 .f32)
    (L : Fin 8 → EReal) (hz : z0 (ix2 0 0) = (0 : EReal)) (hm : ∀ n h z, more n h z (ix2 0 0) = z (ix2 0 0) + L (batch ⟨n, h⟩)) (h7 : 0 + 7 < cfg0.N) :
    ∃ y : Vec Ideal S1x1 .f32, Pipeline.accAt (fun n h => more n h z0) (fun n h acc => if n % 8 = 7 then fin (more n h acc) else more n h acc) 0 7 h7 = fin y
      ∧ y (ix2 0 0) = ∑ b, L b := by
  have run : ∀ j (hj : j < 7) (h : 0 + j < cfg0.N), Pipeline.accAt (fun n h => more n h z0) (fun n h acc => if n % 8 = 7 then fin (more n h acc) else more n h acc) 0 j h (ix2 0 0)
      = ∑ s : Fin (j + 1), L ⟨s.val, by have := s.isLt; omega⟩ := by
    intro j
    induction j with
    | zero =>
      intro _ h
      rw [Pipeline.accAt_zero, hm, hz, zero_add, Fin.sum_univ_one]
      rfl
    | succ j ih =>
      intro hj h
      rw [Pipeline.accAt_succ, if_neg (by omega), hm, ih (by omega)]
      refine Eq.trans ?_ (Fin.sum_univ_castSucc (n := j + 1) fun s : Fin (j + 2) => L ⟨s.val, by have := s.isLt; omega⟩).symm
      exact congrArg (fun b : Fin 8 => (∑ s : Fin (j + 1), L ⟨s.val, by have := s.isLt; omega⟩ : EReal) + L b) (show batch ⟨0 + (j + 1), h⟩ = (⟨j + 1, by omega⟩ : Fin 8) from Fin.ext (by show 0 + (j + 1) = j + 1; omega))
  refine ⟨_, (Pipeline.accAt_succ _ _ 0 6 h7).trans (if_pos (by decide)), ?_⟩
  rw [hm, run 6 (by decide), Fin.sum_univ_castSucc (n := 7)]
  rfl

/-- The first total. -/
theorem wholeCor_apply (hM : ∀ b, Classes (cellsK m c b)) :
    wholeCor m c (ix2 0 0) = Ideal.div (0 - ∑ b : Fin 8, loss1 (wtsK m c) (cellsK m c b) (knownK m c b)) (Ideal.ofBits .f32 0x4A03D600#32) := by
  obtain ⟨y, e, hy⟩ := summed (moreCor m c) (k0_pay3 : FVec Ideal S1x1 .f32) k0_pay1 (fun b => loss1 (wtsK m c) (cellsK m c b) (knownK m c b)) (by pointwise [k0_pay3]) (moreCor_apply m c hM) (by rw [show cfg0.N = 8 from N_0]; decide)
  refine (congrFun e (ix2 0 0)).trans ?_
  rw [← hy]
  pointwise [k0_pay1]

/-- The second total. -/
theorem wholeRef_apply (hM : ∀ b, Classes (cellsK m c b)) :
    wholeRef m c (ix2 0 0) = Ideal.div (0 - ∑ b : Fin 8, loss2 (wtsK m c) (cellsK m c b) (knownK m c b)) (Ideal.ofBits .f32 0x478CA000#32) := by
  obtain ⟨y, e, hy⟩ := summed (moreRef m c) (k0_pay4 : FVec Ideal S1x1 .f32) k0_pay2 (fun b => loss2 (wtsK m c) (cellsK m c b) (knownK m c b)) (by pointwise [k0_pay4]) (moreRef_apply m c hM) (by rw [show cfg0.N = 8 from N_0]; decide)
  refine (congrFun e (ix2 0 0)).trans ?_
  rw [← hy]
  pointwise [k0_pay2]

end Cert.Proof.Tile

end
-- ==== Proof.RBase.lean ====
module
public import proofs.«01_k».proof.Proof.RefOps
public import proofs.«01_k».proof.Proof.Num
public import proofs.«01_k».proof.Proof.Count
public import Idealize.ShloMosaic.Lib.Pointwise
public import Idealize.ShloMosaic.Lib.IndicatorCount
@[expose] public section
set_option maxRecDepth 20000
noncomputable section

/-! The reference's choice of the largest count, its sort and its three gathers, read at an index. -/

namespace Cert.Proof.Ref
open Idealize.ShloMosaic Idealize.ShloMosaic.TcCoe Idealize.SL.Sem Cert.ReferenceIdeal Cert.ReferenceIdeal.Gen Cert.ReferenceIdeal.Value Cert.Proof.Spec Cert.Proof.Num

/-- A small number read as a signed word. -/
theorem toInt_small (k : ℕ) (h : k < 2147483648) : (BitVec.ofNat 32 k).toInt = k := by
  have e : (BitVec.ofNat 32 k).toNat = k := by rw [BitVec.toNat_ofNat]; exact Nat.mod_eq_of_lt (by omega)
  rw [BitVec.toInt_eq_toNat_of_lt (by rw [e]; omega), e]

/-- The order in which the choice compares pairs: by the count, and among equal counts the lower class first. -/
def key (x : BitVec 32 × BitVec 32) : ℤ := x.1.toInt * 8589934592 - x.2.toInt

/-- The choice keeps the pair of the greater key. -/
theorem choose_eq (a b : BitVec 32 × BitVec 32) : reducer_argmax_i32_i32 a b = if key b < key a then a else b := by
  obtain ⟨a1, a2⟩ := a
  obtain ⟨b1, b2⟩ := b
  have h1 := BitVec.toInt_lt (x := a1); have h2 := BitVec.le_toInt (x := a1)
  have h3 := BitVec.toInt_lt (x := a2); have h4 := BitVec.le_toInt (x := a2)
  have h5 := BitVec.toInt_lt (x := b1); have h6 := BitVec.le_toInt (x := b1)
  have h7 := BitVec.toInt_lt (x := b2); have h8 := BitVec.le_toInt (x := b2)
  have e1 : IntOp.cmpi .sgt a1 b1 = BitVec.ofBool (decide (b1.toInt < a1.toInt)) := rfl
  have e2 : IntOp.cmpi .ne a1 a1 = 0#1 := by simp [IntOp.cmpi]
  have e3 : IntOp.cmpi .slt a2 b2 = BitVec.ofBool (decide (a2.toInt < b2.toInt)) := rfl
  have e4 : IntOp.cmpi .eq a1 b1 = BitVec.ofBool (decide (a1 = b1)) := by
    unfold IntOp.cmpi
    by_cases h : a1 = b1
    · simp [h]
    · have e : (a1 == b1) = false := by simpa using h
      simp [h, e]
  unfold reducer_argmax_i32_i32 key
  simp only [e1, e2, e3, e4]
  norm_num at h1 h2 h3 h4 h5 h6 h7 h8
  by_cases c1 : b1.toInt < a1.toInt
  · have c2 : a1 ≠ b1 := fun h => by subst h; omega
    rw [if_pos (by omega)]
    simp [c1, c2, IntOp.ori, IntOp.andi, Scalar.select]
  · by_cases c2 : a1 = b1
    · subst c2
      by_cases c3 : a2.toInt < b2.toInt
      · rw [if_pos (by omega)]
        simp [c3, IntOp.ori, IntOp.andi, Scalar.select]
      · rw [if_neg (by omega)]
        simp [c3, IntOp.ori, IntOp.andi, Scalar.select]
    · have c3 : a1.toInt ≠ b1.toInt := fun h => c2 (BitVec.eq_of_toInt_eq h)
      rw [if_neg (by omega)]
      simp [c1, c2, IntOp.ori, IntOp.andi, Scalar.select]

/-- Choosing along a list keeps one of the pairs, of the greatest key. -/
theorem choose_list (l : List (BitVec 32 × BitVec 32)) : ∀ a, let r := l.foldl reducer_argmax_i32_i32 a
    (r = a ∨ r ∈ l) ∧ key a ≤ key r ∧ ∀ x ∈ l, key x ≤ key r := by
  induction l with
  | nil => intro a; exact ⟨Or.inl rfl, le_refl _, fun x h => absurd h (by simp)⟩
  | cons y l ih =>
    intro a
    obtain ⟨h1, h2, h3⟩ := ih (reducer_argmax_i32_i32 a y)
    have e := choose_eq a y
    have k1 : key a ≤ key (reducer_argmax_i32_i32 a y) := by rw [e]; split <;> omega
    have k2 : key y ≤ key (reducer_argmax_i32_i32 a y) := by rw [e]; split <;> omega
    refine ⟨?_, k1.trans h2, fun x hx => ?_⟩
    · rcases h1 with h | h
      · by_cases c : key y < key a
        · rw [if_pos c] at e; exact Or.inl (h.trans e)
        · rw [if_neg c] at e; exact Or.inr (List.mem_cons.2 (Or.inl (h.trans e)))
      · exact Or.inr (List.mem_cons.2 (Or.inr h))
    · rcases List.mem_cons.1 hx with rfl | h
      · exact k2.trans h2
      · exact h3 x h

/-- The class of the greatest count, the lowest among equals. -/
theorem pick_of (c : Fin 4 → ℕ) (s : Fin 4) (h : ∀ t : Fin 4, c t < c s ∨ (c t = c s ∧ s.val ≤ t.val)) : pick c = s.val := by
  have h0 := h 0; have h1 := h 1; have h2 := h 2; have h3 := h 3
  unfold pick
  fin_cases s <;> simp at h0 h1 h2 h3 ⊢ <;> split_ifs <;> omega

/-- The choice over the four classes of a column. -/
theorem choose_apply (x y : IVec S8x9000x4 32) (ix iy : IVec S_ 32) (b : Fin 8) (q : Fin 9000) (c : Fin 4 → ℕ) (hc : ∀ s, c s ≤ 30)
    (hx : ∀ s, x (ix3 b q s) = BitVec.ofNat 32 (c s)) (hy : ∀ s : Fin 4, y (ix3 b q s) = BitVec.ofNat 32 s.val)
    (hi : ix (Shape.Idx.first h_S_) = 2147483648#32) :
    (Host.reduce2 reducer_argmax_i32_i32 x y ix iy reducesTo_S8x9000x4_S8x9000_d2 h_S_ (ix2 b q)).2 = BitVec.ofNat 32 (pick c) := by
  rw [Host.reduce2_eq_foldl_fiber]
  have hmem : ∀ z, z ∈ Host.argReduceFiber x y reducesTo_S8x9000x4_S8x9000_d2 (ix2 b q) ↔ ∃ s : Fin 4, z = (BitVec.ofNat 32 (c s), BitVec.ofNat 32 s.val) := by
    intro z
    unfold Host.argReduceFiber
    simp only [List.mem_map, List.mem_filter, List.mem_finRange, true_and, decide_eq_true_eq]
    constructor
    · rintro ⟨n, h, rfl⟩
      obtain ⟨s, e⟩ := (Shape.ReducesTo.fiber_r3_a2 reducesTo_S8x9000x4_S8x9000_d2 (ix2 b q) _).1 h
      refine ⟨s, ?_⟩
      rw [← e]
      exact Prod.ext (hx s) (hy s)
    · rintro ⟨s, rfl⟩
      refine ⟨S8x9000x4.rowMajor (ix3 b q s), ?_, ?_⟩
      · rw [Equiv.symm_apply_apply]
        exact (Shape.ReducesTo.fiber_r3_a2 reducesTo_S8x9000x4_S8x9000_d2 (ix2 b q) _).2 ⟨s, rfl⟩
      · rw [Equiv.symm_apply_apply]
        exact Prod.ext (hx s) (hy s)
  have hk : ∀ s : Fin 4, key (BitVec.ofNat 32 (c s), BitVec.ofNat 32 s.val) = (c s : ℤ) * 8589934592 - s.val := by
    intro s
    have h1 := hc s; have h2 := s.isLt
    unfold key
    show (BitVec.ofNat 32 (c s)).toInt * 8589934592 - (BitVec.ofNat 32 s.val).toInt = _
    rw [toInt_small _ (by omega), toInt_small _ (by omega)]
  obtain ⟨h1, h2, h3⟩ := choose_list (Host.argReduceFiber x y reducesTo_S8x9000x4_S8x9000_d2 (ix2 b q)) (ix (Shape.Idx.first h_S_), iy (Shape.Idx.first h_S_))
  generalize hr : (Host.argReduceFiber x y reducesTo_S8x9000x4_S8x9000_d2 (ix2 b q)).foldl reducer_argmax_i32_i32
    (ix (Shape.Idx.first h_S_), iy (Shape.Idx.first h_S_)) = r at h1 h2 h3 ⊢
  have h4 : ∃ s : Fin 4, r = (BitVec.ofNat 32 (c s), BitVec.ofNat 32 s.val) := by
    rcases h1 with h | h
    · exfalso
      have k := h3 _ ((hmem _).2 ⟨0, rfl⟩)
      rw [hk, h, hi] at k
      have h5 := BitVec.toInt_lt (x := iy (Shape.Idx.first h_S_)); have h6 := BitVec.le_toInt (x := iy (Shape.Idx.first h_S_))
      have e : (2147483648#32).toInt = -2147483648 := by decide
      unfold key at k
      simp only [e] at k
      norm_num at h5 h6 k
      omega
    · exact (hmem r).1 h
  obtain ⟨s, rfl⟩ := h4
  show BitVec.ofNat 32 s.val = _
  rw [pick_of c s fun t => ?_]
  have k := h3 _ ((hmem _).2 ⟨t, rfl⟩)
  rw [hk, hk] at k
  have := t.isLt; have := s.isLt
  omega

/-- The sort's comparison is the order of the numbers. -/
theorem before_apply (l r : Ideal .f32 × BitVec 32) : comparator_f32_i32_d1 (F := Ideal) l r = BitVec.ofBool (decide (l.1 < r.1)) := by
  unfold comparator_f32_i32_d1
  have e : ∀ x : Ideal .f32, Scalar.select (FloatOps.cmpf .oeq x (FloatOps.ofBits .f32 0x00000000#32)) (FloatOps.ofBits .f32 0x00000000#32) x = x := by
    intro x
    generalize (FloatOps.ofBits .f32 0x00000000#32 : Ideal .f32) = z
    show (if BitVec.ofBool (decide (x = z)) = 1#1 then z else x) = x
    by_cases h : x = z
    · rw [h]; exact ite_self z
    · simp [h]
  have u : ∀ (x : Ideal .f32) (y : Ideal .f32), Scalar.select (FloatOps.cmpf .une x x) y x = x := by
    intro x y
    rw [Ideal.cmpf_def]
    unfold Ideal.cmp Scalar.select
    simp
  simp only [e, u, Ideal.cmpfTotal_def]
  rfl

/-- The sorted positions of a row of the operand. -/
theorem sort_apply {n : ℕ} (v : (⟨2, ![8, n]⟩ : Shape).Idx → Ideal .f32) (y : IVec ⟨2, ![8, n]⟩ 32) (b : Fin 8) (r : Fin n) (c : Fin n → ℕ)
    (hv : ∀ i j : Fin n, (v (ix2 b i) < v (ix2 b j)) ↔ c i < c j) (hy : ∀ i : Fin n, y (ix2 b i) = BitVec.ofNat 32 i.val) :
    (Host.sort2 ⟨2, ![8, n]⟩ 1 (comparator_f32_i32_d1 (F := Ideal)) v y).2 (ix2 b r)
      = BitVec.ofNat 32 (sortedFrom (fun k k' => decide (c k < c k')) r).val := by
  have al : ∀ k : Fin n, (ix2 b r : (⟨2, ![8, n]⟩ : Shape).Idx).along 1 k = ix2 b k := by
    intro k
    funext a
    match a with
    | ⟨0, _⟩ => rfl
    | ⟨1, _⟩ => rfl
  have e : (fun k k' : Fin n => comparator_f32_i32_d1 (F := Ideal) (v (ix2 b k), y (ix2 b k)) (v (ix2 b k'), y (ix2 b k')) == 1#1)
      = fun k k' => decide (c k < c k') := by
    funext k k'
    rw [before_apply]
    by_cases h : c k < c k'
    · simp [h, (hv k k').2 h]
    · have g : ¬ v (ix2 b k) < v (ix2 b k') := fun g => h ((hv k k').1 g)
      simp [h, g]
  have s : (Host.sort2 ⟨2, ![8, n]⟩ 1 (comparator_f32_i32_d1 (F := Ideal)) v y).2 (ix2 b r)
      = y ((ix2 b r : (⟨2, ![8, n]⟩ : Shape).Idx).along 1 (sortedFrom (n := n) (fun k k' : Fin n => comparator_f32_i32_d1 (F := Ideal)
        (v ((ix2 b r : (⟨2, ![8, n]⟩ : Shape).Idx).along 1 k), y ((ix2 b r : (⟨2, ![8, n]⟩ : Shape).Idx).along 1 k))
        (v ((ix2 b r : (⟨2, ![8, n]⟩ : Shape).Idx).along 1 k'), y ((ix2 b r : (⟨2, ![8, n]⟩ : Shape).Idx).along 1 k')) == 1#1) r)) := rfl
  rw [s, al]
  simp only [al]
  rw [e, hy]

/-- A gather's coordinate on a batching axis. -/
theorem coord_batch {s si t : Shape} (d : GatherDims s si t) (j : t.Idx) (idx : IVec si 32) (a : Fin s.rank) (h : a ∈ d.operandBatchingDims) :
    (d.operandIdx j idx a).val = d.batchCoord j a := by
  show d.start j idx a + d.batchCoord j a + d.offCoord j a = _
  rw [GatherDims.start_batching _ _ _ _ h, GatherDims.offCoord_eq_zero _ _ _ (fun g => ((GatherDims.mem_sKept _ _).mp g).2 h), Nat.zero_add, Nat.add_zero]

/-- A gather's coordinate on an axis kept whole. -/
theorem coord_kept {s si t : Shape} (d : GatherDims s si t) (j : t.Idx) (idx : IVec si 32) (a : Fin s.rank) (h : a ∉ d.operandBatchingDims)
    (g : a ∉ d.startIndexMap) : (d.operandIdx j idx a).val = d.offCoord j a := by
  show d.start j idx a + d.batchCoord j a + d.offCoord j a = _
  rw [GatherDims.batchCoord_eq_zero _ _ _ h, GatherDims.start, dif_neg g, Nat.zero_add]

/-- A gather's coordinate on the axis the indices choose along. -/
theorem coord_index {s si t : Shape} (d : GatherDims s si t) (j : t.Idx) (idx : IVec si 32) (a : Fin s.rank) (h : a ∉ d.operandBatchingDims)
    (g : a ∈ d.collapsedSliceDims) (m : a ∈ d.startIndexMap) :
    (d.operandIdx j idx a).val = min (idx (d.siIdx j ⟨d.startIndexMap.idxOf a, List.idxOf_lt_length_iff.2 m⟩)).toInt.toNat (s.size a - d.sliceSizes a) := by
  show d.start j idx a + d.batchCoord j a + d.offCoord j a = _
  rw [GatherDims.batchCoord_eq_zero _ _ _ h, GatherDims.offCoord_eq_zero _ _ _ (fun k => ((GatherDims.mem_sKept _ _).mp k).1 g), GatherDims.start, dif_pos m]
  rfl

/-- A chosen position inside the axis. -/
theorem chosen (z : BitVec 32) (n k : ℕ) (h : z = BitVec.ofNat 32 k) (hk : k ≤ n) (hn : n < 2147483648) : min z.toInt.toNat n = k := by
  rw [h, toInt_small _ (by omega), Int.toNat_natCast]
  omega

/-- The gather along the columns. -/
theorem gatherC_apply (x : FVec Ideal S8x30x9000 .f32) (idx : IVec S8x9000x1 32) (b : Fin 8) (p : Fin 30) (q : Fin 9000) (k : Fin 9000)
    (h : idx (ix3 b q 0) = BitVec.ofNat 32 k.val) :
    Host.gather gather_S8x30x9000_S8x9000x1_S8x30x9000_1_2_0_0_2_2_1301 x idx (ix3 b p q) = x (ix3 b p k) := by
  unfold Host.gather
  refine congrArg x (funext fun a => Fin.ext ?_)
  have e : gather_S8x30x9000_S8x9000x1_S8x30x9000_1_2_0_0_2_2_1301.siIdx (ix3 b p q) ⟨0, by decide⟩ = ix3 b q 0 := by
    funext c; refine Fin.ext ?_
    match c with
    | ⟨0, _⟩ => rfl
    | ⟨1, _⟩ => rfl
    | ⟨2, _⟩ => rfl
  match a with
  | ⟨0, _⟩ =>
    change (GatherDims.operandIdx (s := S8x30x9000) _ _ _ (0 : Fin 3)).val = _
    rw [coord_batch _ _ _ _ (by decide), GatherDims.batchCoord, dif_pos (by decide)]
    rfl
  | ⟨1, _⟩ =>
    change (GatherDims.operandIdx (s := S8x30x9000) _ _ _ (1 : Fin 3)).val = _
    rw [coord_kept _ _ _ _ (by decide) (by decide), GatherDims.offCoord, dif_pos (by decide)]
    rfl
  | ⟨2, _⟩ =>
    change (GatherDims.operandIdx (s := S8x30x9000) _ _ _ (2 : Fin 3)).val = _
    rw [coord_index _ _ _ _ (by decide) (by decide) (by decide)]
    refine chosen _ 8999 k.val ?_ (by omega) (by omega)
    rw [← h, ← e]
    rfl

/-- The gather along the rows. -/
theorem gatherR_apply (x : FVec Ideal S8x30x9000 .f32) (idx : IVec S8x30x1 32) (b : Fin 8) (p : Fin 30) (q : Fin 9000) (k : Fin 30)
    (h : idx (ix3 b p 0) = BitVec.ofNat 32 k.val) :
    Host.gather gather_S8x30x9000_S8x30x1_S8x30x9000_2_1_0_0_1_2_119000 x idx (ix3 b p q) = x (ix3 b k q) := by
  unfold Host.gather
  refine congrArg x (funext fun a => Fin.ext ?_)
  have e : gather_S8x30x9000_S8x30x1_S8x30x9000_2_1_0_0_1_2_119000.siIdx (ix3 b p q) ⟨0, by decide⟩ = ix3 b p 0 := by
    funext c; refine Fin.ext ?_
    match c with
    | ⟨0, _⟩ => rfl
    | ⟨1, _⟩ => rfl
    | ⟨2, _⟩ => rfl
  match a with
  | ⟨0, _⟩ =>
    change (GatherDims.operandIdx (s := S8x30x9000) _ _ _ (0 : Fin 3)).val = _
    rw [coord_batch _ _ _ _ (by decide), GatherDims.batchCoord, dif_pos (by decide)]
    rfl
  | ⟨1, _⟩ =>
    change (GatherDims.operandIdx (s := S8x30x9000) _ _ _ (1 : Fin 3)).val = _
    rw [coord_index _ _ _ _ (by decide) (by decide) (by decide)]
    refine chosen _ 29 k.val ?_ (by omega) (by omega)
    rw [← h, ← e]
    rfl
  | ⟨2, _⟩ =>
    change (GatherDims.operandIdx (s := S8x30x9000) _ _ _ (2 : Fin 3)).val = _
    rw [coord_kept _ _ _ _ (by decide) (by decide), GatherDims.offCoord, dif_pos (by decide)]
    rfl

/-- The gather of one class's entry from each row of scores. -/
theorem gatherS_apply (x : FVec Ideal S72000x4 .f32) (idx : IVec S72000x1x1 32) (r : Fin 72000) (k : Fin 4)
    (h : idx (ix3 r 0 0) = BitVec.ofNat 32 k.val) :
    Host.gather gather_S72000x4_S72000x1x1_S72000x1_n_1_0_0_1_2_11 x idx (ix2 r 0) = x (ix2 r k) := by
  unfold Host.gather
  refine congrArg x (funext fun a => Fin.ext ?_)
  have e : gather_S72000x4_S72000x1x1_S72000x1_n_1_0_0_1_2_11.siIdx (ix2 r 0) ⟨0, by decide⟩ = ix3 r 0 0 := by
    funext c; refine Fin.ext ?_
    match c with
    | ⟨0, _⟩ => rfl
    | ⟨1, _⟩ => rfl
    | ⟨2, _⟩ => rfl
  match a with
  | ⟨0, _⟩ =>
    change (GatherDims.operandIdx (s := S72000x4) _ _ _ (0 : Fin 2)).val = _
    rw [coord_batch _ _ _ _ (by decide), GatherDims.batchCoord, dif_pos (by decide)]
    rfl
  | ⟨1, _⟩ =>
    change (GatherDims.operandIdx (s := S72000x4) _ _ _ (1 : Fin 2)).val = _
    rw [coord_index _ _ _ _ (by decide) (by decide) (by decide)]
    refine chosen _ 3 k.val ?_ (by omega) (by omega)
    rw [← h, ← e]
    rfl

end Cert.Proof.Ref

end
-- ==== Proof.RFeat.lean ====
module
public import proofs.«01_k».proof.Proof.RBase
public import Idealize.ShloMosaic.Lib.MatmulPlain
public import Idealize.ShloMosaic.Lib.Tactic.CleanTypes
@[expose] public section
set_option maxRecDepth 20000
noncomputable section

/-! The reference's counts, classes and features, in the problem's terms. -/

namespace Cert.Proof.Ref
open Idealize.ShloMosaic Idealize.ShloMosaic.TcCoe Idealize.SL.Sem Cert.ReferenceIdeal Cert.ReferenceIdeal.Gen Cert.ReferenceIdeal.Value Cert.Proof.Spec Cert.Proof.Num

variable (V : Valuation τ sig (Elt Ideal))

/-- The batch's matrix of classes. -/
def cellsR (b : Fin 8) (p : Fin 30) (q : Fin 9000) : BitVec 32 := (V (Proc.devRef .tc main_arg0) : IVec S8x30x9000 32) (ix3 b p q)

/-- The four counts of a column. -/
theorem v7_apply (b : Fin 8) (q : Fin 9000) (s : Fin 4) :
    (res_main_v7 V : IVec S8x9000x4 32) (ix3 b q s) = BitVec.ofNat 32 (cnt (cellsR V b) q s) := by
  have e : (res_main_v7 V : IVec S8x9000x4 32) (ix3 b q s) = Finset.univ.fold IntOp.addi 0#32 fun p : Fin 30 =>
      (BitVec.ofBool (decide (cellsR V b p q = BitVec.ofNat 32 s.val))).setWidth 32 := by
    unfold res_main_v7
    clean_types
    pointwise
    simp only [eq_bit]
    rfl
  rw [e, IndicatorCount.fold_addi_setWidth_eq_card]
  unfold cnt
  refine congrArg (fun z => BitVec.ofNat 32 (Finset.card z)) (Finset.filter_congr fun p _ => ?_)
  by_cases h : cellsR V b p q = BitVec.ofNat 32 s.val <;> simp [h]

/-- A class occurs at most 30 times in a column. -/
theorem cnt_le (m : Fin 30 → Fin 9000 → BitVec 32) (q : Fin 9000) (s : Fin 4) : cnt m q s ≤ 30 :=
  (Finset.card_le_univ _).trans (by simp)

/-- The most frequent class of a column. -/
theorem mode_apply (b : Fin 8) (q : Fin 9000) :
    (Host.reduce2 reducer_argmax_i32_i32 (res_main_v7 V) (res_main_call0_v0 V) (res_main_call0_c V) (res_main_call0_c_0 V)
      reducesTo_S8x9000x4_S8x9000_d2 h_S_ (ix2 b q)).2 = mode (cellsR V b) q :=
  choose_apply _ _ _ _ b q (cnt (cellsR V b) q) (cnt_le _ _) (v7_apply V b q) (fun _ => rfl) rfl

/-- Whether an entry agrees with its column's most frequent class. -/
theorem v12_apply (b : Fin 8) (p : Fin 30) (q : Fin 9000) :
    (res_main_v12 V : FVec Ideal S8x30x9000 .f32) (ix3 b p q) = if cellsR V b p q = mode (cellsR V b) q then (1 : EReal) else 0 := by
  unfold res_main_v12
  pointwise
  rw [mode_apply, eq_bit, ubit]
  rfl

/-- The share of a row's entries that agree. -/
theorem v15_apply (b : Fin 8) (p : Fin 30) :
    (res_main_v15 V : FVec Ideal S8x30 .f32) (ix2 b p) = Ideal.div (rowN (cellsR V b) p : ℕ) (Ideal.ofBits .f32 0x460CA000#32) := by
  unfold res_main_v15
  pointwise
  have e : (∑ q : Fin 9000, (res_main_v12 V : FVec Ideal S8x30x9000 .f32) (ix3 b p q) : EReal) = (rowN (cellsR V b) p : ℕ) := by
    simp only [v12_apply]
    exact count_ind _
  exact congrArg (fun z : EReal => Ideal.div z (Ideal.ofBits .f32 0x460CA000#32)) e

/-- The share of a column's entries that agree. -/
theorem v18_apply (b : Fin 8) (q : Fin 9000) :
    (res_main_v18 V : FVec Ideal S8x9000 .f32) (ix2 b q) = Ideal.div (colN (cellsR V b) q : ℕ) (Ideal.ofBits .f32 0x41F00000#32) := by
  unfold res_main_v18
  pointwise
  have e : (∑ p : Fin 30, (res_main_v12 V : FVec Ideal S8x30x9000 .f32) (ix3 b p q) : EReal) = (colN (cellsR V b) q : ℕ) := by
    simp only [v12_apply]
    exact count_ind _
  exact congrArg (fun z : EReal => Ideal.div z (Ideal.ofBits .f32 0x41F00000#32)) e

/-- A small index is kept by the wrap of negative ones. -/
theorem wrap_small (z d : BitVec 32) (k : ℕ) (h : z = BitVec.ofNat 32 k) (hk : k < 2147483648) :
    Scalar.select (IntOp.cmpi .slt z 0#32) (IntOp.addi z d) z = BitVec.ofNat 32 k := by
  have e : IntOp.cmpi .slt z 0#32 = BitVec.ofBool (decide (z.toInt < 0)) := rfl
  have g : ¬ z.toInt < 0 := by rw [h, toInt_small _ hk]; omega
  rw [e, decide_eq_false g, ← h]
  rfl

/-- The columns in the order of their counts. -/
theorem call3_apply (b : Fin 8) (q : Fin 9000) :
    (res_main_call3_v5 V : IVec S8x9000x1 32) (ix3 b q 0)
      = BitVec.ofNat 32 (sortedFrom (fun k k' => decide (colN (cellsR V b) k < colN (cellsR V b) k')) q).val := by
  unfold res_main_call3_v5 res_main_v21
  pointwise
  refine wrap_small _ _ _ (sort_apply (n := 9000) (res_main_v18 V) (res_main_call2_v0 V) b q (colN (cellsR V b)) (fun i j => ?_) fun _ => rfl) (by omega)
  rw [v18_apply, v18_apply, n30]
  exact div_lt (by norm_num)

/-- The rows in the order of their counts. -/
theorem call4_apply (b : Fin 8) (p : Fin 30) :
    (res_main_call4_v4 V : IVec S8x30x1 32) (ix3 b p 0)
      = BitVec.ofNat 32 (sortedFrom (fun k k' => decide (rowN (cellsR V b) k < rowN (cellsR V b) k')) p).val := by
  unfold res_main_call4_v4 res_main_v27
  pointwise
  refine wrap_small _ _ _ (sort_apply (n := 30) (res_main_v15 V) (res_main_call1_v0 V) b p (rowN (cellsR V b)) (fun i j => ?_) fun _ => rfl) (by omega)
  rw [v15_apply, v15_apply, n9000]
  exact div_lt (by norm_num)

end Cert.Proof.Ref

end
-- ==== Proof.RRows.lean ====
module
public import proofs.«01_k».proof.Proof.RFeat
@[expose] public section
set_option maxRecDepth 20000
noncomputable section

/-! The reference's eight features of an entry. -/

namespace Cert.Proof.Ref
open Idealize.ShloMosaic Idealize.ShloMosaic.TcCoe Idealize.SL.Sem Cert.ReferenceIdeal Cert.ReferenceIdeal.Gen Cert.ReferenceIdeal.Value Cert.Proof.Spec Cert.Proof.Num

variable (V : Valuation τ sig (Elt Ideal))

/-- The agreements with the columns, and with the rows, in sorted order. -/
def sortedC : FVec Ideal S8x30x9000 .f32 :=
  select (broadcastInDim S8x30x9000 ![0, 2] bcast_S8x9000_S8x30x9000_0_2 (Host.reduce IntOp.andi (andi (cmpi .sge (res_main_call3_v5 V) (broadcastInDim S8x9000x1 ![] bcast_S_S8x9000x1 (constantI S_ 32 0#32))) (cmpi .sle (res_main_call3_v5 V) (broadcastInDim S8x9000x1 ![0, 1, 2] bcast_S1x1x1_S8x9000x1_0_1_2 (broadcastInDim S1x1x1 ![2] bcast_S1_S1x1x1_2 (constantI S1 32 8999#32))))) (constantI S_ 1 1#1) reducesTo_S8x9000x1_S8x9000_d2 h_S_)) (Host.gather gather_S8x30x9000_S8x9000x1_S8x30x9000_1_2_0_0_2_2_1301 (res_main_v12 V) (res_main_call3_v5 V)) (broadcastInDim S8x30x9000 ![] bcast_S_S8x30x9000 (constant S_ .f32 0x7FC00000#32))
def sortedR : FVec Ideal S8x30x9000 .f32 :=
  select (broadcastInDim S8x30x9000 ![0, 1] bcast_S8x30_S8x30x9000_0_1 (Host.reduce IntOp.andi (andi (cmpi .sge (res_main_call4_v4 V) (broadcastInDim S8x30x1 ![] bcast_S_S8x30x1 (constantI S_ 32 0#32))) (cmpi .sle (res_main_call4_v4 V) (broadcastInDim S8x30x1 ![0, 1, 2] bcast_S1x1x1_S8x30x1_0_1_2 (broadcastInDim S1x1x1 ![2] bcast_S1_S1x1x1_2 (constantI S1 32 29#32))))) (constantI S_ 1 1#1) reducesTo_S8x30x1_S8x30_d2 h_S_)) (Host.gather gather_S8x30x9000_S8x30x1_S8x30x9000_2_1_0_0_1_2_119000 (res_main_v12 V) (res_main_call4_v4 V)) (broadcastInDim S8x30x9000 ![] bcast_S_S8x30x9000 (constant S_ .f32 0x7FC00000#32))

/-- Their means over each third. -/
def meanC : FVec Ideal S8x30x3 .f32 :=
  Host.divf (Host.reduceAdd (shapeCast _ (sortedC V) shapeCasts_S8x30x9000_S8x30x3x3000) (constant S_ .f32 0x00000000#32) reducesTo_S8x30x3x3000_S8x30x3_d3 h_S_) (broadcastInDim S8x30x3 ![] bcast_S_S8x30x3 (constant S_ .f32 0x453B8000#32))
def meanR : FVec Ideal S8x3x9000 .f32 :=
  Host.divf (Host.reduceAdd (shapeCast _ (sortedR V) shapeCasts_S8x30x9000_S8x3x10x9000) (constant S_ .f32 0x00000000#32) reducesTo_S8x3x10x9000_S8x3x9000_d2 h_S_) (broadcastInDim S8x3x9000 ![] bcast_S_S8x3x9000 (constant S_ .f32 0x41200000#32))

/-- The features of the rows, of the columns, and of the entries. -/
def feat : FVec Ideal S8x270000x8 .f32 :=
  shapeCast _ (concatenate S8x30x9000x8 3 [⟨S8x30x9000x4, (broadcastInDim S8x30x9000x4 ![0, 1, 2, 3] bcast_S8x30x1x4_S8x30x9000x4_0_1_2_3 (broadcastInDim S8x30x1x4 ![0, 1, 3] bcast_S8x30x4_S8x30x1x4_0_1_3 (concatenate S8x30x4 2 [⟨S8x30x1, (broadcastInDim S8x30x1 ![0, 1] bcast_S8x30_S8x30x1_0_1 (res_main_v15 V))⟩, ⟨S8x30x3, meanC V⟩] concatenates_S8x30x1_S8x30x3_S8x30x4_d2)))⟩, ⟨S8x30x9000x4, (broadcastInDim S8x30x9000x4 ![0, 1, 2, 3] bcast_S8x1x9000x4_S8x30x9000x4_0_1_2_3 (broadcastInDim S8x1x9000x4 ![0, 2, 3] bcast_S8x9000x4_S8x1x9000x4_0_2_3 (concatenate S8x9000x4 2 [⟨S8x9000x1, (broadcastInDim S8x9000x1 ![0, 1] bcast_S8x9000_S8x9000x1_0_1 (res_main_v18 V))⟩, ⟨S8x9000x3, (transpose S8x9000x3 [0, 2, 1] (meanR V) transposes_S8x3x9000_S8x9000x3_0_2_1)⟩] concatenates_S8x9000x1_S8x9000x3_S8x9000x4_d2)))⟩] concatenates_S8x30x9000x4_S8x30x9000x4_S8x30x9000x8_d3) shapeCasts_S8x30x9000x8_S8x270000x8

/-- A small index passes the range test. -/
theorem inside (z : BitVec 32) (k n : ℕ) (h : z = BitVec.ofNat 32 k) (hk : k ≤ n) (hn : n < 2147483648) :
    IntOp.andi (IntOp.cmpi .sge z 0#32) (IntOp.cmpi .sle z (BitVec.ofNat 32 n)) = 1#1 := by
  have e1 : IntOp.cmpi .sge z 0#32 = BitVec.ofBool (decide (0 ≤ z.toInt)) := rfl
  have e2 : IntOp.cmpi .sle z (BitVec.ofNat 32 n) = BitVec.ofBool (decide (z.toInt ≤ (BitVec.ofNat 32 n).toInt)) := rfl
  rw [e1, e2, h, toInt_small _ (by omega), toInt_small _ (by omega)]
  simp [hk, IntOp.andi]

/-- A choice whose test holds. -/
theorem passed (c : BitVec 1) (x y : EReal) (h : c = 1#1) : Scalar.select (IntOp.andi c 1#1) x y = x := by
  subst h; rfl

/-- The marks of a row in the order of the sorted columns. -/
theorem sortedC_apply (b : Fin 8) (p : Fin 30) (q : Fin 9000) :
    sortedC V (ix3 b p q) = (fun q' => if cellsR V b p q' = mode (cellsR V b) q' then (1 : EReal) else 0)
      (sortedFrom (fun k k' => decide (colN (cellsR V b) k < colN (cellsR V b) k')) q) := by
  have e := gatherC_apply (res_main_v12 V) (res_main_call3_v5 V) b p q _ (call3_apply V b q)
  have i := inside _ _ 8999 (call3_apply V b q) (by omega) (by omega)
  unfold sortedC
  clean_types
  pointwise
  rw [Finset.univ_unique, Finset.fold_singleton]
  exact (passed _ _ _ i).trans (e.trans (v12_apply V b p _))

/-- The marks of a column in the order of the sorted rows. -/
theorem sortedR_apply (b : Fin 8) (p : Fin 30) (q : Fin 9000) :
    sortedR V (ix3 b p q) = (fun p' => if cellsR V b p' q = mode (cellsR V b) q then (1 : EReal) else 0)
      (sortedFrom (fun k k' => decide (rowN (cellsR V b) k < rowN (cellsR V b) k')) p) := by
  have e := gatherR_apply (res_main_v12 V) (res_main_call4_v4 V) b p q _ (call4_apply V b p)
  have i := inside _ _ 29 (call4_apply V b p) (by omega) (by omega)
  unfold sortedR
  clean_types
  pointwise
  rw [Finset.univ_unique, Finset.fold_singleton]
  exact (passed _ _ _ i).trans (e.trans (v12_apply V b _ q))

/-- The mean of a row over each third of the sorted columns. -/
theorem meanC_apply (b : Fin 8) (p : Fin 30) (k : Fin 3) :
    meanC V (ix3 b p k) = Ideal.div (rowK (cellsR V b) k.val p : ℕ) (Ideal.ofBits .f32 0x453B8000#32) := by
  have h := sortedC_apply V b p
  unfold meanC
  generalize sortedC V = z at h ⊢
  pointwise
  have e : (∑ x : Fin 3000, (fun c : Fin 9000 => z (ix3 b p c)) ⟨3000 * k.val + x.val, by omega⟩ : EReal) = (rowK (cellsR V b) k.val p : ℕ) := by
    simp only [h]
    refine (sum_run (colN (cellsR V b)) (fun q' => if cellsR V b p q' = mode (cellsR V b) q' then (1 : EReal) else 0) 3000 k.val (by norm_num) (by omega)).trans ?_
    refine Eq.trans (Finset.sum_congr rfl fun x _ => ?_) (count_ind _)
    exact (ite_and _ _ _ _).symm
  refine congrArg (fun v : EReal => Ideal.div v (Ideal.ofBits .f32 0x453B8000#32)) (Eq.trans (Finset.sum_congr rfl fun x _ => ?_) e)
  refine congrArg z (congrArg (fun c : Fin 9000 => ix3 b p c) (Fin.ext ?_))
  show k.val * 3000 + x.val = 3000 * k.val + x.val
  rw [Nat.mul_comm]

/-- The mean of a column over each third of the sorted rows. -/
theorem meanR_apply (b : Fin 8) (k : Fin 3) (q : Fin 9000) :
    meanR V (ix3 b k q) = Ideal.div (colK (cellsR V b) k.val q : ℕ) (Ideal.ofBits .f32 0x41200000#32) := by
  have h := fun c => sortedR_apply V b c q
  unfold meanR
  generalize sortedR V = z at h ⊢
  pointwise
  have e : (∑ x : Fin 10, (fun c : Fin 30 => z (ix3 b c q)) ⟨10 * k.val + x.val, by omega⟩ : EReal) = (colK (cellsR V b) k.val q : ℕ) := by
    simp only [h]
    refine (sum_run (rowN (cellsR V b)) (fun p' => if cellsR V b p' q = mode (cellsR V b) q then (1 : EReal) else 0) 10 k.val (by norm_num) (by omega)).trans ?_
    refine Eq.trans (Finset.sum_congr rfl fun x _ => ?_) (count_ind _)
    exact (ite_and _ _ _ _).symm
  refine congrArg (fun v : EReal => Ideal.div v (Ideal.ofBits .f32 0x41200000#32)) (Eq.trans (Finset.sum_congr rfl fun x _ => ?_) e)
  refine congrArg z (congrArg (fun c : Fin 30 => ix3 b c q) (Fin.ext ?_))
  show k.val * 10 + x.val = 10 * k.val + x.val
  rw [Nat.mul_comm]

/-- Where an entry stands among all of a batch's entries. -/
def at2 (p : Fin 30) (q : Fin 9000) : Fin 270000 := ⟨p.val * 9000 + q.val, by omega⟩

/-- The eight features of an entry: four of its row, four of its column. -/
theorem feat_apply (b : Fin 8) (p : Fin 30) (q : Fin 9000) (k : Fin 8) :
    feat V (ix3 b (at2 p q) k) = if h : k.val < 4 then fa (cellsR V b) p ⟨k.val, h⟩ else fd (cellsR V b) q ⟨k.val - 4, by omega⟩ := by
  have e1 : (at2 p q).val / 9000 = p.val := by unfold at2; show (p.val * 9000 + q.val) / 9000 = _; omega
  have e2 : (at2 p q).val % 9000 = q.val := by unfold at2; show (p.val * 9000 + q.val) % 9000 = _; omega
  have f1 : ∀ h : (at2 p q).val / 9000 < 30, (⟨(at2 p q).val / 9000, h⟩ : Fin 30) = p := fun _ => Fin.ext e1
  have f2 : ∀ h : (at2 p q).val % 9000 < 9000, (⟨(at2 p q).val % 9000, h⟩ : Fin 9000) = q := fun _ => Fin.ext e2
  unfold feat
  pointwise
  simp only [f1, f2, v15_apply, v18_apply, meanC_apply, meanR_apply]
  fin_cases k <;> rfl

end Cert.Proof.Ref

end
-- ==== Proof.RNet.lean ====
module
public import proofs.«01_k».proof.Proof.RRows
public import Idealize.ShloMosaic.Lib.StackMember
@[expose] public section
set_option maxRecDepth 20000
noncomputable section

/-! The reference's two networks. -/

namespace Cert.Proof.Ref
open Idealize.ShloMosaic Idealize.ShloMosaic.TcCoe Idealize.SL.Sem Cert.ReferenceIdeal Cert.ReferenceIdeal.Gen Cert.ReferenceIdeal.Value Cert.Proof.Spec Cert.Proof.Num

variable (V : Valuation τ sig (Elt Ideal))

/-- The weights as the arguments hold them. -/
def wts : Wts where
  a0 i k := (V (Proc.devRef .tc main_arg2) : FVec Ideal S10x8 .f32) (ix2 i ⟨k.val, by omega⟩)
  d0 i k := (V (Proc.devRef .tc main_arg2) : FVec Ideal S10x8 .f32) (ix2 i ⟨4 + k.val, by omega⟩)
  b0 i := (V (Proc.devRef .tc main_arg3) : FVec Ideal S10 .f32) (ix1 i)
  w1 i k := (V (Proc.devRef .tc main_arg4) : FVec Ideal S10x10 .f32) (ix2 i k)
  b1 i := (V (Proc.devRef .tc main_arg5) : FVec Ideal S10 .f32) (ix1 i)
  w2 i k := (V (Proc.devRef .tc main_arg6) : FVec Ideal S10x10 .f32) (ix2 i k)
  b2 i := (V (Proc.devRef .tc main_arg7) : FVec Ideal S10 .f32) (ix1 i)
  w3 i k := (V (Proc.devRef .tc main_arg8) : FVec Ideal S1x10 .f32) (ix2 i k)
  b3 i := (V (Proc.devRef .tc main_arg9) : FVec Ideal S1 .f32) (ix1 i)
  r0 i k := (V (Proc.devRef .tc main_arg10) : FVec Ideal S15x30 .f32) (ix2 i k)
  c0 i := (V (Proc.devRef .tc main_arg11) : FVec Ideal S15 .f32) (ix1 i)
  r1 i k := (V (Proc.devRef .tc main_arg12) : FVec Ideal S15x15 .f32) (ix2 i k)
  c1 i := (V (Proc.devRef .tc main_arg13) : FVec Ideal S15 .f32) (ix1 i)
  r2 i k := (V (Proc.devRef .tc main_arg14) : FVec Ideal S15x15 .f32) (ix2 i k)
  c2 i := (V (Proc.devRef .tc main_arg15) : FVec Ideal S15 .f32) (ix1 i)
  r3 i k := (V (Proc.devRef .tc main_arg16) : FVec Ideal S1x15 .f32) (ix2 i k)
  c3 i := (V (Proc.devRef .tc main_arg17) : FVec Ideal S1 .f32) (ix1 i)

/-- A product of a stack of matrices by one matrix, read at an index: the sum over the one contracted coordinate. -/
theorem dot3_apply {A B K N : ℕ} (w : DotDims.WF ⟨3, ![A, B, K]⟩ ⟨2, ![K, N]⟩ ⟨3, ![A, B, N]⟩ [2] [0] [0, 1] [1] [] [])
    (x : FVec Ideal ⟨3, ![A, B, K]⟩ .f32) (y : FVec Ideal ⟨2, ![K, N]⟩ .f32) (a : Fin A) (b : Fin B) (i : Fin N) :
    (Host.dotGeneral (⟨[2], [0], [0, 1], [1], [], [], w⟩ : DotDims _ _ _) none x y : FVec Ideal ⟨3, ![A, B, N]⟩ .f32) (ix3 a b i)
      = ∑ k : Fin K, x (ix3 a b k) * y (ix2 k i) := by
  refine (Ideal.dotGeneral_apply _ none _ x y (ix3 a b i)).trans ((DotDims.sum_contr₁ _ (a := (2 : Fin 3)) rfl (K := K) rfl _).trans ?_)
  refine Finset.sum_congr rfl fun k _ => congrArg₂ (fun u v : EReal => u * v) (congrArg x (funext fun t => ?_)) (congrArg y (funext fun t => ?_))
  all_goals fin_cases t <;> rfl

/-- The same of two matrices. -/
theorem dot2_apply {B K N : ℕ} (w : DotDims.WF ⟨2, ![B, K]⟩ ⟨2, ![K, N]⟩ ⟨2, ![B, N]⟩ [1] [0] [0] [1] [] [])
    (x : FVec Ideal ⟨2, ![B, K]⟩ .f32) (y : FVec Ideal ⟨2, ![K, N]⟩ .f32) (b : Fin B) (i : Fin N) :
    (Host.dotGeneral (⟨[1], [0], [0], [1], [], [], w⟩ : DotDims _ _ _) none x y : FVec Ideal ⟨2, ![B, N]⟩ .f32) (ix2 b i)
      = ∑ k : Fin K, x (ix2 b k) * y (ix2 k i) :=
  StackMember.dotGeneral_plain_apply none x y b i

/-- A sum of products with the factors swapped, and its addend. -/
theorem lin_of {n k : ℕ} (A : Fin n → Fin k → EReal) (b : Fin n → EReal) (v : Fin k → EReal) (i : Fin n) :
    (∑ j, v j * A i j) + b i = lin A b v i := by
  unfold lin
  simp only [mul_comm]

/-! The first network at any weights and inputs, layer by layer. -/
section layers
variable {F : FTy → Type} [FloatOps F]
def in8 (w : FVec F S10x8 .f32) (z : FVec F S8x270000x8 .f32) : FVec F S8x270000x10 .f32 :=
  Host.dotGeneral dot_S8x270000x8_S8x10_S8x270000x10_2_0_01_1_n_n none z (transpose S8x10 [1, 0] w transposes_S10x8_S8x10_1_0)
def in10 (w : FVec F S10x10 .f32) (z : FVec F S8x270000x10 .f32) : FVec F S8x270000x10 .f32 :=
  Host.dotGeneral dot_S8x270000x10_S10x10_S8x270000x10_2_0_01_1_n_n none z (transpose S10x10 [1, 0] w transposes_S10x10_S10x10_1_0)
def out10 (w : FVec F S1x10 .f32) (z : FVec F S8x270000x10 .f32) : FVec F S8x270000x1 .f32 :=
  Host.dotGeneral dot_S8x270000x10_S10x1_S8x270000x1_2_0_01_1_n_n none z (transpose S10x1 [1, 0] w transposes_S1x10_S10x1_1_0)
def act (u : FVec F S10 .f32) (z : FVec F S8x270000x10 .f32) : FVec F S8x270000x10 .f32 :=
  maximumf (addf z (broadcastInDim S8x270000x10 ![0, 1, 2] bcast_S1x1x10_S8x270000x10_0_1_2 (broadcastInDim S1x1x10 ![2] bcast_S10_S1x1x10_2 u))) (broadcastInDim S8x270000x10 ![] bcast_S_S8x270000x10 (constant S_ .f32 0x00000000#32))
def lgt (u : FVec F S1 .f32) (z : FVec F S8x270000x1 .f32) : FVec F S8x270000 .f32 :=
  shapeCast S8x270000 (Host.divf (broadcastInDim S8x270000x1 ![] bcast_S_S8x270000x1 (constant S_ .f32 0x3F800000#32)) (addf (broadcastInDim S8x270000x1 ![] bcast_S_S8x270000x1 (constant S_ .f32 0x3F800000#32)) (Host.exp (Host.negf (addf z (broadcastInDim S8x270000x1 ![0, 1, 2] bcast_S1x1x1_S8x270000x1_0_1_2 (broadcastInDim S1x1x1 ![2] bcast_S1_S1x1x1_2 u))))))) shapeCasts_S8x270000x1_S8x270000
end layers

/-- The first layer's product, read at an index. -/
theorem in8_apply (w : FVec Ideal S10x8 .f32) (z : FVec Ideal S8x270000x8 .f32) (b : Fin 8) (r : Fin 270000) (i : Fin 10) :
    in8 w z (ix3 b r i) = ∑ k : Fin 8, z (ix3 b r k) * w (ix2 i k) := by
  refine (dot3_apply _ z _ b r i).trans (Finset.sum_congr rfl fun k _ => congrArg (fun y : EReal => z (ix3 b r k) * y) ?_)
  pointwise
/-- An inner layer's product, read at an index. -/
theorem in10_apply (w : FVec Ideal S10x10 .f32) (z : FVec Ideal S8x270000x10 .f32) (b : Fin 8) (r : Fin 270000) (i : Fin 10) :
    in10 w z (ix3 b r i) = ∑ k : Fin 10, z (ix3 b r k) * w (ix2 i k) := by
  refine (dot3_apply _ z _ b r i).trans (Finset.sum_congr rfl fun k _ => congrArg (fun y : EReal => z (ix3 b r k) * y) ?_)
  pointwise
/-- The last layer's product, read at an index. -/
theorem out10_apply (w : FVec Ideal S1x10 .f32) (z : FVec Ideal S8x270000x10 .f32) (b : Fin 8) (r : Fin 270000) :
    out10 w z (ix3 b r 0) = ∑ k : Fin 10, z (ix3 b r k) * w (ix2 0 k) := by
  refine (dot3_apply _ z _ b r 0).trans (Finset.sum_congr rfl fun k _ => congrArg (fun y : EReal => z (ix3 b r k) * y) ?_)
  pointwise
/-- Bias and rectifier, read at an index. -/
theorem act_apply (u : FVec Ideal S10 .f32) (z : FVec Ideal S8x270000x10 .f32) (b : Fin 8) (r : Fin 270000) (i : Fin 10) :
    act u z (ix3 b r i) = max (z (ix3 b r i) + u (ix1 i)) 0 := by
  pointwise [act]
/-- Bias and logistic function, read at an index. -/
theorem lgt_apply (u : FVec Ideal S1 .f32) (z : FVec Ideal S8x270000x1 .f32) (b : Fin 8) (r : Fin 270000) :
    lgt u z (ix2 b r) = Ideal.logistic (z (ix3 b r 0) + u (ix1 0)) := by
  pointwise [lgt]
  rfl

def hid0 : FVec Ideal S8x270000x10 .f32 := act (V (Proc.devRef .tc main_arg3)) (in8 (V (Proc.devRef .tc main_arg2)) (feat V))
def hid1 : FVec Ideal S8x270000x10 .f32 := act (V (Proc.devRef .tc main_arg5)) (in10 (V (Proc.devRef .tc main_arg4)) (hid0 V))
def hid2 : FVec Ideal S8x270000x10 .f32 := act (V (Proc.devRef .tc main_arg7)) (in10 (V (Proc.devRef .tc main_arg6)) (hid1 V))

/-- The reference's last product in the notation above. -/
theorem v63_eq : (res_main_v63 V : FVec Ideal S8x270000x1 .f32) = out10 (V (Proc.devRef .tc main_arg8)) (hid2 V) := rfl
/-- The reference's first network in the notation above. -/
theorem v73_eq : (res_main_v73 V : FVec Ideal S8x270000 .f32) = lgt (V (Proc.devRef .tc main_arg9)) (res_main_v63 V) := rfl

/-- A product over eight inputs, the first four and the last four apart. -/
theorem split8 (f : Fin 8 → EReal) (A D : Fin 4 → EReal) (u : EReal) (hA : ∀ k : Fin 4, f ⟨k.val, by omega⟩ = A k) (hD : ∀ k : Fin 4, f ⟨4 + k.val, by omega⟩ = D k) :
    (∑ k, f k) + u = (∑ k, A k) + ((∑ k, D k) + u) := by
  have e : ∑ k : Fin (4 + 4), f k = _ := Fin.sum_univ_add (fun k : Fin (4 + 4) => f k)
  refine (congrArg (fun y : EReal => y + u) e).trans ?_
  rw [add_assoc]
  exact congrArg₂ (fun y z : EReal => y + (z + u)) (Finset.sum_congr rfl fun k _ => hA k) (Finset.sum_congr rfl fun k _ => hD k)

/-- The first hidden layer at an entry. -/
theorem hid0_apply (b : Fin 8) (p : Fin 30) (q : Fin 9000) (i : Fin 10) :
    hid0 V (ix3 b (at2 p q) i) = max ((∑ k, (wts V).a0 i k * fa (cellsR V b) p k) + ((∑ k, (wts V).d0 i k * fd (cellsR V b) q k) + (wts V).b0 i)) 0 := by
  have h := feat_apply V b p q
  unfold hid0
  rw [act_apply, in8_apply]
  refine congrArg (fun y : EReal => max y 0) (split8 _ _ _ _ (fun k => ?_) fun k => ?_)
  · have hk : (⟨k.val, by omega⟩ : Fin 8).val < 4 := k.isLt
    rw [h, dif_pos hk, mul_comm]; rfl
  · have hk : ¬ (⟨4 + k.val, by omega⟩ : Fin 8).val < 4 := by simp
    rw [h, dif_neg hk, mul_comm]
    have e : (⟨(⟨4 + k.val, by omega⟩ : Fin 8).val - 4, by simp⟩ : Fin 4) = k := Fin.ext (by simp)
    exact congrArg (fun y : Fin 4 => (wts V).d0 i k * fd (cellsR V b) q y) e

/-- The second hidden layer at an entry. -/
theorem hid1_apply (b : Fin 8) (r : Fin 270000) (i : Fin 10) :
    hid1 V (ix3 b r i) = max (lin (wts V).w1 (wts V).b1 (fun j => hid0 V (ix3 b r j)) i) 0 := by
  unfold hid1
  rw [act_apply, in10_apply, ← lin_of]; rfl

/-- The third hidden layer at an entry. -/
theorem hid2_apply (b : Fin 8) (r : Fin 270000) (i : Fin 10) :
    hid2 V (ix3 b r i) = max (lin (wts V).w2 (wts V).b2 (fun j => hid1 V (ix3 b r j)) i) 0 := by
  unfold hid2
  rw [act_apply, in10_apply, ← lin_of]; rfl

/-- The first network's output over its last hidden layer. -/
theorem v73_lin (b : Fin 8) (r : Fin 270000) :
    (res_main_v73 V : FVec Ideal S8x270000 .f32) (ix2 b r) = Ideal.logistic (lin (wts V).w3 (wts V).b3 (fun j => hid2 V (ix3 b r j)) 0) := by
  rw [v73_eq, v63_eq, lgt_apply, out10_apply, ← lin_of]; rfl

/-- The first network at an entry. -/
theorem v73_apply (b : Fin 8) (p : Fin 30) (q : Fin 9000) :
    (res_main_v73 V : FVec Ideal S8x270000 .f32) (ix2 b (at2 p q)) = agree (wts V) (cellsR V b) p q := by
  rw [v73_lin]
  simp only [hid2_apply, hid1_apply, hid0_apply]
  rfl

end Cert.Proof.Ref

end
-- ==== Proof.RNet2.lean ====
module
public import proofs.«01_k».proof.Proof.RNet
@[expose] public section
set_option maxRecDepth 20000
noncomputable section

/-! The reference's second network. -/

namespace Cert.Proof.Ref
open Idealize.ShloMosaic Idealize.ShloMosaic.TcCoe Idealize.SL.Sem Cert.ReferenceIdeal Cert.ReferenceIdeal.Gen Cert.ReferenceIdeal.Value Cert.Proof.Spec Cert.Proof.Num

variable (V : Valuation τ sig (Elt Ideal))

/-! The second network at any weights and inputs, layer by layer. -/
section layers
variable {F : FTy → Type} [FloatOps F]
/-- What the second network is fed: for every column and class, the rows' shares. -/
def shares (M : IVec S8x30x9000 32) (y : FVec F S8x9000x30 .f32) : FVec F S288000x30 .f32 :=
  shapeCast S288000x30 (select (cmpi .eq (broadcastInDim S8x9000x4x30 ![0, 1, 2, 3] bcast_S8x9000x1x30_S8x9000x4x30_0_1_2_3 (broadcastInDim S8x9000x1x30 ![0, 1, 3] bcast_S8x9000x30_S8x9000x1x30_0_1_3 (transpose S8x9000x30 [0, 2, 1] M transposes_S8x30x9000_S8x9000x30_0_2_1))) (broadcastInDim S8x9000x4x30 ![0, 1, 2, 3] bcast_S1x1x4x1_S8x9000x4x30_0_1_2_3 (broadcastInDim S1x1x4x1 ![2] bcast_S4_S1x1x4x1_2 (iotaInDim S4 32 0)))) (broadcastInDim S8x9000x4x30 ![0, 1, 2, 3] bcast_S8x9000x1x30_S8x9000x4x30_0_1_2_3 (broadcastInDim S8x9000x1x30 ![0, 1, 3] bcast_S8x9000x30_S8x9000x1x30_0_1_3 y)) (broadcastInDim S8x9000x4x30 ![0, 1, 2, 3] bcast_S8x9000x1x30_S8x9000x4x30_0_1_2_3 (Host.divf (subf (broadcastInDim S8x9000x1x30 ![] bcast_S_S8x9000x1x30 (constant S_ .f32 0x3F800000#32)) (broadcastInDim S8x9000x1x30 ![0, 1, 3] bcast_S8x9000x30_S8x9000x1x30_0_1_3 y)) (broadcastInDim S8x9000x1x30 ![] bcast_S_S8x9000x1x30 (constant S_ .f32 0x40400000#32))))) shapeCasts_S8x9000x4x30_S288000x30
def in30 (w : FVec F S15x30 .f32) (z : FVec F S288000x30 .f32) : FVec F S288000x15 .f32 :=
  Host.dotGeneral dot_S288000x30_S30x15_S288000x15_1_0_0_1_n_n none z (transpose S30x15 [1, 0] w transposes_S15x30_S30x15_1_0)
def in15 (w : FVec F S15x15 .f32) (z : FVec F S288000x15 .f32) : FVec F S288000x15 .f32 :=
  Host.dotGeneral dot_S288000x15_S15x15_S288000x15_1_0_0_1_n_n none z (transpose S15x15 [1, 0] w transposes_S15x15_S15x15_1_0)
def out15 (w : FVec F S1x15 .f32) (z : FVec F S288000x15 .f32) : FVec F S288000x1 .f32 :=
  Host.dotGeneral dot_S288000x15_S15x1_S288000x1_1_0_0_1_n_n none z (transpose S15x1 [1, 0] w transposes_S1x15_S15x1_1_0)
def act15 (u : FVec F S15 .f32) (z : FVec F S288000x15 .f32) : FVec F S288000x15 .f32 :=
  Host.tanh (addf z (broadcastInDim S288000x15 ![0, 1] bcast_S1x15_S288000x15_0_1 (broadcastInDim S1x15 ![1] bcast_S15_S1x15_1 u)))
def outs (u : FVec F S1 .f32) (z : FVec F S288000x1 .f32) : FVec F S72000x4 .f32 :=
  shapeCast S72000x4 (addf z (broadcastInDim S288000x1 ![0, 1] bcast_S1x1_S288000x1_0_1 (broadcastInDim S1x1 ![1] bcast_S1_S1x1_1 u))) shapeCasts_S288000x1_S72000x4
def turn (y : FVec F S8x270000 .f32) : FVec F S8x9000x30 .f32 :=
  transpose S8x9000x30 [0, 2, 1] (shapeCast S8x30x9000 y shapeCasts_S8x270000_S8x30x9000) transposes_S8x30x9000_S8x9000x30_0_2_1
end layers

/-- The first layer's product, read at an index. -/
theorem in30_apply (w : FVec Ideal S15x30 .f32) (z : FVec Ideal S288000x30 .f32) (r : Fin 288000) (i : Fin 15) :
    in30 w z (ix2 r i) = ∑ k : Fin 30, z (ix2 r k) * w (ix2 i k) := by
  refine (dot2_apply _ z _ r i).trans (Finset.sum_congr rfl fun k _ => congrArg (fun y : EReal => z (ix2 r k) * y) ?_)
  pointwise
/-- An inner layer's product, read at an index. -/
theorem in15_apply (w : FVec Ideal S15x15 .f32) (z : FVec Ideal S288000x15 .f32) (r : Fin 288000) (i : Fin 15) :
    in15 w z (ix2 r i) = ∑ k : Fin 15, z (ix2 r k) * w (ix2 i k) := by
  refine (dot2_apply _ z _ r i).trans (Finset.sum_congr rfl fun k _ => congrArg (fun y : EReal => z (ix2 r k) * y) ?_)
  pointwise
/-- The last layer's product, read at an index. -/
theorem out15_apply (w : FVec Ideal S1x15 .f32) (z : FVec Ideal S288000x15 .f32) (r : Fin 288000) :
    out15 w z (ix2 r 0) = ∑ k : Fin 15, z (ix2 r k) * w (ix2 0 k) := by
  refine (dot2_apply _ z _ r 0).trans (Finset.sum_congr rfl fun k _ => congrArg (fun y : EReal => z (ix2 r k) * y) ?_)
  pointwise
/-- Bias and rectifier, read at an index. -/
theorem act15_apply (u : FVec Ideal S15 .f32) (z : FVec Ideal S288000x15 .f32) (r : Fin 288000) (i : Fin 15) :
    act15 u z (ix2 r i) = Ideal.tanh (z (ix2 r i) + u (ix1 i)) := by
  pointwise [act15]

/-- Where a column, and a column's class, stand among all the batches'. -/
def at1 (b : Fin 8) (q : Fin 9000) : Fin 72000 := ⟨b.val * 9000 + q.val, by omega⟩
def at3 (b : Fin 8) (q : Fin 9000) (s : Fin 4) : Fin 288000 := ⟨(b.val * 9000 + q.val) * 4 + s.val, by omega⟩

/-- The last bias added and the outputs laid out by column and class. -/
theorem outs_apply (u : FVec Ideal S1 .f32) (z : FVec Ideal S288000x1 .f32) (b : Fin 8) (q : Fin 9000) (s : Fin 4) :
    outs u z (ix2 (at1 b q) s) = z (ix2 (at3 b q s) 0) + u (ix1 0) := by
  pointwise [outs]
  have e : (⟨(at1 b q).val * 4 + s.val, by unfold at1; dsimp only; omega⟩ : Fin 288000) = at3 b q s := rfl
  exact congrArg (fun k : Fin 288000 => z (ix2 k 0) + u (ix1 0)) e

/-- The first network's outputs with rows and columns exchanged. -/
theorem turn_apply (y : FVec Ideal S8x270000 .f32) (b : Fin 8) (p : Fin 30) (q : Fin 9000) :
    turn y (ix3 b q p) = y (ix2 b (at2 p q)) := by
  pointwise [turn]
  rfl

/-- What the second network is given of an entry for each class. -/
theorem shares_apply (M : IVec S8x30x9000 32) (y : FVec Ideal S8x9000x30 .f32) (b : Fin 8) (q : Fin 9000) (s : Fin 4) (p : Fin 30) :
    shares M y (ix2 (at3 b q s) p) = share (M (ix3 b p q)) (BitVec.ofNat 32 s.val) (y (ix3 b q p)) := by
  pointwise [shares]
  have e1 : (⟨(at3 b q s).val / 36000, by omega⟩ : Fin 8) = b := Fin.ext (by show ((b.val * 9000 + q.val) * 4 + s.val) / 36000 = b.val; omega)
  have e2 : (⟨(at3 b q s).val / 4 % 9000, by omega⟩ : Fin 9000) = q := Fin.ext (by show ((b.val * 9000 + q.val) * 4 + s.val) / 4 % 9000 = q.val; omega)
  have e3 : (at3 b q s).val % 4 = s.val := by show ((b.val * 9000 + q.val) * 4 + s.val) % 4 = s.val; omega
  rw [e1, e2, e3]
  unfold share
  by_cases h : M (ix3 b p q) = BitVec.ofNat 32 s.val
  · rw [if_pos h, h]
    exact if_pos (by show BitVec.ofBool (decide (_ = _)) = 1#1; simp)
  · rw [if_neg h]
    exact if_neg (by show ¬ BitVec.ofBool (decide (_ = _)) = 1#1; simp [h])

def deep0 : FVec Ideal S288000x15 .f32 := act15 (V (Proc.devRef .tc main_arg11)) (in30 (V (Proc.devRef .tc main_arg10)) (shares (V (Proc.devRef .tc main_arg0)) (res_main_v76 V)))
def deep1 : FVec Ideal S288000x15 .f32 := act15 (V (Proc.devRef .tc main_arg13)) (in15 (V (Proc.devRef .tc main_arg12)) (deep0 V))
def deep2 : FVec Ideal S288000x15 .f32 := act15 (V (Proc.devRef .tc main_arg15)) (in15 (V (Proc.devRef .tc main_arg14)) (deep1 V))

/-- The reference's exchanged outputs in the notation above. -/
theorem v76_eq : (res_main_v76 V : FVec Ideal S8x9000x30 .f32) = turn (res_main_v73 V) := rfl
/-- The reference's scores in the notation above. -/
theorem v114_eq : (res_main_v114 V : FVec Ideal S72000x4 .f32) = outs (V (Proc.devRef .tc main_arg17)) (out15 (V (Proc.devRef .tc main_arg16)) (deep2 V)) := rfl

/-- The first hidden layer for a column and a class. -/
theorem deep0_apply (b : Fin 8) (q : Fin 9000) (s : Fin 4) (i : Fin 15) :
    deep0 V (ix2 (at3 b q s) i) = Ideal.tanh (lin (wts V).r0 (wts V).c0 (fun p => share (cellsR V b p q) (BitVec.ofNat 32 s.val) (agree (wts V) (cellsR V b) p q)) i) := by
  unfold deep0
  rw [act15_apply, in30_apply, ← lin_of]
  refine congrArg (fun y : EReal => Ideal.tanh (y + (wts V).c0 i)) (Finset.sum_congr rfl fun p _ => congrArg (fun y : EReal => y * (wts V).r0 i p) ?_)
  rw [shares_apply, v76_eq, turn_apply, v73_apply]
  rfl

/-- The second hidden layer. -/
theorem deep1_apply (r : Fin 288000) (i : Fin 15) :
    deep1 V (ix2 r i) = Ideal.tanh (lin (wts V).r1 (wts V).c1 (fun j => deep0 V (ix2 r j)) i) := by
  unfold deep1
  rw [act15_apply, in15_apply, ← lin_of]; rfl

/-- The third hidden layer. -/
theorem deep2_apply (r : Fin 288000) (i : Fin 15) :
    deep2 V (ix2 r i) = Ideal.tanh (lin (wts V).r2 (wts V).c2 (fun j => deep1 V (ix2 r j)) i) := by
  unfold deep2
  rw [act15_apply, in15_apply, ← lin_of]; rfl

/-- The second network at a column's class. -/
theorem v114_apply (b : Fin 8) (q : Fin 9000) (s : Fin 4) :
    (res_main_v114 V : FVec Ideal S72000x4 .f32) (ix2 (at1 b q) s)
      = net2 (wts V) fun p => share (cellsR V b p q) (BitVec.ofNat 32 s.val) (agree (wts V) (cellsR V b) p q) := by
  have e : (res_main_v114 V : FVec Ideal S72000x4 .f32) (ix2 (at1 b q) s)
      = lin (wts V).r3 (wts V).c3 (fun j => deep2 V (ix2 (at3 b q s) j)) 0 := by
    rw [v114_eq, outs_apply, out15_apply, ← lin_of]; rfl
  rw [e]
  simp only [deep2_apply, deep1_apply, deep0_apply]
  rfl

end Cert.Proof.Ref

end
-- ==== Proof.RLoss.lean ====
module
public import proofs.«01_k».proof.Proof.RNet2
public import proofs.«01_k».proof.Proof.RefRun
@[expose] public section
set_option maxRecDepth 20000
noncomputable section

/-! The reference's two losses. -/

namespace Cert.Proof.Ref
open Idealize.ShloMosaic Idealize.ShloMosaic.TcCoe Idealize.SL.Sem Cert.ReferenceIdeal Cert.ReferenceIdeal.Gen Cert.ReferenceIdeal.Value Cert.Proof.Spec Cert.Proof.Num

variable (V : Valuation τ sig (Elt Ideal))

/-- The known alleles as the argument holds them. -/
def known (b : Fin 8) (q : Fin 9000) : BitVec 32 := (V (Proc.devRef .tc main_arg1) : IVec S8x9000 32) (ix2 b q)

section pieces
variable {F : FTy → Type} [FloatOps F]
/-- Scores less the largest of their row. -/
def less (z : FVec F S72000x4 .f32) : FVec F S72000x4 .f32 :=
  subf z (broadcastInDim S72000x4 ![0, 1] bcast_S72000x1_S72000x4_0_1 (broadcastInDim S72000x1 ![0] bcast_S72000_S72000x1_0 (maximumf (broadcastInDim S72000 ![] bcast_S_S72000 (constant S_ .f32 0xFF800000#32)) (Host.reduce FloatOps.maximumf z (constant S_ .f32 0xFF800000#32) reducesTo_S72000x4_S72000_d1 h_S_))))
/-- The sums of the rows. -/
def tots (z : FVec F S72000x4 .f32) : FVec F S72000x1 .f32 :=
  broadcastInDim S72000x1 ![0] bcast_S72000_S72000x1_0 (Host.reduceAdd z (constant S_ .f32 0x00000000#32) reducesTo_S72000x4_S72000_d1 h_S_)
def over (z : FVec F S72000x4 .f32) : FVec F S72000x4 .f32 :=
  Host.divf z (broadcastInDim S72000x4 ![0, 1] bcast_S72000x1_S72000x4_0_1 (tots z))
def sublog (z : FVec F S72000x4 .f32) : FVec F S72000x4 .f32 :=
  subf z (broadcastInDim S72000x4 ![0, 1] bcast_S72000x1_S72000x4_0_1 (Host.log (tots (Host.exp z))))
/-- The score at the known class. -/
def taken (k : IVec S72000x1x1 32) (z : FVec F S72000x4 .f32) : FVec F S72000x1 .f32 :=
  select (Host.reduce IntOp.andi (andi (cmpi .sge k (broadcastInDim S72000x1x1 ![] bcast_S_S72000x1x1 (constantI S_ 32 0#32))) (cmpi .sle k (broadcastInDim S72000x1x1 ![0, 1, 2] bcast_S1x1x1_S72000x1x1_0_1_2 (broadcastInDim S1x1x1 ![2] bcast_S1_S1x1x1_2 (constantI S1 32 3#32))))) (constantI S_ 1 1#1) reducesTo_S72000x1x1_S72000x1_d2 h_S_) (Host.gather gather_S72000x4_S72000x1x1_S72000x1_n_1_0_0_1_2_11 z k) (broadcastInDim S72000x1 ![] bcast_S_S72000x1 (constant S_ .f32 0x7FC00000#32))
def nll (z : FVec F S72000x1 .f32) : FVec F S1x1 .f32 :=
  shapeCast S1x1 (Host.negf (Host.divf (Host.reduceAdd z (constant S_ .f32 0x00000000#32) reducesTo_S72000x1_S_d0_1 h_S_) (constant S_ .f32 0x478CA000#32))) shapeCasts_S_S1x1
def bce (t y : FVec F S8x270000 .f32) : FVec F S1x1 .f32 :=
  shapeCast S1x1 (Host.negf (Host.divf (Host.reduceAdd (addf (mulf t (maximumf (Host.log y) (broadcastInDim S8x270000 ![] bcast_S_S8x270000 (constant S_ .f32 0xC2C80000#32)))) (mulf (subf (broadcastInDim S8x270000 ![] bcast_S_S8x270000 (constant S_ .f32 0x3F800000#32)) t) (maximumf (Host.log (subf (broadcastInDim S8x270000 ![] bcast_S_S8x270000 (constant S_ .f32 0x3F800000#32)) y)) (broadcastInDim S8x270000 ![] bcast_S_S8x270000 (constant S_ .f32 0xC2C80000#32))))) (constant S_ .f32 0x00000000#32) reducesTo_S8x270000_S_d0_1 h_S_) (constant S_ .f32 0x4A03D600#32))) shapeCasts_S_S1x1
/-- Which entries equal their column's known allele. -/
def same (M : IVec S8x30x9000 32) (G : IVec S8x9000 32) : FVec F S8x270000 .f32 :=
  shapeCast S8x270000 (uitofp .f32 (cmpi .eq M (broadcastInDim S8x30x9000 ![0, 1, 2] bcast_S8x1x9000_S8x30x9000_0_1_2 (broadcastInDim S8x1x9000 ![0, 2] bcast_S8x9000_S8x1x9000_0_2 G)))) shapeCasts_S8x30x9000_S8x270000
def column (G : IVec S8x9000 32) : IVec S72000x1 32 :=
  broadcastInDim S72000x1 ![0] bcast_S72000_S72000x1_0 (shapeCast S72000 G shapeCasts_S8x9000_S72000)
def klass (g : IVec S72000x1 32) : IVec S72000x1x1 32 :=
  shapeCast S72000x1x1 (select (cmpi .slt g (broadcastInDim S72000x1 ![] bcast_S_S72000x1 (constantI S_ 32 0#32))) (addi g (broadcastInDim S72000x1 ![] bcast_S_S72000x1 (constantI S_ 32 4#32))) g) shapeCasts_S72000x1_S72000x1x1
end pieces

/-- A score less the largest of its row. -/
theorem less_apply (z : FVec Ideal S72000x4 .f32) (r : Fin 72000) (s : Fin 4) :
    less z (ix2 r s) = z (ix2 r s) - top fun t => z (ix2 r t) := by
  unfold less
  clean_types
  pointwise
  exact congrArg (fun y : EReal => z (ix2 r s) - y) (max_eq_right (Finset.le_fold_max _ |>.mpr (Or.inl le_rfl)))

/-- The sum of a row's four scores. -/
theorem tots_apply (z : FVec Ideal S72000x4 .f32) (r : Fin 72000) : tots z (ix2 r 0) = ∑ t : Fin 4, z (ix2 r t) := by
  pointwise [tots]

/-- A score divided by its row's sum. -/
theorem over_apply (z : FVec Ideal S72000x4 .f32) (r : Fin 72000) (s : Fin 4) :
    over z (ix2 r s) = Ideal.div (z (ix2 r s)) (∑ t : Fin 4, z (ix2 r t)) := by
  rw [← tots_apply]
  unfold over
  generalize tots z = y
  pointwise

/-- A score less the logarithm of the sum of its row's exponentials. -/
theorem sublog_apply (z : FVec Ideal S72000x4 .f32) (r : Fin 72000) (s : Fin 4) :
    sublog z (ix2 r s) = z (ix2 r s) - Ideal.log (∑ t : Fin 4, Ideal.exp (z (ix2 r t))) := by
  have e := tots_apply (Host.exp z) r
  unfold sublog
  generalize tots (Host.exp z) = y at e ⊢
  pointwise
  rw [e]
  pointwise

/-- The score picked at a row's class. -/
theorem taken_apply (k : IVec S72000x1x1 32) (z : FVec Ideal S72000x4 .f32) (r : Fin 72000) (c : Fin 4) (h : k (ix3 r 0 0) = BitVec.ofNat 32 c.val) :
    taken k z (ix2 r 0) = z (ix2 r c) := by
  have e := gatherS_apply z k r c h
  unfold taken
  generalize Host.gather gather_S72000x4_S72000x1x1_S72000x1_n_1_0_0_1_2_11 z k = y at e ⊢
  rw [← e]
  clean_types
  pointwise
  rw [Finset.univ_unique, Finset.fold_singleton]
  exact passed _ _ _ (inside _ c.val 3 h (by omega) (by decide))

/-- The negated mean of the picked scores. -/
theorem nll_apply (z : FVec Ideal S72000x1 .f32) :
    nll z (ix2 0 0) = -(Ideal.div (∑ r : Fin 72000, z (ix2 r 0)) (Ideal.ofBits .f32 0x478CA000#32)) := by
  pointwise [nll]
  have e : (∑ k0 : Fin 72000, ∑ k1 : Fin 1, z (ix2 k0 k1) : EReal) = ∑ r : Fin 72000, z (ix2 r 0) :=
    Finset.sum_congr rfl fun r _ => Fin.sum_univ_one _
  exact congrArg (fun y : EReal => -(Ideal.div y (Ideal.ofBits .f32 0x478CA000#32))) e

/-- The first loss as the negated mean over all entries. -/
theorem bce_apply (t y : FVec Ideal S8x270000 .f32) :
    bce t y (ix2 0 0) = -(Ideal.div (∑ b : Fin 8, ∑ r : Fin 270000, (t (ix2 b r) * clog (y (ix2 b r)) + (1 - t (ix2 b r)) * clog (1 - y (ix2 b r)))) (Ideal.ofBits .f32 0x4A03D600#32)) := by
  pointwise [bce]
  rfl

/-- The target at an entry: one where the allele is the known one, else zero. -/
theorem same_apply (M : IVec S8x30x9000 32) (G : IVec S8x9000 32) (b : Fin 8) (p : Fin 30) (q : Fin 9000) :
    (same M G : FVec Ideal S8x270000 .f32) (ix2 b (at2 p q)) = if M (ix3 b p q) = G (ix2 b q) then 1 else 0 := by
  unfold same
  clean_types
  pointwise
  have e1 : (⟨(at2 p q).val / 9000, by have := (at2 p q).isLt; omega⟩ : Fin 30) = p := Fin.ext (by show (p.val * 9000 + q.val) / 9000 = p.val; omega)
  have e2 : (⟨(at2 p q).val % 9000, by omega⟩ : Fin 9000) = q := Fin.ext (by show (p.val * 9000 + q.val) % 9000 = q.val; omega)
  rw [e1, e2, eq_bit]
  exact ubit _

/-- The index picked with is the known allele, when that is a class. -/
theorem klass_apply (G : IVec S8x9000 32) (b : Fin 8) (q : Fin 9000) (h : (G (ix2 b q)).toNat < 4) :
    klass (column G) (ix3 (at1 b q) 0 0) = G (ix2 b q) := by
  unfold klass column
  clean_types
  pointwise
  have e1 : (⟨(at1 b q).val / 9000, by have := (at1 b q).isLt; omega⟩ : Fin 8) = b := Fin.ext (by show (b.val * 9000 + q.val) / 9000 = b.val; omega)
  have e2 : (⟨(at1 b q).val % 9000, by omega⟩ : Fin 9000) = q := Fin.ext (by show (b.val * 9000 + q.val) % 9000 = q.val; omega)
  rw [e1, e2]
  have k : G (ix2 b q) = BitVec.ofNat 32 (G (ix2 b q)).toNat := by simp
  exact (wrap_small _ 4#32 _ k (by omega)).trans k.symm

/-- The reference's exponentials in the notation above. -/
theorem v121_eq : (res_main_v121 V : FVec Ideal S72000x4 .f32) = Host.exp (less (res_main_v114 V)) := rfl
/-- The reference's softmax in the notation above. -/
theorem v125_eq : (res_main_v125 V : FVec Ideal S72000x4 .f32) = over (res_main_v121 V) := rfl
/-- The reference's shifted scores in the notation above. -/
theorem call9_eq : (res_main_call9_v5 V : FVec Ideal S72000x4 .f32) = less (res_main_v125 V) := rfl
/-- The reference's targets in the notation above. -/
theorem v130_eq : (res_main_v130 V : FVec Ideal S8x270000 .f32) = (same (V (Proc.devRef .tc main_arg0)) (V (Proc.devRef .tc main_arg1)) : FVec Ideal S8x270000 .f32) := rfl
/-- The reference's class indices in the notation above. -/
theorem call10_eq : (res_main_call10_v5 V : IVec S72000x1x1 32) = klass (column (V (Proc.devRef .tc main_arg1))) := rfl

/-- A sum over the rows of a product, row by row. -/
theorem sum_rows {A B N : ℕ} (h : N = A * B) (f : Fin N → EReal) (g : Fin A → Fin B → EReal)
    (hg : ∀ a b (hb : a.val * B + b.val < N), f ⟨a.val * B + b.val, hb⟩ = g a b) : ∑ r, f r = ∑ a, ∑ b, g a b := by
  subst h
  rw [← (finProdFinEquiv (m := A) (n := B)).sum_comp, Fintype.sum_prod_type]
  refine Finset.sum_congr rfl fun a _ => Finset.sum_congr rfl fun b _ => ?_
  have hb : a.val * B + b.val < A * B := by
    have h1 := a.isLt; have h2 := b.isLt
    calc a.val * B + b.val < a.val * B + B := by omega
      _ = (a.val + 1) * B := by ring
      _ ≤ A * B := Nat.mul_le_mul_right _ h1
  rw [← hg a b hb]
  refine congrArg f (Fin.ext ?_)
  simp [finProdFinEquiv]; ring

/-- The number of all entries is not zero. -/
theorem n2160000 : Ideal.ofBits .f32 0x4A03D600#32 ≠ 0 := by
  have e : Ideal.ofBits .f32 0x4A03D600#32 = ((2160000 : ℕ) : EReal) := by
    rw [← EReal.coe_natCast]; simp [Ideal.ofBits, Ideal.ieee, -EReal.coe_mul]; norm_num
  rw [e, show (0 : EReal) = ((0 : ℕ) : EReal) by norm_cast]
  exact fun h => by rw [eq_iff] at h; omega
/-- The number of all columns is not zero. -/
theorem n72000 : Ideal.ofBits .f32 0x478CA000#32 ≠ 0 := by
  have e : Ideal.ofBits .f32 0x478CA000#32 = ((72000 : ℕ) : EReal) := by
    rw [← EReal.coe_natCast]; simp [Ideal.ofBits, Ideal.ieee, -EReal.coe_mul]; norm_num
  rw [e, show (0 : EReal) = ((0 : ℕ) : EReal) by norm_cast]
  exact fun h => by rw [eq_iff] at h; omega

/-- The sign of a quotient by a positive number. -/
theorem neg_div (x y : EReal) (h : y ≠ 0) : -(Ideal.div x y) = Ideal.div (0 - x) y := by
  unfold Ideal.div
  rw [if_neg h, if_neg h, zero_sub, EReal.neg_mul]

/-- An entry's part of the first loss, as the reference spells it. -/
theorem part1_of (x g : BitVec 32) (t y : EReal) (ht : t = if x = g then 1 else 0) :
    t * clog y + (1 - t) * clog (1 - y) = part1 x g y := by
  have z : (1 : EReal) - 1 = 0 := by simpa using sub_nat (a := 1) (b := 1) le_rfl
  unfold part1
  by_cases h : x = g
  · rw [ht, if_pos h, if_pos h, one_mul, z, zero_mul, add_zero]
  · rw [ht, if_neg h, if_neg h, zero_mul, sub_zero, one_mul, zero_add]

/-- A column's part of the second loss is one softened score. -/
theorem part2_at (g : BitVec 32) (z : Fin 4 → EReal) (h : g.toNat < 4) : part2 g z = lsoft (soft z) ⟨g.toNat, h⟩ := by
  unfold part2
  rw [Finset.sum_eq_single (⟨g.toNat, h⟩ : Fin 4)]
  · exact if_pos (by simp)
  · intro s _ hs
    refine if_neg fun e => hs (Fin.ext ?_)
    have h1 := congrArg BitVec.toNat e
    rw [BitVec.toNat_ofNat, Nat.mod_eq_of_lt (by omega)] at h1
    exact h1
  · intro e; exact absurd (Finset.mem_univ _) e

/-- The first result. -/
theorem cor_apply : bce (res_main_v130 V) (res_main_v73 V) (ix2 0 0)
    = Ideal.div (0 - ∑ b : Fin 8, loss1 (wts V) (cellsR V b) (known V b)) (Ideal.ofBits .f32 0x4A03D600#32) := by
  rw [bce_apply, neg_div _ _ n2160000]
  refine congrArg (fun y : EReal => Ideal.div (0 - y) (Ideal.ofBits .f32 0x4A03D600#32)) (Finset.sum_congr rfl fun b _ => ?_)
  refine (sum_rows (A := 30) (B := 9000) (by norm_num) _ _ fun p q hb => ?_).trans rfl
  have e : ((res_main_v130 V : FVec Ideal S8x270000 .f32) (ix2 b (at2 p q)) : EReal) = if cellsR V b p q = known V b q then (1 : EReal) else (0 : EReal) := by
    rw [v130_eq]; exact same_apply _ _ b p q
  refine (part1_of (cellsR V b p q) (known V b q) _ _ e).trans ?_
  exact congrArg (part1 (cellsR V b p q) (known V b q)) (v73_apply V b p q)

/-- The second network's scores, softened twice. -/
theorem scores_apply (r : Fin 72000) (s : Fin 4) :
    sublog (res_main_call9_v5 V) (ix2 r s) = lsoft (soft fun s => (res_main_v114 V : FVec Ideal S72000x4 .f32) (ix2 r s)) s := by
  have ex (z : FVec Ideal S72000x4 .f32) (t : Fin 4) : Host.exp z (ix2 r t) = Ideal.exp (z (ix2 r t)) := rfl
  rw [sublog_apply, call9_eq]
  simp only [less_apply, v125_eq, over_apply, v121_eq, ex]
  rfl

/-- The second result, when the known alleles are classes. -/
theorem refl_apply (hG : ∀ b q, (known V b q).toNat < 4) : nll (taken (res_main_call10_v5 V) (sublog (res_main_call9_v5 V))) (ix2 0 0)
    = Ideal.div (0 - ∑ b : Fin 8, loss2 (wts V) (cellsR V b) (known V b)) (Ideal.ofBits .f32 0x478CA000#32) := by
  rw [nll_apply, neg_div _ _ n72000]
  refine congrArg (fun y : EReal => Ideal.div (0 - y) (Ideal.ofBits .f32 0x478CA000#32)) ?_
  refine (sum_rows (A := 8) (B := 9000) (by norm_num) _ _ fun b q hb => ?_).trans rfl
  have hk : known V b q = BitVec.ofNat 32 (known V b q).toNat := by simp
  have e : (res_main_call10_v5 V : IVec S72000x1x1 32) (ix3 (at1 b q) 0 0) = BitVec.ofNat 32 (known V b q).toNat := by
    rw [call10_eq]; exact (klass_apply _ b q (hG b q)).trans hk
  refine (taken_apply _ _ (at1 b q) ⟨(known V b q).toNat, hG b q⟩ e).trans ?_
  rw [scores_apply]
  simp only [v114_apply]
  exact (part2_at _ _ (hG b q)).symm

end Cert.Proof.Ref

end
-- ==== Proof.Agree.lean ====
module
public import proofs.«01_k».proof.Defs
public import proofs.«01_k».proof.Proof.KTot
public import proofs.«01_k».proof.Proof.RLoss
public import Idealize.ShloMosaic.Lib.ReduceAll
@[expose] public section
set_option maxRecDepth 20000
noncomputable section

/-! The kernel's two totals are the reference's two results. -/

namespace Cert.Proof
open Idealize.ShloMosaic Idealize.ShloMosaic.TcCoe Idealize.SL.Sem Cert.Proof.Spec

/-- The precondition's side conditions. -/
theorem pre_facts : Cert.Pre_alleles.Facts where
  bcast_S_S8x30x9000 := by decide
  reducesTo_S8x30x9000_S_d0_1_2 := by decide
  h_S_ := by decide
  bcast_S_S8x9000 := by decide
  reducesTo_S8x9000_S_d0_1 := by decide

/-- A word between 0 and 3. -/
theorem small_of (z : BitVec 32) (h : IntOp.andi (IntOp.cmpi .sge z 0#32) (IntOp.cmpi .slt z 4#32) = 1#1) : z.toNat < 4 := by
  have e1 : IntOp.cmpi .sge z 0#32 = BitVec.ofBool (decide (0 ≤ z.toInt)) := rfl
  have e2 : IntOp.cmpi .slt z 4#32 = BitVec.ofBool (decide (z.toInt < 4)) := rfl
  rw [e1, e2] at h
  by_cases h1 : 0 ≤ z.toInt
  · by_cases h2 : z.toInt < 4
    · have h3 := BitVec.toInt_eq_toNat_cond z
      have h4 := z.isLt
      split at h3 <;> omega
    · rw [decide_eq_false h2] at h; revert h; cases decide (0 ≤ z.toInt) <;> exact fun h => absurd h (by decide)
  · rw [decide_eq_false h1] at h; revert h; cases decide (z.toInt < 4) <;> exact fun h => absurd h (by decide)

/-- A conjunction of bits. -/
theorem both_of (x y : BitVec 1) (h : IntOp.andi x y = 1#1) : x = 1#1 ∧ y = 1#1 := by
  revert h; revert y; revert x; decide

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- What the precondition says of the two integer arguments. -/
theorem range_of (hp : Cert.Pre_KernelIdeal_alleles (hPre_alleles := pre_facts) m) (c : Dev Cert.KernelIdeal.nD) :
    (∀ b, Tile.Classes (Tile.cellsK m c b)) ∧ ∀ b q, (Tile.knownK m c b q).toNat < 4 := by
  have s0 : Subsingleton Cert.Pre_alleles.S_.Idx := ⟨fun x y => funext fun a => a.elim0⟩
  have h := congrFun (hp c) (fun a => a.elim0)
  obtain ⟨h1, h2⟩ := both_of _ _ h
  constructor
  · intro b p q
    exact small_of _ (Host.reduce_andi_all _ _ _ _ _ h1 (ix3 b p q))
  · intro b q
    exact small_of _ (Host.reduce_andi_all _ _ _ _ _ h2 (ix2 b q))

/-- The arguments of the two programs are the same. -/
def SameArgs (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)

variable {m m'} {c : Dev Cert.KernelIdeal.nD}

/-- The alleles of a batch are the same on both sides. -/
theorem same_cells (h : SameArgs m m' c) (b : Fin 8) : Ref.cellsR (StableHlo.launchContents m' c) b = Tile.cellsK m c b := by
  obtain ⟨a0, a1, a2, a3, a4, a5, a6, a7, a8, a9, a10, a11, a12, a13, a14, a15, a16, a17⟩ := h
  exact funext fun p => funext fun q => congrFun a0 (ix3 b p q)

/-- The known alleles of a batch are the same on both sides. -/
theorem same_known (h : SameArgs m m' c) (b : Fin 8) : Ref.known (StableHlo.launchContents m' c) b = Tile.knownK m c b := by
  obtain ⟨a0, a1, a2, a3, a4, a5, a6, a7, a8, a9, a10, a11, a12, a13, a14, a15, a16, a17⟩ := h
  exact funext fun q => congrFun a1 (ix2 b q)

/-- The weights are the same on both sides. -/
theorem same_wts (h : SameArgs m m' c) : Ref.wts (StableHlo.launchContents m' c) = Tile.wtsK m c := by
  obtain ⟨a0, a1, a2, a3, a4, a5, a6, a7, a8, a9, a10, a11, a12, a13, a14, a15, a16, a17⟩ := h
  unfold Ref.wts Tile.wtsK
  exact (Wts.mk.injEq ..).mpr ⟨funext fun i => funext fun k => congrFun a2 (ix2 i ⟨k.val, by omega⟩), funext fun i => funext fun k => congrFun a2 (ix2 i ⟨4 + k.val, by omega⟩), funext fun i => congrFun a3 (ix1 i), funext fun i => funext fun k => congrFun a4 (ix2 i k), funext fun i => congrFun a5 (ix1 i), funext fun i => funext fun k => congrFun a6 (ix2 i k), funext fun i => congrFun a7 (ix1 i), funext fun i => funext fun k => congrFun a8 (ix2 i k), funext fun i => congrFun a9 (ix1 i), funext fun i => funext fun k => congrFun a10 (ix2 i k), funext fun i => congrFun a11 (ix1 i), funext fun i => funext fun k => congrFun a12 (ix2 i k), funext fun i => congrFun a13 (ix1 i), funext fun i => funext fun k => congrFun a14 (ix2 i k), funext fun i => congrFun a15 (ix1 i), funext fun i => funext fun k => congrFun a16 (ix2 i k), funext fun i => congrFun a17 (ix1 i)⟩

/-- Two arrays of one element are equal when the elements are. -/
theorem one_ext (x y : FVec Ideal Cert.ReferenceIdeal.S1x1 .f32) (h : x (ix2 0 0) = y (ix2 0 0)) : x = y := by
  funext i
  have e : i = ix2 (0 : Fin 1) (0 : Fin 1) := funext fun a => Fin.ext (by
    match a with
    | ⟨0, _⟩ => have h1 : (i 0).val < 1 := (i 0).isLt; show (i 0).val = 0; omega
    | ⟨1, _⟩ => have h1 : (i 1).val < 1 := (i 1).isLt; show (i 1).val = 0; omega)
  rw [e]; exact h

/-- The first result. -/
theorem same_cor (hp : Cert.Pre_KernelIdeal_alleles (hPre_alleles := pre_facts) m) (h : SameArgs m m' c) :
    Ref.bce (Cert.ReferenceIdeal.Value.res_main_v130 (StableHlo.launchContents m' c)) (Cert.ReferenceIdeal.Value.res_main_v73 (StableHlo.launchContents m' c)) = (Tile.wholeCor m c : FVec Ideal Cert.ReferenceIdeal.S1x1 .f32) := by
  refine one_ext _ _ ((Ref.cor_apply (StableHlo.launchContents m' c)).trans ?_)
  refine Eq.trans ?_ (Tile.wholeCor_apply m c (range_of m hp c).1).symm
  simp only [same_cells h, same_known h, same_wts h]

/-- The second result. -/
theorem same_refl (hp : Cert.Pre_KernelIdeal_alleles (hPre_alleles := pre_facts) m) (h : SameArgs m m' c) :
    Ref.nll (Ref.taken (Cert.ReferenceIdeal.Value.res_main_call10_v5 (StableHlo.launchContents m' c)) (Ref.sublog (Cert.ReferenceIdeal.Value.res_main_call9_v5 (StableHlo.launchContents m' c)))) = (Tile.wholeRef m c : FVec Ideal Cert.ReferenceIdeal.S1x1 .f32) := by
  refine one_ext _ _ ((Ref.refl_apply (StableHlo.launchContents m' c) ?_).trans ?_)
  · intro b q
    rw [same_known h]
    exact (range_of m hp c).2 b q
  · refine Eq.trans ?_ (Tile.wholeRef_apply m c (range_of m hp c).1).symm
    simp only [same_cells h, same_known h, same_wts h]

end

end Cert.Proof

end
-- ==== Proof.lean ====
/- The certificate: every program of the claim runs to its end with its arguments unchanged, and the kernel and the reference end with equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The reference runs to its end with its arguments unchanged; it declares no semaphore. -/
theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The same from memories the precondition admits. -/
theorem frame_reference_pre : @Cert.quiescent_ReferenceIdeal_pre_alleles _ pre_facts := fun m ρ _ => frame_reference m ρ trivial

/-- From memories agreeing on the arguments, the known and read alleles between 0 and 3, the kernel and the reference end with equal results. -/
theorem equal_results : @Cert.algebraic_KernelIdeal_ReferenceIdeal_pre_alleles _ _ pre_facts := fun m g m' g' hp hs =>
  ⟨fun c => Tile.wholeCor m c, fun c => Tile.wholeRef m c, Tile.run (F := Ideal) m g,
    (θ_run Cert.ReferenceIdeal.defs _ _).mono (fun _ h c => ⟨(h c).1.trans (same_cor hp (hs c)), (h c).2.1.trans (same_refl hp (hs c)), (h c).2.2⟩)
      (Cert.ReferenceIdeal.Value.run (F := Ideal) m' g')⟩

/-- Everything the certificate claims. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  frame_reference, frame_reference_pre, trivial, equal_results⟩

end Cert.Proof

end
